-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "score_scale" .f32 0x3C0293EE#32 ((((Real.sqrt 128)⁻¹ * (1 / 16)) * (Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_v227) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S7x2048x8x12 : Shape := ⟨4, ![7, 2048, 8, 12]⟩
abbrev S7x2048x8 : Shape := ⟨3, ![7, 2048, 8]⟩
abbrev S7x2048x8x128 : Shape := ⟨4, ![7, 2048, 8, 128]⟩
abbrev S7x2048x2x12 : Shape := ⟨4, ![7, 2048, 2, 12]⟩
abbrev S7x2048x2 : Shape := ⟨3, ![7, 2048, 2]⟩
abbrev S7x2048x2x128 : Shape := ⟨4, ![7, 2048, 2, 128]⟩
abbrev S_ : Shape := ⟨0, ![]⟩

class Facts : Prop where
  bcast_S_S7x2048x8x12 : S_.BroadcastsInDim S7x2048x8x12 (![] : Fin 0 → Fin S7x2048x8x12.rank)
  reducesTo_S7x2048x8x12_S_d0_1_2_3 : S7x2048x8x12.ReducesTo [0, 1, 2, 3] S_
  h_S_ : 0 < S_.numel
  bcast_S_S7x2048x8x128 : S_.BroadcastsInDim S7x2048x8x128 (![] : Fin 0 → Fin S7x2048x8x128.rank)
  reducesTo_S7x2048x8x128_S_d0_1_2_3 : S7x2048x8x128.ReducesTo [0, 1, 2, 3] S_
  bcast_S_S7x2048x2x12 : S_.BroadcastsInDim S7x2048x2x12 (![] : Fin 0 → Fin S7x2048x2x12.rank)
  reducesTo_S7x2048x2x12_S_d0_1_2_3 : S7x2048x2x12.ReducesTo [0, 1, 2, 3] S_
  bcast_S_S7x2048x2x128 : S_.BroadcastsInDim S7x2048x2x128 (![] : Fin 0 → Fin S7x2048x2x128.rank)
  reducesTo_S7x2048x2x128_S_d0_1_2_3 : S7x2048x2x128.ReducesTo [0, 1, 2, 3] S_
  bcast_S_S7x2048x8 : S_.BroadcastsInDim S7x2048x8 (![] : Fin 0 → Fin S7x2048x8.rank)
  reducesTo_S7x2048x8_S_d0_1_2 : S7x2048x8.ReducesTo [0, 1, 2] S_
  bcast_S_S7x2048x2 : S_.BroadcastsInDim S7x2048x2 (![] : Fin 0 → Fin S7x2048x2.rank)
  reducesTo_S7x2048x2_S_d0_1_2 : S7x2048x2.ReducesTo [0, 1, 2] S_

variable [Facts]

def fn_part4 {F : FTy → Type} [FloatOps F] (main_arg11 : FVec F S7x2048x2 .f32) (main_v66 : IVec S_ 1) : IVec S_ 1 :=
  let main_v67 : FVec F S7x2048x2 .f32 := Host.absf main_arg11
  let main_cst_27 : FVec F S_ .f32 := constant S_ .f32 0x7F800000#32
  let main_v68 : FVec F S7x2048x2 .f32 := broadcastInDim S7x2048x2 ![] bcast_S_S7x2048x2 main_cst_27
  let main_v69 : IVec S7x2048x2 1 := cmpf .olt main_v67 main_v68
  let main_c_28 : IVec S_ 1 := constantI S_ 1 1#1
  let main_v70 : IVec S_ 1 := (fun x v => Host.reduce IntOp.andi x v reducesTo_S7x2048x2_S_d0_1_2 h_S_) main_v69 main_c_28
  let main_v71 : IVec S_ 1 := andi main_v66 main_v70
  main_v71

def fn_part3 {F : FTy → Type} [FloatOps F] (main_arg5 : FVec F S7x2048x2 .f32) (main_arg7 : FVec F S7x2048x2 .f32) (main_arg9 : FVec F S7x2048x2 .f32) (main_arg11 : FVec F S7x2048x2 .f32) (main_v46 : IVec S_ 1) (main_v49 : IVec S7x2048x8 1) : IVec S_ 1 :=
  let main_c_20 : IVec S_ 1 := constantI S_ 1 1#1
  let main_v50 : IVec S_ 1 := (fun x v => Host.reduce IntOp.andi x v reducesTo_S7x2048x8_S_d0_1_2 h_S_) main_v49 main_c_20
  let main_v51 : IVec S_ 1 := andi main_v46 main_v50
  let main_v52 : FVec F S7x2048x2 .f32 := Host.absf main_arg5
  let main_cst_21 : FVec F S_ .f32 := constant S_ .f32 0x7F800000#32
  let main_v53 : FVec F S7x2048x2 .f32 := broadcastInDim S7x2048x2 ![] bcast_S_S7x2048x2 main_cst_21
  let main_v54 : IVec S7x2048x2 1 := cmpf .olt main_v52 main_v53
  let main_c_22 : IVec S_ 1 := constantI S_ 1 1#1
  let main_v55 : IVec S_ 1 := (fun x v => Host.reduce IntOp.andi x v reducesTo_S7x2048x2_S_d0_1_2 h_S_) main_v54 main_c_22
  let main_v56 : IVec S_ 1 := andi main_v51 main_v55
  let main_v57 : FVec F S7x2048x2 .f32 := Host.absf main_arg7
  let main_cst_23 : FVec F S_ .f32 := constant S_ .f32 0x7F800000#32
  let main_v58 : FVec F S7x2048x2 .f32 := broadcastInDim S7x2048x2 ![] bcast_S_S7x2048x2 main_cst_23
  let main_v59 : IVec S7x2048x2 1 := cmpf .olt main_v57 main_v58
  let main_c_24 : IVec S_ 1 := constantI S_ 1 1#1
  let main_v60 : IVec S_ 1 := (fun x v => Host.reduce IntOp.andi x v reducesTo_S7x2048x2_S_d0_1_2 h_S_) main_v59 main_c_24
  let main_v61 : IVec S_ 1 := andi main_v56 main_v60
  let main_v62 : FVec F S7x2048x2 .f32 := Host.absf main_arg9
  let main_cst_25 : FVec F S_ .f32 := constant S_ .f32 0x7F800000#32
  let main_v63 : FVec F S7x2048x2 .f32 := broadcastInDim S7x2048x2 ![] bcast_S_S7x2048x2 main_cst_25
  let main_v64 : IVec S7x2048x2 1 := cmpf .olt main_v62 main_v63
  let main_c_26 : IVec S_ 1 := constantI S_ 1 1#1
  let main_v65 : IVec S_ 1 := (fun x v => Host.reduce IntOp.andi x v reducesTo_S7x2048x2_S_d0_1_2 h_S_) main_v64 main_c_26
  let main_v66 : IVec S_ 1 := andi main_v61 main_v65
  fn_part4 (F := F) main_arg11 main_v66

def fn_part2 {F : FTy → Type} [FloatOps F] (main_arg1 : FVec F S7x2048x8 .f32) (main_arg3 : FVec F S7x2048x8 .f32) (main_arg5 : FVec F S7x2048x2 .f32) (main_arg7 : FVec F S7x2048x2 .f32) (main_arg9 : FVec F S7x2048x2 .f32) (main_arg10 : IVec S7x2048x2x128 8) (main_arg11 : FVec F S7x2048x2 .f32) (main_v27 : IVec S_ 1) (main_v32 : IVec S7x2048x2x12 1) : IVec S_ 1 :=
  let main_c_14 : IVec S_ 1 := constantI S_ 1 1#1
  let main_v33 : IVec S_ 1 := (fun x v => Host.reduce IntOp.andi x v reducesTo_S7x2048x2x12_S_d0_1_2_3 h_S_) main_v32 main_c_14
  let main_v34 : IVec S_ 1 := andi main_v27 main_v33
  let main_c_15 : IVec S_ 8 := constantI S_ 8 127#8
  let main_v35 : IVec S7x2048x2x128 8 := broadcastInDim S7x2048x2x128 ![] bcast_S_S7x2048x2x128 main_c_15
  let main_v36 : IVec S7x2048x2x128 1 := cmpi .ne main_arg10 main_v35
  let main_c_16 : IVec S_ 8 := constantI S_ 8 255#8
  let main_v37 : IVec S7x2048x2x128 8 := broadcastInDim S7x2048x2x128 ![] bcast_S_S7x2048x2x128 main_c_16
  let main_v38 : IVec S7x2048x2x128 1 := cmpi .ne main_arg10 main_v37
  let main_v39 : IVec S7x2048x2x128 1 := andi main_v36 main_v38
  let main_c_17 : IVec S_ 1 := constantI S_ 1 1#1
  let main_v40 : IVec S_ 1 := (fun x v => Host.reduce IntOp.andi x v reducesTo_S7x2048x2x128_S_d0_1_2_3 h_S_) main_v39 main_c_17
  let main_v41 : IVec S_ 1 := andi main_v34 main_v40
  let main_v42 : FVec F S7x2048x8 .f32 := Host.absf main_arg1
  let main_cst : FVec F S_ .f32 := constant S_ .f32 0x7F800000#32
  let main_v43 : FVec F S7x2048x8 .f32 := broadcastInDim S7x2048x8 ![] bcast_S_S7x2048x8 main_cst
  let main_v44 : IVec S7x2048x8 1 := cmpf .olt main_v42 main_v43
  let main_c_18 : IVec S_ 1 := constantI S_ 1 1#1
  let main_v45 : IVec S_ 1 := (fun x v => Host.reduce IntOp.andi x v reducesTo_S7x2048x8_S_d0_1_2 h_S_) main_v44 main_c_18
  let main_v46 : IVec S_ 1 := andi main_v41 main_v45
  let main_v47 : FVec F S7x2048x8 .f32 := Host.absf main_arg3
  let main_cst_19 : FVec F S_ .f32 := constant S_ .f32 0x7F800000#32
  let main_v48 : FVec F S7x2048x8 .f32 := broadcastInDim S7x2048x8 ![] bcast_S_S7x2048x8 main_cst_19
  let main_v49 : IVec S7x2048x8 1 := cmpf .olt main_v47 main_v48
  fn_part3 (F := F) main_arg5 main_arg7 main_arg9 main_arg11 main_v46 main_v49

def fn_part1 {F : FTy → Type} [FloatOps F] (main_arg1 : FVec F S7x2048x8 .f32) (main_arg3 : FVec F S7x2048x8 .f32) (main_arg4 : IVec S7x2048x2x12 8) (main_arg5 : FVec F S7x2048x2 .f32) (main_arg6 : IVec S7x2048x2x128 8) (main_arg7 : FVec F S7x2048x2 .f32) (main_arg8 : IVec S7x2048x2x12 8) (main_arg9 : FVec F S7x2048x2 .f32) (main_arg10 : IVec S7x2048x2x128 8) (main_arg11 : FVec F S7x2048x2 .f32) (main_v13 : IVec S_ 1) (main_v15 : IVec S7x2048x2x12 1) : IVec S_ 1 :=
  let main_c_7 : IVec S_ 8 := constantI S_ 8 255#8
  let main_v16 : IVec S7x2048x2x12 8 := broadcastInDim S7x2048x2x12 ![] bcast_S_S7x2048x2x12 main_c_7
  let main_v17 : IVec S7x2048x2x12 1 := cmpi .ne main_arg4 main_v16
  let main_v18 : IVec S7x2048x2x12 1 := andi main_v15 main_v17
  let main_c_8 : IVec S_ 1 := constantI S_ 1 1#1
  let main_v19 : IVec S_ 1 := (fun x v => Host.reduce IntOp.andi x v reducesTo_S7x2048x2x12_S_d0_1_2_3 h_S_) main_v18 main_c_8
  let main_v20 : IVec S_ 1 := andi main_v13 main_v19
  let main_c_9 : IVec S_ 8 := constantI S_ 8 127#8
  let main_v21 : IVec S7x2048x2x128 8 := broadcastInDim S7x2048x2x128 ![] bcast_S_S7x2048x2x128 main_c_9
  let main_v22 : IVec S7x2048x2x128 1 := cmpi .ne main_arg6 main_v21
  let main_c_10 : IVec S_ 8 := constantI S_ 8 255#8
  let main_v23 : IVec S7x2048x2x128 8 := broadcastInDim S7x2048x2x128 ![] bcast_S_S7x2048x2x128 main_c_10
  let main_v24 : IVec S7x2048x2x128 1 := cmpi .ne main_arg6 main_v23
  let main_v25 : IVec S7x2048x2x128 1 := andi main_v22 main_v24
  let main_c_11 : IVec S_ 1 := constantI S_ 1 1#1
  let main_v26 : IVec S_ 1 := (fun x v => Host.reduce IntOp.andi x v reducesTo_S7x2048x2x128_S_d0_1_2_3 h_S_) main_v25 main_c_11
  let main_v27 : IVec S_ 1 := andi main_v20 main_v26
  let main_c_12 : IVec S_ 8 := constantI S_ 8 127#8
  let main_v28 : IVec S7x2048x2x12 8 := broadcastInDim S7x2048x2x12 ![] bcast_S_S7x2048x2x12 main_c_12
  let main_v29 : IVec S7x2048x2x12 1 := cmpi .ne main_arg8 main_v28
  let main_c_13 : IVec S_ 8 := constantI S_ 8 255#8
  let main_v30 : IVec S7x2048x2x12 8 := broadcastInDim S7x2048x2x12 ![] bcast_S_S7x2048x2x12 main_c_13
  let main_v31 : IVec S7x2048x2x12 1 := cmpi .ne main_arg8 main_v30
  let main_v32 : IVec S7x2048x2x12 1 := andi main_v29 main_v31
  fn_part2 (F := F) main_arg1 main_arg3 main_arg5 main_arg7 main_arg9 main_arg10 main_arg11 main_v27 main_v32

def fn {F : FTy → Type} [FloatOps F] (main_arg0 : IVec S7x2048x8x12 8) (main_arg1 : FVec F S7x2048x8 .f32) (main_arg2 : IVec S7x2048x8x128 8) (main_arg3 : FVec F S7x2048x8 .f32) (main_arg4 : IVec S7x2048x2x12 8) (main_arg5 : FVec F S7x2048x2 .f32) (main_arg6 : IVec S7x2048x2x128 8) (main_arg7 : FVec F S7x2048x2 .f32) (main_arg8 : IVec S7x2048x2x12 8) (main_arg9 : FVec F S7x2048x2 .f32) (main_arg10 : IVec S7x2048x2x128 8) (main_arg11 : FVec F S7x2048x2 .f32) : IVec S_ 1 :=
  let main_c : IVec S_ 8 := constantI S_ 8 127#8
  let main_v0 : IVec S7x2048x8x12 8 := broadcastInDim S7x2048x8x12 ![] bcast_S_S7x2048x8x12 main_c
  let main_v1 : IVec S7x2048x8x12 1 := cmpi .ne main_arg0 main_v0
  let main_c_0 : IVec S_ 8 := constantI S_ 8 255#8
  let main_v2 : IVec S7x2048x8x12 8 := broadcastInDim S7x2048x8x12 ![] bcast_S_S7x2048x8x12 main_c_0
  let main_v3 : IVec S7x2048x8x12 1 := cmpi .ne main_arg0 main_v2
  let main_v4 : IVec S7x2048x8x12 1 := andi main_v1 main_v3
  let main_c_1 : IVec S_ 1 := constantI S_ 1 1#1
  let main_v5 : IVec S_ 1 := (fun x v => Host.reduce IntOp.andi x v reducesTo_S7x2048x8x12_S_d0_1_2_3 h_S_) main_v4 main_c_1
  let main_c_2 : IVec S_ 1 := constantI S_ 1 1#1
  let main_v6 : IVec S_ 1 := andi main_c_2 main_v5
  let main_c_3 : IVec S_ 8 := constantI S_ 8 127#8
  let main_v7 : IVec S7x2048x8x128 8 := broadcastInDim S7x2048x8x128 ![] bcast_S_S7x2048x8x128 main_c_3
  let main_v8 : IVec S7x2048x8x128 1 := cmpi .ne main_arg2 main_v7
  let main_c_4 : IVec S_ 8 := constantI S_ 8 255#8
  let main_v9 : IVec S7x2048x8x128 8 := broadcastInDim S7x2048x8x128 ![] bcast_S_S7x2048x8x128 main_c_4
  let main_v10 : IVec S7x2048x8x128 1 := cmpi .ne main_arg2 main_v9
  let main_v11 : IVec S7x2048x8x128 1 := andi main_v8 main_v10
  let main_c_5 : IVec S_ 1 := constantI S_ 1 1#1
  let main_v12 : IVec S_ 1 := (fun x v => Host.reduce IntOp.andi x v reducesTo_S7x2048x8x128_S_d0_1_2_3 h_S_) main_v11 main_c_5
  let main_v13 : IVec S_ 1 := andi main_v6 main_v12
  let main_c_6 : IVec S_ 8 := constantI S_ 8 127#8
  let main_v14 : IVec S7x2048x2x12 8 := broadcastInDim S7x2048x2x12 ![] bcast_S_S7x2048x2x12 main_c_6
  let main_v15 : IVec S7x2048x2x12 1 := cmpi .ne main_arg4 main_v14
  fn_part1 (F := F) main_arg1 main_arg3 main_arg4 main_arg5 main_arg6 main_arg7 main_arg8 main_arg9 main_arg10 main_arg11 main_v13 main_v15
-- ==== Kernel.lean ====
abbrev S7x2048x8x12 : Shape := ⟨4, ![7, 2048, 8, 12]⟩
abbrev S7x2048x8 : Shape := ⟨3, ![7, 2048, 8]⟩
abbrev S7x2048x8x128 : Shape := ⟨4, ![7, 2048, 8, 128]⟩
abbrev S7x2048x2x12 : Shape := ⟨4, ![7, 2048, 2, 12]⟩
abbrev S7x2048x2 : Shape := ⟨3, ![7, 2048, 2]⟩
abbrev S7x2048x2x128 : Shape := ⟨4, ![7, 2048, 2, 128]⟩
abbrev S7x12x2048x8 : Shape := ⟨4, ![7, 12, 2048, 8]⟩
abbrev S7x12x16384 : Shape := ⟨3, ![7, 12, 16384]⟩
abbrev S7x1x16384 : Shape := ⟨3, ![7, 1, 16384]⟩
abbrev S7x2x12x2048 : Shape := ⟨4, ![7, 2, 12, 2048]⟩
abbrev S7x2x2048 : Shape := ⟨3, ![7, 2, 2048]⟩
abbrev S7x16384x128 : Shape := ⟨3, ![7, 16384, 128]⟩
abbrev S7x2048x256 : Shape := ⟨3, ![7, 2048, 256]⟩
abbrev S7x2048x1536 : Shape := ⟨3, ![7, 2048, 1536]⟩
abbrev S7x12x2048 : Shape := ⟨3, ![7, 12, 2048]⟩
abbrev S1x12x1024 : Shape := ⟨3, ![1, 12, 1024]⟩
abbrev S1x1x1024 : Shape := ⟨3, ![1, 1, 1024]⟩
abbrev S1x2x12x2048 : Shape := ⟨4, ![1, 2, 12, 2048]⟩
abbrev S1x2x2048 : Shape := ⟨3, ![1, 2, 2048]⟩
abbrev S1x1024x128 : Shape := ⟨3, ![1, 1024, 128]⟩
abbrev S1x2048x256 : Shape := ⟨3, ![1, 2048, 256]⟩
abbrev S1x128x1536 : Shape := ⟨3, ![1, 128, 1536]⟩
abbrev S1x12x128 : Shape := ⟨3, ![1, 12, 128]⟩
abbrev S8x192x256 : Shape := ⟨3, ![8, 192, 256]⟩
abbrev S12x128x2048 : Shape := ⟨3, ![12, 128, 2048]⟩
abbrev S12x128x128 : Shape := ⟨3, ![12, 128, 128]⟩
abbrev S16x128 : Shape := ⟨2, ![16, 128]⟩
abbrev S12x128 : Shape := ⟨2, ![12, 128]⟩
abbrev S1x1x128 : Shape := ⟨3, ![1, 1, 128]⟩
abbrev S1x128 : Shape := ⟨2, ![1, 128]⟩
abbrev S1x16x128 : Shape := ⟨3, ![1, 16, 128]⟩
abbrev S1x1x12x256 : Shape := ⟨4, ![1, 1, 12, 256]⟩
abbrev S12x256 : Shape := ⟨2, ![12, 256]⟩
abbrev S1x1x256 : Shape := ⟨3, ![1, 1, 256]⟩
abbrev S1x256 : Shape := ⟨2, ![1, 256]⟩
abbrev S1x128x128 : Shape := ⟨3, ![1, 128, 128]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S256x256 : Shape := ⟨2, ![256, 256]⟩
abbrev S1x192x256 : Shape := ⟨3, ![1, 192, 256]⟩
abbrev S192x256 : Shape := ⟨2, ![192, 256]⟩
abbrev S16x256 : Shape := ⟨2, ![16, 256]⟩
abbrev S1x16x256 : Shape := ⟨3, ![1, 16, 256]⟩
abbrev S128 : Shape := ⟨1, ![128]⟩
abbrev S128x1 : Shape := ⟨2, ![128, 1]⟩

abbrev nBuf : Space → Nat
  | .hbm => 33
  | .vmem => 27
  | .smem => 0
  | _ => 0

abbrev bufTy : (tb : Table) → Fin (tcTables nBuf tb) → BufTy
  | .hbm, ⟨0, _⟩ => ⟨S7x2048x8x12, .i8⟩
  | .hbm, ⟨1, _⟩ => ⟨S7x2048x8, .f32⟩
  | .hbm, ⟨2, _⟩ => ⟨S7x2048x8x128, .i8⟩
  | .hbm, ⟨3, _⟩ => ⟨S7x2048x8, .f32⟩
  | .hbm, ⟨4, _⟩ => ⟨S7x2048x2x12, .i8⟩
  | .hbm, ⟨5, _⟩ => ⟨S7x2048x2, .f32⟩
  | .hbm, ⟨6, _⟩ => ⟨S7x2048x2x128, .i8⟩
  | .hbm, ⟨7, _⟩ => ⟨S7x2048x2, .f32⟩
  | .hbm, ⟨8, _⟩ => ⟨S7x2048x2x12, .i8⟩
  | .hbm, ⟨9, _⟩ => ⟨S7x2048x2, .f32⟩
  | .hbm, ⟨10, _⟩ => ⟨S7x2048x2x128, .i8⟩
  | .hbm, ⟨11, _⟩ => ⟨S7x2048x2, .f32⟩
  | .hbm, ⟨12, _⟩ => ⟨S7x2048x8x12, .fp8e4m3⟩
  | .hbm, ⟨13, _⟩ => ⟨S7x2048x8x128, .fp8e4m3⟩
  | .hbm, ⟨14, _⟩ => ⟨S7x2048x2x12, .fp8e4m3⟩
  | .hbm, ⟨15, _⟩ => ⟨S7x2048x2x128, .fp8e4m3⟩
  | .hbm, ⟨16, _⟩ => ⟨S7x2048x2x12, .fp8e4m3⟩
  | .hbm, ⟨17, _⟩ => ⟨S7x2048x2x128, .fp8e4m3⟩
  | .hbm, ⟨18, _⟩ => ⟨S7x12x2048x8, .fp8e4m3⟩
  | .hbm, ⟨19, _⟩ => ⟨S7x12x16384, .fp8e4m3⟩
  | .hbm, ⟨20, _⟩ => ⟨S7x2048x8, .f32⟩
  | .hbm, ⟨21, _⟩ => ⟨S7x1x16384, .f32⟩
  | .hbm, ⟨22, _⟩ => ⟨S7x2x12x2048, .fp8e4m3⟩
  | .hbm, ⟨23, _⟩ => ⟨S7x2048x2, .f32⟩
  | .hbm, ⟨24, _⟩ => ⟨S7x2x2048, .f32⟩
  | .hbm, ⟨25, _⟩ => ⟨S7x2x12x2048, .fp8e4m3⟩
  | .hbm, ⟨26, _⟩ => ⟨S7x2048x2, .f32⟩
  | .hbm, ⟨27, _⟩ => ⟨S7x2x2048, .f32⟩
  | .hbm, ⟨28, _⟩ => ⟨S7x16384x128, .fp8e4m3⟩
  | .hbm, ⟨29, _⟩ => ⟨S7x2048x256, .fp8e4m3⟩
  | .hbm, ⟨30, _⟩ => ⟨S7x2048x256, .fp8e4m3⟩
  | .hbm, ⟨31, _⟩ => ⟨S7x2048x1536, .bf16⟩
  | .hbm, ⟨32, _⟩ => ⟨S7x12x2048, .f32⟩
  | .local _ .vmem, ⟨0, _⟩ => ⟨S1x12x1024, .fp8e4m3⟩
  | .local _ .vmem, ⟨1, _⟩ => ⟨S1x12x1024, .fp8e4m3⟩
  | .local _ .vmem, ⟨2, _⟩ => ⟨S1x1x1024, .f32⟩
  | .local _ .vmem, ⟨3, _⟩ => ⟨S1x1x1024, .f32⟩
  | .local _ .vmem, ⟨4, _⟩ => ⟨S1x2x12x2048, .fp8e4m3⟩
  | .local _ .vmem, ⟨5, _⟩ => ⟨S1x2x12x2048, .fp8e4m3⟩
  | .local _ .vmem, ⟨6, _⟩ => ⟨S1x2x2048, .f32⟩
  | .local _ .vmem, ⟨7, _⟩ => ⟨S1x2x2048, .f32⟩
  | .local _ .vmem, ⟨8, _⟩ => ⟨S1x2x12x2048, .fp8e4m3⟩
  | .local _ .vmem, ⟨9, _⟩ => ⟨S1x2x12x2048, .fp8e4m3⟩
  | .local _ .vmem, ⟨10, _⟩ => ⟨S1x2x2048, .f32⟩
  | .local _ .vmem, ⟨11, _⟩ => ⟨S1x2x2048, .f32⟩
  | .local _ .vmem, ⟨12, _⟩ => ⟨S1x1024x128, .fp8e4m3⟩
  | .local _ .vmem, ⟨13, _⟩ => ⟨S1x1024x128, .fp8e4m3⟩
  | .local _ .vmem, ⟨14, _⟩ => ⟨S1x2048x256, .fp8e4m3⟩
  | .local _ .vmem, ⟨15, _⟩ => ⟨S1x2048x256, .fp8e4m3⟩
  | .local _ .vmem, ⟨16, _⟩ => ⟨S1x2048x256, .fp8e4m3⟩
  | .local _ .vmem, ⟨17, _⟩ => ⟨S1x2048x256, .fp8e4m3⟩
  | .local _ .vmem, ⟨18, _⟩ => ⟨S1x128x1536, .bf16⟩
  | .local _ .vmem, ⟨19, _⟩ => ⟨S1x128x1536, .bf16⟩
  | .local _ .vmem, ⟨20, _⟩ => ⟨S1x12x128, .f32⟩
  | .local _ .vmem, ⟨21, _⟩ => ⟨S1x12x128, .f32⟩
  | .local _ .vmem, ⟨22, _⟩ => ⟨S8x192x256, .bf16⟩
  | .local _ .vmem, ⟨23, _⟩ => ⟨S12x128x2048, .f32⟩
  | .local _ .vmem, ⟨24, _⟩ => ⟨S12x128x128, .f32⟩
  | .local _ .vmem, ⟨25, _⟩ => ⟨S12x128x128, .f32⟩
  | .local _ .vmem, ⟨26, _⟩ => ⟨S12x128x128, .f32⟩
  | _, _ => ⟨S7x2048x8x12, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![7, 16], ![false, false]⟩

@[reducible] def k0_t1_loop (i : grid0.Coords) : Scf.Loop 32 :=
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_715 : BitVec 32 := 1#32
  ⟨c0_i32_713, v1265, c1_i32_715⟩
def k0_mult1 (i : grid0.Coords) (k0_t1 : Fin (k0_t1_loop i).trips) : BitVec 32 :=
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  v4267
def k0_off1 (i : grid0.Coords) (k0_t1 : Fin (k0_t1_loop i).trips) : Fin 4 → Nat :=
  let c0_2005 : Index := 0#32
  let c0_2006 : Index := 0#32
  let c0_2007 : Index := 0#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4269 : Index := Scalar.indexCast v4268
  ![0, 0, 0, v4269.toNat]
def k0_off2 (i : grid0.Coords) (k0_t1 : Fin (k0_t1_loop i).trips) : Fin 3 → Nat :=
  let c0_2008 : Index := 0#32
  let c0_2009 : Index := 0#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4273 : Index := Scalar.indexCast v4268
  ![0, 0, v4273.toNat]
def k0_off3 (i : grid0.Coords) (k0_t1 : Fin (k0_t1_loop i).trips) : Fin 4 → Nat :=
  let c0_2011 : Index := 0#32
  let c1_2012 : Index := 1#32
  let c0_2013 : Index := 0#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4280 : Index := Scalar.indexCast v4268
  ![0, 1, 0, v4280.toNat]
def k0_off4 (i : grid0.Coords) (k0_t1 : Fin (k0_t1_loop i).trips) : Fin 3 → Nat :=
  let c0_2014 : Index := 0#32
  let c1_2015 : Index := 1#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4284 : Index := Scalar.indexCast v4268
  ![0, 1, v4284.toNat]
def k0_off5 (i : grid0.Coords) (k0_t1 : Fin (k0_t1_loop i).trips) : Fin 3 → Nat :=
  let c0_2020 : Index := 0#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4293 : Index := Scalar.indexCast v4268
  let c0_2021 : Index := 0#32
  ![0, v4293.toNat, 0]
def k0_off6 (i : grid0.Coords) (k0_t1 : Fin (k0_t1_loop i).trips) : Fin 3 → Nat :=
  let c0_2027 : Index := 0#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4305 : Index := Scalar.indexCast v4268
  let c128_2028 : Index := 128#32
  ![0, v4305.toNat, 128]
def k0_off7 (i : grid0.Coords) (k0_t1 : Fin (k0_t1_loop i).trips) : Fin 3 → Nat :=
  let c0_2034 : Index := 0#32
  let c0_2035 : Index := 0#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4326 : Index := Scalar.indexCast v4268
  ![0, 0, v4326.toNat]
def k0_off8 (i : grid0.Coords) (k0_t1 : Fin (k0_t1_loop i).trips) : Fin 3 → Nat :=
  let c1_2042 : Index := 1#32
  let c0_2043 : Index := 0#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4348 : Index := Scalar.indexCast v4268
  ![1, 0, v4348.toNat]
def k0_off9 (i : grid0.Coords) (k0_t1 : Fin (k0_t1_loop i).trips) : Fin 3 → Nat :=
  let c2_2050 : Index := 2#32
  let c0_2051 : Index := 0#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4370 : Index := Scalar.indexCast v4268
  ![2, 0, v4370.toNat]
def k0_off10 (i : grid0.Coords) (k0_t1 : Fin (k0_t1_loop i).trips) : Fin 3 → Nat :=
  let c3_2058 : Index := 3#32
  let c0_2059 : Index := 0#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4392 : Index := Scalar.indexCast v4268
  ![3, 0, v4392.toNat]
def k0_off11 (i : grid0.Coords) (k0_t1 : Fin (k0_t1_loop i).trips) : Fin 3 → Nat :=
  let c4_2066 : Index := 4#32
  let c0_2067 : Index := 0#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4414 : Index := Scalar.indexCast v4268
  ![4, 0, v4414.toNat]
def k0_off12 (i : grid0.Coords) (k0_t1 : Fin (k0_t1_loop i).trips) : Fin 3 → Nat :=
  let c5_2074 : Index := 5#32
  let c0_2075 : Index := 0#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4436 : Index := Scalar.indexCast v4268
  ![5, 0, v4436.toNat]
def k0_off13 (i : grid0.Coords) (k0_t1 : Fin (k0_t1_loop i).trips) : Fin 3 → Nat :=
  let c6_2082 : Index := 6#32
  let c0_2083 : Index := 0#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4458 : Index := Scalar.indexCast v4268
  ![6, 0, v4458.toNat]
def k0_off14 (i : grid0.Coords) (k0_t1 : Fin (k0_t1_loop i).trips) : Fin 3 → Nat :=
  let c7_2090 : Index := 7#32
  let c0_2091 : Index := 0#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4480 : Index := Scalar.indexCast v4268
  ![7, 0, v4480.toNat]
def k0_off15 (i : grid0.Coords) (k0_t1 : Fin (k0_t1_loop i).trips) : Fin 3 → Nat :=
  let c8_2098 : Index := 8#32
  let c0_2099 : Index := 0#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4502 : Index := Scalar.indexCast v4268
  ![8, 0, v4502.toNat]
def k0_off16 (i : grid0.Coords) (k0_t1 : Fin (k0_t1_loop i).trips) : Fin 3 → Nat :=
  let c9_2106 : Index := 9#32
  let c0_2107 : Index := 0#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4524 : Index := Scalar.indexCast v4268
  ![9, 0, v4524.toNat]
def k0_off17 (i : grid0.Coords) (k0_t1 : Fin (k0_t1_loop i).trips) : Fin 3 → Nat :=
  let c10_2114 : Index := 10#32
  let c0_2115 : Index := 0#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4546 : Index := Scalar.indexCast v4268
  ![10, 0, v4546.toNat]
def k0_off18 (i : grid0.Coords) (k0_t1 : Fin (k0_t1_loop i).trips) : Fin 3 → Nat :=
  let c11_2122 : Index := 11#32
  let c0_2123 : Index := 0#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4568 : Index := Scalar.indexCast v4268
  ![11, 0, v4568.toNat]
def k0_off19 (i : grid0.Coords) (k0_t1 : Fin (k0_t1_loop i).trips) : Fin 3 → Nat :=
  let c0_2147 : Index := 0#32
  let c16_2148 : Index := 16#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4616 : Index := Scalar.indexCast v4268
  ![0, 16, v4616.toNat]
def k0_off20 (i : grid0.Coords) (k0_t1 : Fin (k0_t1_loop i).trips) : Fin 3 → Nat :=
  let c1_2155 : Index := 1#32
  let c16_2156 : Index := 16#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4638 : Index := Scalar.indexCast v4268
  ![1, 16, v4638.toNat]
def k0_off21 (i : grid0.Coords) (k0_t1 : Fin (k0_t1_loop i).trips) : Fin 3 → Nat :=
  let c2_2163 : Index := 2#32
  let c16_2164 : Index := 16#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4660 : Index := Scalar.indexCast v4268
  ![2, 16, v4660.toNat]
def k0_off22 (i : grid0.Coords) (k0_t1 : Fin (k0_t1_loop i).trips) : Fin 3 → Nat :=
  let c3_2171 : Index := 3#32
  let c16_2172 : Index := 16#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4682 : Index := Scalar.indexCast v4268
  ![3, 16, v4682.toNat]
def k0_off23 (i : grid0.Coords) (k0_t1 : Fin (k0_t1_loop i).trips) : Fin 3 → Nat :=
  let c4_2179 : Index := 4#32
  let c16_2180 : Index := 16#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4704 : Index := Scalar.indexCast v4268
  ![4, 16, v4704.toNat]
def k0_off24 (i : grid0.Coords) (k0_t1 : Fin (k0_t1_loop i).trips) : Fin 3 → Nat :=
  let c5_2187 : Index := 5#32
  let c16_2188 : Index := 16#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4726 : Index := Scalar.indexCast v4268
  ![5, 16, v4726.toNat]
def k0_off25 (i : grid0.Coords) (k0_t1 : Fin (k0_t1_loop i).trips) : Fin 3 → Nat :=
  let c6_2195 : Index := 6#32
  let c16_2196 : Index := 16#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4748 : Index := Scalar.indexCast v4268
  ![6, 16, v4748.toNat]
def k0_off26 (i : grid0.Coords) (k0_t1 : Fin (k0_t1_loop i).trips) : Fin 3 → Nat :=
  let c7_2203 : Index := 7#32
  let c16_2204 : Index := 16#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4770 : Index := Scalar.indexCast v4268
  ![7, 16, v4770.toNat]
def k0_off27 (i : grid0.Coords) (k0_t1 : Fin (k0_t1_loop i).trips) : Fin 3 → Nat :=
  let c8_2211 : Index := 8#32
  let c16_2212 : Index := 16#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4792 : Index := Scalar.indexCast v4268
  ![8, 16, v4792.toNat]
def k0_off28 (i : grid0.Coords) (k0_t1 : Fin (k0_t1_loop i).trips) : Fin 3 → Nat :=
  let c9_2219 : Index := 9#32
  let c16_2220 : Index := 16#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4814 : Index := Scalar.indexCast v4268
  ![9, 16, v4814.toNat]
def k0_off29 (i : grid0.Coords) (k0_t1 : Fin (k0_t1_loop i).trips) : Fin 3 → Nat :=
  let c10_2227 : Index := 10#32
  let c16_2228 : Index := 16#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4836 : Index := Scalar.indexCast v4268
  ![10, 16, v4836.toNat]
def k0_off30 (i : grid0.Coords) (k0_t1 : Fin (k0_t1_loop i).trips) : Fin 3 → Nat :=
  let c11_2235 : Index := 11#32
  let c16_2236 : Index := 16#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4858 : Index := Scalar.indexCast v4268
  ![11, 16, v4858.toNat]
def k0_off31 (i : grid0.Coords) (k0_t1 : Fin (k0_t1_loop i).trips) : Fin 3 → Nat :=
  let c0_2260 : Index := 0#32
  let c32_2261 : Index := 32#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4906 : Index := Scalar.indexCast v4268
  ![0, 32, v4906.toNat]
def k0_off32 (i : grid0.Coords) (k0_t1 : Fin (k0_t1_loop i).trips) : Fin 3 → Nat :=
  let c1_2268 : Index := 1#32
  let c32_2269 : Index := 32#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4928 : Index := Scalar.indexCast v4268
  ![1, 32, v4928.toNat]
def k0_off33 (i : grid0.Coords) (k0_t1 : Fin (k0_t1_loop i).trips) : Fin 3 → Nat :=
  let c2_2276 : Index := 2#32
  let c32_2277 : Index := 32#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4950 : Index := Scalar.indexCast v4268
  ![2, 32, v4950.toNat]
def k0_off34 (i : grid0.Coords) (k0_t1 : Fin (k0_t1_loop i).trips) : Fin 3 → Nat :=
  let c3_2284 : Index := 3#32
  let c32_2285 : Index := 32#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4972 : Index := Scalar.indexCast v4268
  ![3, 32, v4972.toNat]
def k0_off35 (i : grid0.Coords) (k0_t1 : Fin (k0_t1_loop i).trips) : Fin 3 → Nat :=
  let c4_2292 : Index := 4#32
  let c32_2293 : Index := 32#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v4994 : Index := Scalar.indexCast v4268
  ![4, 32, v4994.toNat]
def k0_off36 (i : grid0.Coords) (k0_t1 : Fin (k0_t1_loop i).trips) : Fin 3 → Nat :=
  let c5_2300 : Index := 5#32
  let c32_2301 : Index := 32#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5016 : Index := Scalar.indexCast v4268
  ![5, 32, v5016.toNat]
def k0_off37 (i : grid0.Coords) (k0_t1 : Fin (k0_t1_loop i).trips) : Fin 3 → Nat :=
  let c6_2308 : Index := 6#32
  let c32_2309 : Index := 32#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5038 : Index := Scalar.indexCast v4268
  ![6, 32, v5038.toNat]
def k0_off38 (i : grid0.Coords) (k0_t1 : Fin (k0_t1_loop i).trips) : Fin 3 → Nat :=
  let c7_2316 : Index := 7#32
  let c32_2317 : Index := 32#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5060 : Index := Scalar.indexCast v4268
  ![7, 32, v5060.toNat]
def k0_off39 (i : grid0.Coords) (k0_t1 : Fin (k0_t1_loop i).trips) : Fin 3 → Nat :=
  let c8_2324 : Index := 8#32
  let c32_2325 : Index := 32#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5082 : Index := Scalar.indexCast v4268
  ![8, 32, v5082.toNat]
def k0_off40 (i : grid0.Coords) (k0_t1 : Fin (k0_t1_loop i).trips) : Fin 3 → Nat :=
  let c9_2332 : Index := 9#32
  let c32_2333 : Index := 32#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5104 : Index := Scalar.indexCast v4268
  ![9, 32, v5104.toNat]
def k0_off41 (i : grid0.Coords) (k0_t1 : Fin (k0_t1_loop i).trips) : Fin 3 → Nat :=
  let c10_2340 : Index := 10#32
  let c32_2341 : Index := 32#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5126 : Index := Scalar.indexCast v4268
  ![10, 32, v5126.toNat]
def k0_off42 (i : grid0.Coords) (k0_t1 : Fin (k0_t1_loop i).trips) : Fin 3 → Nat :=
  let c11_2348 : Index := 11#32
  let c32_2349 : Index := 32#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5148 : Index := Scalar.indexCast v4268
  ![11, 32, v5148.toNat]
def k0_off43 (i : grid0.Coords) (k0_t1 : Fin (k0_t1_loop i).trips) : Fin 3 → Nat :=
  let c0_2373 : Index := 0#32
  let c48_2374 : Index := 48#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5196 : Index := Scalar.indexCast v4268
  ![0, 48, v5196.toNat]
def k0_off44 (i : grid0.Coords) (k0_t1 : Fin (k0_t1_loop i).trips) : Fin 3 → Nat :=
  let c1_2381 : Index := 1#32
  let c48_2382 : Index := 48#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5218 : Index := Scalar.indexCast v4268
  ![1, 48, v5218.toNat]
def k0_off45 (i : grid0.Coords) (k0_t1 : Fin (k0_t1_loop i).trips) : Fin 3 → Nat :=
  let c2_2389 : Index := 2#32
  let c48_2390 : Index := 48#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5240 : Index := Scalar.indexCast v4268
  ![2, 48, v5240.toNat]
def k0_off46 (i : grid0.Coords) (k0_t1 : Fin (k0_t1_loop i).trips) : Fin 3 → Nat :=
  let c3_2397 : Index := 3#32
  let c48_2398 : Index := 48#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5262 : Index := Scalar.indexCast v4268
  ![3, 48, v5262.toNat]
def k0_off47 (i : grid0.Coords) (k0_t1 : Fin (k0_t1_loop i).trips) : Fin 3 → Nat :=
  let c4_2405 : Index := 4#32
  let c48_2406 : Index := 48#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5284 : Index := Scalar.indexCast v4268
  ![4, 48, v5284.toNat]
def k0_off48 (i : grid0.Coords) (k0_t1 : Fin (k0_t1_loop i).trips) : Fin 3 → Nat :=
  let c5_2413 : Index := 5#32
  let c48_2414 : Index := 48#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5306 : Index := Scalar.indexCast v4268
  ![5, 48, v5306.toNat]
def k0_off49 (i : grid0.Coords) (k0_t1 : Fin (k0_t1_loop i).trips) : Fin 3 → Nat :=
  let c6_2421 : Index := 6#32
  let c48_2422 : Index := 48#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5328 : Index := Scalar.indexCast v4268
  ![6, 48, v5328.toNat]
def k0_off50 (i : grid0.Coords) (k0_t1 : Fin (k0_t1_loop i).trips) : Fin 3 → Nat :=
  let c7_2429 : Index := 7#32
  let c48_2430 : Index := 48#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5350 : Index := Scalar.indexCast v4268
  ![7, 48, v5350.toNat]
def k0_off51 (i : grid0.Coords) (k0_t1 : Fin (k0_t1_loop i).trips) : Fin 3 → Nat :=
  let c8_2437 : Index := 8#32
  let c48_2438 : Index := 48#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5372 : Index := Scalar.indexCast v4268
  ![8, 48, v5372.toNat]
def k0_off52 (i : grid0.Coords) (k0_t1 : Fin (k0_t1_loop i).trips) : Fin 3 → Nat :=
  let c9_2445 : Index := 9#32
  let c48_2446 : Index := 48#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5394 : Index := Scalar.indexCast v4268
  ![9, 48, v5394.toNat]
def k0_off53 (i : grid0.Coords) (k0_t1 : Fin (k0_t1_loop i).trips) : Fin 3 → Nat :=
  let c10_2453 : Index := 10#32
  let c48_2454 : Index := 48#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5416 : Index := Scalar.indexCast v4268
  ![10, 48, v5416.toNat]
def k0_off54 (i : grid0.Coords) (k0_t1 : Fin (k0_t1_loop i).trips) : Fin 3 → Nat :=
  let c11_2461 : Index := 11#32
  let c48_2462 : Index := 48#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5438 : Index := Scalar.indexCast v4268
  ![11, 48, v5438.toNat]
def k0_off55 (i : grid0.Coords) (k0_t1 : Fin (k0_t1_loop i).trips) : Fin 3 → Nat :=
  let c0_2486 : Index := 0#32
  let c64_2487 : Index := 64#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5486 : Index := Scalar.indexCast v4268
  ![0, 64, v5486.toNat]
def k0_off56 (i : grid0.Coords) (k0_t1 : Fin (k0_t1_loop i).trips) : Fin 3 → Nat :=
  let c1_2494 : Index := 1#32
  let c64_2495 : Index := 64#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5508 : Index := Scalar.indexCast v4268
  ![1, 64, v5508.toNat]
def k0_off57 (i : grid0.Coords) (k0_t1 : Fin (k0_t1_loop i).trips) : Fin 3 → Nat :=
  let c2_2502 : Index := 2#32
  let c64_2503 : Index := 64#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5530 : Index := Scalar.indexCast v4268
  ![2, 64, v5530.toNat]
def k0_off58 (i : grid0.Coords) (k0_t1 : Fin (k0_t1_loop i).trips) : Fin 3 → Nat :=
  let c3_2510 : Index := 3#32
  let c64_2511 : Index := 64#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5552 : Index := Scalar.indexCast v4268
  ![3, 64, v5552.toNat]
def k0_off59 (i : grid0.Coords) (k0_t1 : Fin (k0_t1_loop i).trips) : Fin 3 → Nat :=
  let c4_2518 : Index := 4#32
  let c64_2519 : Index := 64#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5574 : Index := Scalar.indexCast v4268
  ![4, 64, v5574.toNat]
def k0_off60 (i : grid0.Coords) (k0_t1 : Fin (k0_t1_loop i).trips) : Fin 3 → Nat :=
  let c5_2526 : Index := 5#32
  let c64_2527 : Index := 64#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5596 : Index := Scalar.indexCast v4268
  ![5, 64, v5596.toNat]
def k0_off61 (i : grid0.Coords) (k0_t1 : Fin (k0_t1_loop i).trips) : Fin 3 → Nat :=
  let c6_2534 : Index := 6#32
  let c64_2535 : Index := 64#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5618 : Index := Scalar.indexCast v4268
  ![6, 64, v5618.toNat]
def k0_off62 (i : grid0.Coords) (k0_t1 : Fin (k0_t1_loop i).trips) : Fin 3 → Nat :=
  let c7_2542 : Index := 7#32
  let c64_2543 : Index := 64#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5640 : Index := Scalar.indexCast v4268
  ![7, 64, v5640.toNat]
def k0_off63 (i : grid0.Coords) (k0_t1 : Fin (k0_t1_loop i).trips) : Fin 3 → Nat :=
  let c8_2550 : Index := 8#32
  let c64_2551 : Index := 64#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5662 : Index := Scalar.indexCast v4268
  ![8, 64, v5662.toNat]
def k0_off64 (i : grid0.Coords) (k0_t1 : Fin (k0_t1_loop i).trips) : Fin 3 → Nat :=
  let c9_2558 : Index := 9#32
  let c64_2559 : Index := 64#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5684 : Index := Scalar.indexCast v4268
  ![9, 64, v5684.toNat]
def k0_off65 (i : grid0.Coords) (k0_t1 : Fin (k0_t1_loop i).trips) : Fin 3 → Nat :=
  let c10_2566 : Index := 10#32
  let c64_2567 : Index := 64#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5706 : Index := Scalar.indexCast v4268
  ![10, 64, v5706.toNat]
def k0_off66 (i : grid0.Coords) (k0_t1 : Fin (k0_t1_loop i).trips) : Fin 3 → Nat :=
  let c11_2574 : Index := 11#32
  let c64_2575 : Index := 64#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5728 : Index := Scalar.indexCast v4268
  ![11, 64, v5728.toNat]
def k0_off67 (i : grid0.Coords) (k0_t1 : Fin (k0_t1_loop i).trips) : Fin 3 → Nat :=
  let c0_2599 : Index := 0#32
  let c80_2600 : Index := 80#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5776 : Index := Scalar.indexCast v4268
  ![0, 80, v5776.toNat]
def k0_off68 (i : grid0.Coords) (k0_t1 : Fin (k0_t1_loop i).trips) : Fin 3 → Nat :=
  let c1_2607 : Index := 1#32
  let c80_2608 : Index := 80#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5798 : Index := Scalar.indexCast v4268
  ![1, 80, v5798.toNat]
def k0_off69 (i : grid0.Coords) (k0_t1 : Fin (k0_t1_loop i).trips) : Fin 3 → Nat :=
  let c2_2615 : Index := 2#32
  let c80_2616 : Index := 80#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5820 : Index := Scalar.indexCast v4268
  ![2, 80, v5820.toNat]
def k0_off70 (i : grid0.Coords) (k0_t1 : Fin (k0_t1_loop i).trips) : Fin 3 → Nat :=
  let c3_2623 : Index := 3#32
  let c80_2624 : Index := 80#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5842 : Index := Scalar.indexCast v4268
  ![3, 80, v5842.toNat]
def k0_off71 (i : grid0.Coords) (k0_t1 : Fin (k0_t1_loop i).trips) : Fin 3 → Nat :=
  let c4_2631 : Index := 4#32
  let c80_2632 : Index := 80#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5864 : Index := Scalar.indexCast v4268
  ![4, 80, v5864.toNat]
def k0_off72 (i : grid0.Coords) (k0_t1 : Fin (k0_t1_loop i).trips) : Fin 3 → Nat :=
  let c5_2639 : Index := 5#32
  let c80_2640 : Index := 80#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5886 : Index := Scalar.indexCast v4268
  ![5, 80, v5886.toNat]
def k0_off73 (i : grid0.Coords) (k0_t1 : Fin (k0_t1_loop i).trips) : Fin 3 → Nat :=
  let c6_2647 : Index := 6#32
  let c80_2648 : Index := 80#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5908 : Index := Scalar.indexCast v4268
  ![6, 80, v5908.toNat]
def k0_off74 (i : grid0.Coords) (k0_t1 : Fin (k0_t1_loop i).trips) : Fin 3 → Nat :=
  let c7_2655 : Index := 7#32
  let c80_2656 : Index := 80#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5930 : Index := Scalar.indexCast v4268
  ![7, 80, v5930.toNat]
def k0_off75 (i : grid0.Coords) (k0_t1 : Fin (k0_t1_loop i).trips) : Fin 3 → Nat :=
  let c8_2663 : Index := 8#32
  let c80_2664 : Index := 80#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5952 : Index := Scalar.indexCast v4268
  ![8, 80, v5952.toNat]
def k0_off76 (i : grid0.Coords) (k0_t1 : Fin (k0_t1_loop i).trips) : Fin 3 → Nat :=
  let c9_2671 : Index := 9#32
  let c80_2672 : Index := 80#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5974 : Index := Scalar.indexCast v4268
  ![9, 80, v5974.toNat]
def k0_off77 (i : grid0.Coords) (k0_t1 : Fin (k0_t1_loop i).trips) : Fin 3 → Nat :=
  let c10_2679 : Index := 10#32
  let c80_2680 : Index := 80#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v5996 : Index := Scalar.indexCast v4268
  ![10, 80, v5996.toNat]
def k0_off78 (i : grid0.Coords) (k0_t1 : Fin (k0_t1_loop i).trips) : Fin 3 → Nat :=
  let c11_2687 : Index := 11#32
  let c80_2688 : Index := 80#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6018 : Index := Scalar.indexCast v4268
  ![11, 80, v6018.toNat]
def k0_off79 (i : grid0.Coords) (k0_t1 : Fin (k0_t1_loop i).trips) : Fin 3 → Nat :=
  let c0_2712 : Index := 0#32
  let c96_2713 : Index := 96#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6066 : Index := Scalar.indexCast v4268
  ![0, 96, v6066.toNat]
def k0_off80 (i : grid0.Coords) (k0_t1 : Fin (k0_t1_loop i).trips) : Fin 3 → Nat :=
  let c1_2720 : Index := 1#32
  let c96_2721 : Index := 96#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6088 : Index := Scalar.indexCast v4268
  ![1, 96, v6088.toNat]
def k0_off81 (i : grid0.Coords) (k0_t1 : Fin (k0_t1_loop i).trips) : Fin 3 → Nat :=
  let c2_2728 : Index := 2#32
  let c96_2729 : Index := 96#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6110 : Index := Scalar.indexCast v4268
  ![2, 96, v6110.toNat]
def k0_off82 (i : grid0.Coords) (k0_t1 : Fin (k0_t1_loop i).trips) : Fin 3 → Nat :=
  let c3_2736 : Index := 3#32
  let c96_2737 : Index := 96#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6132 : Index := Scalar.indexCast v4268
  ![3, 96, v6132.toNat]
def k0_off83 (i : grid0.Coords) (k0_t1 : Fin (k0_t1_loop i).trips) : Fin 3 → Nat :=
  let c4_2744 : Index := 4#32
  let c96_2745 : Index := 96#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6154 : Index := Scalar.indexCast v4268
  ![4, 96, v6154.toNat]
def k0_off84 (i : grid0.Coords) (k0_t1 : Fin (k0_t1_loop i).trips) : Fin 3 → Nat :=
  let c5_2752 : Index := 5#32
  let c96_2753 : Index := 96#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6176 : Index := Scalar.indexCast v4268
  ![5, 96, v6176.toNat]
def k0_off85 (i : grid0.Coords) (k0_t1 : Fin (k0_t1_loop i).trips) : Fin 3 → Nat :=
  let c6_2760 : Index := 6#32
  let c96_2761 : Index := 96#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6198 : Index := Scalar.indexCast v4268
  ![6, 96, v6198.toNat]
def k0_off86 (i : grid0.Coords) (k0_t1 : Fin (k0_t1_loop i).trips) : Fin 3 → Nat :=
  let c7_2768 : Index := 7#32
  let c96_2769 : Index := 96#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6220 : Index := Scalar.indexCast v4268
  ![7, 96, v6220.toNat]
def k0_off87 (i : grid0.Coords) (k0_t1 : Fin (k0_t1_loop i).trips) : Fin 3 → Nat :=
  let c8_2776 : Index := 8#32
  let c96_2777 : Index := 96#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6242 : Index := Scalar.indexCast v4268
  ![8, 96, v6242.toNat]
def k0_off88 (i : grid0.Coords) (k0_t1 : Fin (k0_t1_loop i).trips) : Fin 3 → Nat :=
  let c9_2784 : Index := 9#32
  let c96_2785 : Index := 96#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6264 : Index := Scalar.indexCast v4268
  ![9, 96, v6264.toNat]
def k0_off89 (i : grid0.Coords) (k0_t1 : Fin (k0_t1_loop i).trips) : Fin 3 → Nat :=
  let c10_2792 : Index := 10#32
  let c96_2793 : Index := 96#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6286 : Index := Scalar.indexCast v4268
  ![10, 96, v6286.toNat]
def k0_off90 (i : grid0.Coords) (k0_t1 : Fin (k0_t1_loop i).trips) : Fin 3 → Nat :=
  let c11_2800 : Index := 11#32
  let c96_2801 : Index := 96#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6308 : Index := Scalar.indexCast v4268
  ![11, 96, v6308.toNat]
def k0_off91 (i : grid0.Coords) (k0_t1 : Fin (k0_t1_loop i).trips) : Fin 3 → Nat :=
  let c0_2825 : Index := 0#32
  let c112_2826 : Index := 112#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6356 : Index := Scalar.indexCast v4268
  ![0, 112, v6356.toNat]
def k0_off92 (i : grid0.Coords) (k0_t1 : Fin (k0_t1_loop i).trips) : Fin 3 → Nat :=
  let c1_2833 : Index := 1#32
  let c112_2834 : Index := 112#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6378 : Index := Scalar.indexCast v4268
  ![1, 112, v6378.toNat]
def k0_off93 (i : grid0.Coords) (k0_t1 : Fin (k0_t1_loop i).trips) : Fin 3 → Nat :=
  let c2_2841 : Index := 2#32
  let c112_2842 : Index := 112#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6400 : Index := Scalar.indexCast v4268
  ![2, 112, v6400.toNat]
def k0_off94 (i : grid0.Coords) (k0_t1 : Fin (k0_t1_loop i).trips) : Fin 3 → Nat :=
  let c3_2849 : Index := 3#32
  let c112_2850 : Index := 112#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6422 : Index := Scalar.indexCast v4268
  ![3, 112, v6422.toNat]
def k0_off95 (i : grid0.Coords) (k0_t1 : Fin (k0_t1_loop i).trips) : Fin 3 → Nat :=
  let c4_2857 : Index := 4#32
  let c112_2858 : Index := 112#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6444 : Index := Scalar.indexCast v4268
  ![4, 112, v6444.toNat]
def k0_off96 (i : grid0.Coords) (k0_t1 : Fin (k0_t1_loop i).trips) : Fin 3 → Nat :=
  let c5_2865 : Index := 5#32
  let c112_2866 : Index := 112#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6466 : Index := Scalar.indexCast v4268
  ![5, 112, v6466.toNat]
def k0_off97 (i : grid0.Coords) (k0_t1 : Fin (k0_t1_loop i).trips) : Fin 3 → Nat :=
  let c6_2873 : Index := 6#32
  let c112_2874 : Index := 112#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6488 : Index := Scalar.indexCast v4268
  ![6, 112, v6488.toNat]
def k0_off98 (i : grid0.Coords) (k0_t1 : Fin (k0_t1_loop i).trips) : Fin 3 → Nat :=
  let c7_2881 : Index := 7#32
  let c112_2882 : Index := 112#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6510 : Index := Scalar.indexCast v4268
  ![7, 112, v6510.toNat]
def k0_off99 (i : grid0.Coords) (k0_t1 : Fin (k0_t1_loop i).trips) : Fin 3 → Nat :=
  let c8_2889 : Index := 8#32
  let c112_2890 : Index := 112#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6532 : Index := Scalar.indexCast v4268
  ![8, 112, v6532.toNat]
def k0_off100 (i : grid0.Coords) (k0_t1 : Fin (k0_t1_loop i).trips) : Fin 3 → Nat :=
  let c9_2897 : Index := 9#32
  let c112_2898 : Index := 112#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6554 : Index := Scalar.indexCast v4268
  ![9, 112, v6554.toNat]
def k0_off101 (i : grid0.Coords) (k0_t1 : Fin (k0_t1_loop i).trips) : Fin 3 → Nat :=
  let c10_2905 : Index := 10#32
  let c112_2906 : Index := 112#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6576 : Index := Scalar.indexCast v4268
  ![10, 112, v6576.toNat]
def k0_off102 (i : grid0.Coords) (k0_t1 : Fin (k0_t1_loop i).trips) : Fin 3 → Nat :=
  let c11_2913 : Index := 11#32
  let c112_2914 : Index := 112#32
  let c0_i32_713 : BitVec 32 := 0#32
  let c1_i32_715 : BitVec 32 := 1#32
  let arg18 : BitVec 32 := Scf.iv c0_i32_713 c1_i32_715 k0_t1
  let c256_i32_2004 : BitVec 32 := 256#32
  let v4267 : BitVec 32 := Scalar.muli arg18 c256_i32_2004
  let v4268 : BitVec 32 := v4267
  let v6598 : Index := Scalar.indexCast v4268
  ![11, 112, v6598.toNat]
@[reducible] def k0_t2_loop (i : grid0.Coords) : Scf.Loop 32 :=
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let v1262 : BitVec 32 := Scalar.addi c0_i32_713 v1261
  let c1_i32_716 : BitVec 32 := 1#32
  ⟨v1265, v1262, c1_i32_716⟩
def k0_mult2 (i : grid0.Coords) (k0_t2 : Fin (k0_t2_loop i).trips) : BitVec 32 :=
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  v4267
def k0_off103 (i : grid0.Coords) (k0_t2 : Fin (k0_t2_loop i).trips) : Fin 4 → Nat :=
  let c0_2005 : Index := 0#32
  let c0_2006 : Index := 0#32
  let c0_2007 : Index := 0#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4269 : Index := Scalar.indexCast v4268
  ![0, 0, 0, v4269.toNat]
def k0_off104 (i : grid0.Coords) (k0_t2 : Fin (k0_t2_loop i).trips) : Fin 3 → Nat :=
  let c0_2008 : Index := 0#32
  let c0_2009 : Index := 0#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4273 : Index := Scalar.indexCast v4268
  ![0, 0, v4273.toNat]
def k0_off105 (i : grid0.Coords) (k0_t2 : Fin (k0_t2_loop i).trips) : Fin 4 → Nat :=
  let c0_2011 : Index := 0#32
  let c1_2012 : Index := 1#32
  let c0_2013 : Index := 0#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4280 : Index := Scalar.indexCast v4268
  ![0, 1, 0, v4280.toNat]
def k0_off106 (i : grid0.Coords) (k0_t2 : Fin (k0_t2_loop i).trips) : Fin 3 → Nat :=
  let c0_2014 : Index := 0#32
  let c1_2015 : Index := 1#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4284 : Index := Scalar.indexCast v4268
  ![0, 1, v4284.toNat]
def k0_off107 (i : grid0.Coords) (k0_t2 : Fin (k0_t2_loop i).trips) : Fin 3 → Nat :=
  let c0_2020 : Index := 0#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4293 : Index := Scalar.indexCast v4268
  let c0_2021 : Index := 0#32
  ![0, v4293.toNat, 0]
def k0_off108 (i : grid0.Coords) (k0_t2 : Fin (k0_t2_loop i).trips) : Fin 3 → Nat :=
  let c0_2027 : Index := 0#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4305 : Index := Scalar.indexCast v4268
  let c128_2028 : Index := 128#32
  ![0, v4305.toNat, 128]
def k0_off109 (i : grid0.Coords) (k0_t2 : Fin (k0_t2_loop i).trips) : Fin 3 → Nat :=
  let c0_2034 : Index := 0#32
  let c0_2035 : Index := 0#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4326 : Index := Scalar.indexCast v4268
  ![0, 0, v4326.toNat]
def k0_off110 (i : grid0.Coords) (k0_t2 : Fin (k0_t2_loop i).trips) : Fin 3 → Nat :=
  let c1_2042 : Index := 1#32
  let c0_2043 : Index := 0#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4348 : Index := Scalar.indexCast v4268
  ![1, 0, v4348.toNat]
def k0_off111 (i : grid0.Coords) (k0_t2 : Fin (k0_t2_loop i).trips) : Fin 3 → Nat :=
  let c2_2050 : Index := 2#32
  let c0_2051 : Index := 0#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4370 : Index := Scalar.indexCast v4268
  ![2, 0, v4370.toNat]
def k0_off112 (i : grid0.Coords) (k0_t2 : Fin (k0_t2_loop i).trips) : Fin 3 → Nat :=
  let c3_2058 : Index := 3#32
  let c0_2059 : Index := 0#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4392 : Index := Scalar.indexCast v4268
  ![3, 0, v4392.toNat]
def k0_off113 (i : grid0.Coords) (k0_t2 : Fin (k0_t2_loop i).trips) : Fin 3 → Nat :=
  let c4_2066 : Index := 4#32
  let c0_2067 : Index := 0#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4414 : Index := Scalar.indexCast v4268
  ![4, 0, v4414.toNat]
def k0_off114 (i : grid0.Coords) (k0_t2 : Fin (k0_t2_loop i).trips) : Fin 3 → Nat :=
  let c5_2074 : Index := 5#32
  let c0_2075 : Index := 0#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4436 : Index := Scalar.indexCast v4268
  ![5, 0, v4436.toNat]
def k0_off115 (i : grid0.Coords) (k0_t2 : Fin (k0_t2_loop i).trips) : Fin 3 → Nat :=
  let c6_2082 : Index := 6#32
  let c0_2083 : Index := 0#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4458 : Index := Scalar.indexCast v4268
  ![6, 0, v4458.toNat]
def k0_off116 (i : grid0.Coords) (k0_t2 : Fin (k0_t2_loop i).trips) : Fin 3 → Nat :=
  let c7_2090 : Index := 7#32
  let c0_2091 : Index := 0#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4480 : Index := Scalar.indexCast v4268
  ![7, 0, v4480.toNat]
def k0_off117 (i : grid0.Coords) (k0_t2 : Fin (k0_t2_loop i).trips) : Fin 3 → Nat :=
  let c8_2098 : Index := 8#32
  let c0_2099 : Index := 0#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4502 : Index := Scalar.indexCast v4268
  ![8, 0, v4502.toNat]
def k0_off118 (i : grid0.Coords) (k0_t2 : Fin (k0_t2_loop i).trips) : Fin 3 → Nat :=
  let c9_2106 : Index := 9#32
  let c0_2107 : Index := 0#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4524 : Index := Scalar.indexCast v4268
  ![9, 0, v4524.toNat]
def k0_off119 (i : grid0.Coords) (k0_t2 : Fin (k0_t2_loop i).trips) : Fin 3 → Nat :=
  let c10_2114 : Index := 10#32
  let c0_2115 : Index := 0#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4546 : Index := Scalar.indexCast v4268
  ![10, 0, v4546.toNat]
def k0_off120 (i : grid0.Coords) (k0_t2 : Fin (k0_t2_loop i).trips) : Fin 3 → Nat :=
  let c11_2122 : Index := 11#32
  let c0_2123 : Index := 0#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4568 : Index := Scalar.indexCast v4268
  ![11, 0, v4568.toNat]
def k0_off121 (i : grid0.Coords) (k0_t2 : Fin (k0_t2_loop i).trips) : Fin 3 → Nat :=
  let c0_2147 : Index := 0#32
  let c16_2148 : Index := 16#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4616 : Index := Scalar.indexCast v4268
  ![0, 16, v4616.toNat]
def k0_off122 (i : grid0.Coords) (k0_t2 : Fin (k0_t2_loop i).trips) : Fin 3 → Nat :=
  let c1_2155 : Index := 1#32
  let c16_2156 : Index := 16#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4638 : Index := Scalar.indexCast v4268
  ![1, 16, v4638.toNat]
def k0_off123 (i : grid0.Coords) (k0_t2 : Fin (k0_t2_loop i).trips) : Fin 3 → Nat :=
  let c2_2163 : Index := 2#32
  let c16_2164 : Index := 16#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4660 : Index := Scalar.indexCast v4268
  ![2, 16, v4660.toNat]
def k0_off124 (i : grid0.Coords) (k0_t2 : Fin (k0_t2_loop i).trips) : Fin 3 → Nat :=
  let c3_2171 : Index := 3#32
  let c16_2172 : Index := 16#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4682 : Index := Scalar.indexCast v4268
  ![3, 16, v4682.toNat]
def k0_off125 (i : grid0.Coords) (k0_t2 : Fin (k0_t2_loop i).trips) : Fin 3 → Nat :=
  let c4_2179 : Index := 4#32
  let c16_2180 : Index := 16#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4704 : Index := Scalar.indexCast v4268
  ![4, 16, v4704.toNat]
def k0_off126 (i : grid0.Coords) (k0_t2 : Fin (k0_t2_loop i).trips) : Fin 3 → Nat :=
  let c5_2187 : Index := 5#32
  let c16_2188 : Index := 16#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4726 : Index := Scalar.indexCast v4268
  ![5, 16, v4726.toNat]
def k0_off127 (i : grid0.Coords) (k0_t2 : Fin (k0_t2_loop i).trips) : Fin 3 → Nat :=
  let c6_2195 : Index := 6#32
  let c16_2196 : Index := 16#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4748 : Index := Scalar.indexCast v4268
  ![6, 16, v4748.toNat]
def k0_off128 (i : grid0.Coords) (k0_t2 : Fin (k0_t2_loop i).trips) : Fin 3 → Nat :=
  let c7_2203 : Index := 7#32
  let c16_2204 : Index := 16#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4770 : Index := Scalar.indexCast v4268
  ![7, 16, v4770.toNat]
def k0_off129 (i : grid0.Coords) (k0_t2 : Fin (k0_t2_loop i).trips) : Fin 3 → Nat :=
  let c8_2211 : Index := 8#32
  let c16_2212 : Index := 16#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4792 : Index := Scalar.indexCast v4268
  ![8, 16, v4792.toNat]
def k0_off130 (i : grid0.Coords) (k0_t2 : Fin (k0_t2_loop i).trips) : Fin 3 → Nat :=
  let c9_2219 : Index := 9#32
  let c16_2220 : Index := 16#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4814 : Index := Scalar.indexCast v4268
  ![9, 16, v4814.toNat]
def k0_off131 (i : grid0.Coords) (k0_t2 : Fin (k0_t2_loop i).trips) : Fin 3 → Nat :=
  let c10_2227 : Index := 10#32
  let c16_2228 : Index := 16#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4836 : Index := Scalar.indexCast v4268
  ![10, 16, v4836.toNat]
def k0_off132 (i : grid0.Coords) (k0_t2 : Fin (k0_t2_loop i).trips) : Fin 3 → Nat :=
  let c11_2235 : Index := 11#32
  let c16_2236 : Index := 16#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4858 : Index := Scalar.indexCast v4268
  ![11, 16, v4858.toNat]
def k0_off133 (i : grid0.Coords) (k0_t2 : Fin (k0_t2_loop i).trips) : Fin 3 → Nat :=
  let c0_2260 : Index := 0#32
  let c32_2261 : Index := 32#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4906 : Index := Scalar.indexCast v4268
  ![0, 32, v4906.toNat]
def k0_off134 (i : grid0.Coords) (k0_t2 : Fin (k0_t2_loop i).trips) : Fin 3 → Nat :=
  let c1_2268 : Index := 1#32
  let c32_2269 : Index := 32#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4928 : Index := Scalar.indexCast v4268
  ![1, 32, v4928.toNat]
def k0_off135 (i : grid0.Coords) (k0_t2 : Fin (k0_t2_loop i).trips) : Fin 3 → Nat :=
  let c2_2276 : Index := 2#32
  let c32_2277 : Index := 32#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4950 : Index := Scalar.indexCast v4268
  ![2, 32, v4950.toNat]
def k0_off136 (i : grid0.Coords) (k0_t2 : Fin (k0_t2_loop i).trips) : Fin 3 → Nat :=
  let c3_2284 : Index := 3#32
  let c32_2285 : Index := 32#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4972 : Index := Scalar.indexCast v4268
  ![3, 32, v4972.toNat]
def k0_off137 (i : grid0.Coords) (k0_t2 : Fin (k0_t2_loop i).trips) : Fin 3 → Nat :=
  let c4_2292 : Index := 4#32
  let c32_2293 : Index := 32#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v4994 : Index := Scalar.indexCast v4268
  ![4, 32, v4994.toNat]
def k0_off138 (i : grid0.Coords) (k0_t2 : Fin (k0_t2_loop i).trips) : Fin 3 → Nat :=
  let c5_2300 : Index := 5#32
  let c32_2301 : Index := 32#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5016 : Index := Scalar.indexCast v4268
  ![5, 32, v5016.toNat]
def k0_off139 (i : grid0.Coords) (k0_t2 : Fin (k0_t2_loop i).trips) : Fin 3 → Nat :=
  let c6_2308 : Index := 6#32
  let c32_2309 : Index := 32#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5038 : Index := Scalar.indexCast v4268
  ![6, 32, v5038.toNat]
def k0_off140 (i : grid0.Coords) (k0_t2 : Fin (k0_t2_loop i).trips) : Fin 3 → Nat :=
  let c7_2316 : Index := 7#32
  let c32_2317 : Index := 32#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5060 : Index := Scalar.indexCast v4268
  ![7, 32, v5060.toNat]
def k0_off141 (i : grid0.Coords) (k0_t2 : Fin (k0_t2_loop i).trips) : Fin 3 → Nat :=
  let c8_2324 : Index := 8#32
  let c32_2325 : Index := 32#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5082 : Index := Scalar.indexCast v4268
  ![8, 32, v5082.toNat]
def k0_off142 (i : grid0.Coords) (k0_t2 : Fin (k0_t2_loop i).trips) : Fin 3 → Nat :=
  let c9_2332 : Index := 9#32
  let c32_2333 : Index := 32#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5104 : Index := Scalar.indexCast v4268
  ![9, 32, v5104.toNat]
def k0_off143 (i : grid0.Coords) (k0_t2 : Fin (k0_t2_loop i).trips) : Fin 3 → Nat :=
  let c10_2340 : Index := 10#32
  let c32_2341 : Index := 32#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5126 : Index := Scalar.indexCast v4268
  ![10, 32, v5126.toNat]
def k0_off144 (i : grid0.Coords) (k0_t2 : Fin (k0_t2_loop i).trips) : Fin 3 → Nat :=
  let c11_2348 : Index := 11#32
  let c32_2349 : Index := 32#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5148 : Index := Scalar.indexCast v4268
  ![11, 32, v5148.toNat]
def k0_off145 (i : grid0.Coords) (k0_t2 : Fin (k0_t2_loop i).trips) : Fin 3 → Nat :=
  let c0_2373 : Index := 0#32
  let c48_2374 : Index := 48#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5196 : Index := Scalar.indexCast v4268
  ![0, 48, v5196.toNat]
def k0_off146 (i : grid0.Coords) (k0_t2 : Fin (k0_t2_loop i).trips) : Fin 3 → Nat :=
  let c1_2381 : Index := 1#32
  let c48_2382 : Index := 48#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5218 : Index := Scalar.indexCast v4268
  ![1, 48, v5218.toNat]
def k0_off147 (i : grid0.Coords) (k0_t2 : Fin (k0_t2_loop i).trips) : Fin 3 → Nat :=
  let c2_2389 : Index := 2#32
  let c48_2390 : Index := 48#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5240 : Index := Scalar.indexCast v4268
  ![2, 48, v5240.toNat]
def k0_off148 (i : grid0.Coords) (k0_t2 : Fin (k0_t2_loop i).trips) : Fin 3 → Nat :=
  let c3_2397 : Index := 3#32
  let c48_2398 : Index := 48#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5262 : Index := Scalar.indexCast v4268
  ![3, 48, v5262.toNat]
def k0_off149 (i : grid0.Coords) (k0_t2 : Fin (k0_t2_loop i).trips) : Fin 3 → Nat :=
  let c4_2405 : Index := 4#32
  let c48_2406 : Index := 48#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5284 : Index := Scalar.indexCast v4268
  ![4, 48, v5284.toNat]
def k0_off150 (i : grid0.Coords) (k0_t2 : Fin (k0_t2_loop i).trips) : Fin 3 → Nat :=
  let c5_2413 : Index := 5#32
  let c48_2414 : Index := 48#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5306 : Index := Scalar.indexCast v4268
  ![5, 48, v5306.toNat]
def k0_off151 (i : grid0.Coords) (k0_t2 : Fin (k0_t2_loop i).trips) : Fin 3 → Nat :=
  let c6_2421 : Index := 6#32
  let c48_2422 : Index := 48#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5328 : Index := Scalar.indexCast v4268
  ![6, 48, v5328.toNat]
def k0_off152 (i : grid0.Coords) (k0_t2 : Fin (k0_t2_loop i).trips) : Fin 3 → Nat :=
  let c7_2429 : Index := 7#32
  let c48_2430 : Index := 48#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5350 : Index := Scalar.indexCast v4268
  ![7, 48, v5350.toNat]
def k0_off153 (i : grid0.Coords) (k0_t2 : Fin (k0_t2_loop i).trips) : Fin 3 → Nat :=
  let c8_2437 : Index := 8#32
  let c48_2438 : Index := 48#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5372 : Index := Scalar.indexCast v4268
  ![8, 48, v5372.toNat]
def k0_off154 (i : grid0.Coords) (k0_t2 : Fin (k0_t2_loop i).trips) : Fin 3 → Nat :=
  let c9_2445 : Index := 9#32
  let c48_2446 : Index := 48#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5394 : Index := Scalar.indexCast v4268
  ![9, 48, v5394.toNat]
def k0_off155 (i : grid0.Coords) (k0_t2 : Fin (k0_t2_loop i).trips) : Fin 3 → Nat :=
  let c10_2453 : Index := 10#32
  let c48_2454 : Index := 48#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5416 : Index := Scalar.indexCast v4268
  ![10, 48, v5416.toNat]
def k0_off156 (i : grid0.Coords) (k0_t2 : Fin (k0_t2_loop i).trips) : Fin 3 → Nat :=
  let c11_2461 : Index := 11#32
  let c48_2462 : Index := 48#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5438 : Index := Scalar.indexCast v4268
  ![11, 48, v5438.toNat]
def k0_off157 (i : grid0.Coords) (k0_t2 : Fin (k0_t2_loop i).trips) : Fin 3 → Nat :=
  let c0_2486 : Index := 0#32
  let c64_2487 : Index := 64#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5486 : Index := Scalar.indexCast v4268
  ![0, 64, v5486.toNat]
def k0_off158 (i : grid0.Coords) (k0_t2 : Fin (k0_t2_loop i).trips) : Fin 3 → Nat :=
  let c1_2494 : Index := 1#32
  let c64_2495 : Index := 64#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5508 : Index := Scalar.indexCast v4268
  ![1, 64, v5508.toNat]
def k0_off159 (i : grid0.Coords) (k0_t2 : Fin (k0_t2_loop i).trips) : Fin 3 → Nat :=
  let c2_2502 : Index := 2#32
  let c64_2503 : Index := 64#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5530 : Index := Scalar.indexCast v4268
  ![2, 64, v5530.toNat]
def k0_off160 (i : grid0.Coords) (k0_t2 : Fin (k0_t2_loop i).trips) : Fin 3 → Nat :=
  let c3_2510 : Index := 3#32
  let c64_2511 : Index := 64#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5552 : Index := Scalar.indexCast v4268
  ![3, 64, v5552.toNat]
def k0_off161 (i : grid0.Coords) (k0_t2 : Fin (k0_t2_loop i).trips) : Fin 3 → Nat :=
  let c4_2518 : Index := 4#32
  let c64_2519 : Index := 64#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5574 : Index := Scalar.indexCast v4268
  ![4, 64, v5574.toNat]
def k0_off162 (i : grid0.Coords) (k0_t2 : Fin (k0_t2_loop i).trips) : Fin 3 → Nat :=
  let c5_2526 : Index := 5#32
  let c64_2527 : Index := 64#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5596 : Index := Scalar.indexCast v4268
  ![5, 64, v5596.toNat]
def k0_off163 (i : grid0.Coords) (k0_t2 : Fin (k0_t2_loop i).trips) : Fin 3 → Nat :=
  let c6_2534 : Index := 6#32
  let c64_2535 : Index := 64#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5618 : Index := Scalar.indexCast v4268
  ![6, 64, v5618.toNat]
def k0_off164 (i : grid0.Coords) (k0_t2 : Fin (k0_t2_loop i).trips) : Fin 3 → Nat :=
  let c7_2542 : Index := 7#32
  let c64_2543 : Index := 64#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5640 : Index := Scalar.indexCast v4268
  ![7, 64, v5640.toNat]
def k0_off165 (i : grid0.Coords) (k0_t2 : Fin (k0_t2_loop i).trips) : Fin 3 → Nat :=
  let c8_2550 : Index := 8#32
  let c64_2551 : Index := 64#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5662 : Index := Scalar.indexCast v4268
  ![8, 64, v5662.toNat]
def k0_off166 (i : grid0.Coords) (k0_t2 : Fin (k0_t2_loop i).trips) : Fin 3 → Nat :=
  let c9_2558 : Index := 9#32
  let c64_2559 : Index := 64#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5684 : Index := Scalar.indexCast v4268
  ![9, 64, v5684.toNat]
def k0_off167 (i : grid0.Coords) (k0_t2 : Fin (k0_t2_loop i).trips) : Fin 3 → Nat :=
  let c10_2566 : Index := 10#32
  let c64_2567 : Index := 64#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5706 : Index := Scalar.indexCast v4268
  ![10, 64, v5706.toNat]
def k0_off168 (i : grid0.Coords) (k0_t2 : Fin (k0_t2_loop i).trips) : Fin 3 → Nat :=
  let c11_2574 : Index := 11#32
  let c64_2575 : Index := 64#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5728 : Index := Scalar.indexCast v4268
  ![11, 64, v5728.toNat]
def k0_off169 (i : grid0.Coords) (k0_t2 : Fin (k0_t2_loop i).trips) : Fin 3 → Nat :=
  let c0_2599 : Index := 0#32
  let c80_2600 : Index := 80#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5776 : Index := Scalar.indexCast v4268
  ![0, 80, v5776.toNat]
def k0_off170 (i : grid0.Coords) (k0_t2 : Fin (k0_t2_loop i).trips) : Fin 3 → Nat :=
  let c1_2607 : Index := 1#32
  let c80_2608 : Index := 80#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5798 : Index := Scalar.indexCast v4268
  ![1, 80, v5798.toNat]
def k0_off171 (i : grid0.Coords) (k0_t2 : Fin (k0_t2_loop i).trips) : Fin 3 → Nat :=
  let c2_2615 : Index := 2#32
  let c80_2616 : Index := 80#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5820 : Index := Scalar.indexCast v4268
  ![2, 80, v5820.toNat]
def k0_off172 (i : grid0.Coords) (k0_t2 : Fin (k0_t2_loop i).trips) : Fin 3 → Nat :=
  let c3_2623 : Index := 3#32
  let c80_2624 : Index := 80#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5842 : Index := Scalar.indexCast v4268
  ![3, 80, v5842.toNat]
def k0_off173 (i : grid0.Coords) (k0_t2 : Fin (k0_t2_loop i).trips) : Fin 3 → Nat :=
  let c4_2631 : Index := 4#32
  let c80_2632 : Index := 80#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5864 : Index := Scalar.indexCast v4268
  ![4, 80, v5864.toNat]
def k0_off174 (i : grid0.Coords) (k0_t2 : Fin (k0_t2_loop i).trips) : Fin 3 → Nat :=
  let c5_2639 : Index := 5#32
  let c80_2640 : Index := 80#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5886 : Index := Scalar.indexCast v4268
  ![5, 80, v5886.toNat]
def k0_off175 (i : grid0.Coords) (k0_t2 : Fin (k0_t2_loop i).trips) : Fin 3 → Nat :=
  let c6_2647 : Index := 6#32
  let c80_2648 : Index := 80#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5908 : Index := Scalar.indexCast v4268
  ![6, 80, v5908.toNat]
def k0_off176 (i : grid0.Coords) (k0_t2 : Fin (k0_t2_loop i).trips) : Fin 3 → Nat :=
  let c7_2655 : Index := 7#32
  let c80_2656 : Index := 80#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5930 : Index := Scalar.indexCast v4268
  ![7, 80, v5930.toNat]
def k0_off177 (i : grid0.Coords) (k0_t2 : Fin (k0_t2_loop i).trips) : Fin 3 → Nat :=
  let c8_2663 : Index := 8#32
  let c80_2664 : Index := 80#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5952 : Index := Scalar.indexCast v4268
  ![8, 80, v5952.toNat]
def k0_off178 (i : grid0.Coords) (k0_t2 : Fin (k0_t2_loop i).trips) : Fin 3 → Nat :=
  let c9_2671 : Index := 9#32
  let c80_2672 : Index := 80#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5974 : Index := Scalar.indexCast v4268
  ![9, 80, v5974.toNat]
def k0_off179 (i : grid0.Coords) (k0_t2 : Fin (k0_t2_loop i).trips) : Fin 3 → Nat :=
  let c10_2679 : Index := 10#32
  let c80_2680 : Index := 80#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v5996 : Index := Scalar.indexCast v4268
  ![10, 80, v5996.toNat]
def k0_off180 (i : grid0.Coords) (k0_t2 : Fin (k0_t2_loop i).trips) : Fin 3 → Nat :=
  let c11_2687 : Index := 11#32
  let c80_2688 : Index := 80#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6018 : Index := Scalar.indexCast v4268
  ![11, 80, v6018.toNat]
def k0_off181 (i : grid0.Coords) (k0_t2 : Fin (k0_t2_loop i).trips) : Fin 3 → Nat :=
  let c0_2712 : Index := 0#32
  let c96_2713 : Index := 96#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6066 : Index := Scalar.indexCast v4268
  ![0, 96, v6066.toNat]
def k0_off182 (i : grid0.Coords) (k0_t2 : Fin (k0_t2_loop i).trips) : Fin 3 → Nat :=
  let c1_2720 : Index := 1#32
  let c96_2721 : Index := 96#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6088 : Index := Scalar.indexCast v4268
  ![1, 96, v6088.toNat]
def k0_off183 (i : grid0.Coords) (k0_t2 : Fin (k0_t2_loop i).trips) : Fin 3 → Nat :=
  let c2_2728 : Index := 2#32
  let c96_2729 : Index := 96#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6110 : Index := Scalar.indexCast v4268
  ![2, 96, v6110.toNat]
def k0_off184 (i : grid0.Coords) (k0_t2 : Fin (k0_t2_loop i).trips) : Fin 3 → Nat :=
  let c3_2736 : Index := 3#32
  let c96_2737 : Index := 96#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6132 : Index := Scalar.indexCast v4268
  ![3, 96, v6132.toNat]
def k0_off185 (i : grid0.Coords) (k0_t2 : Fin (k0_t2_loop i).trips) : Fin 3 → Nat :=
  let c4_2744 : Index := 4#32
  let c96_2745 : Index := 96#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6154 : Index := Scalar.indexCast v4268
  ![4, 96, v6154.toNat]
def k0_off186 (i : grid0.Coords) (k0_t2 : Fin (k0_t2_loop i).trips) : Fin 3 → Nat :=
  let c5_2752 : Index := 5#32
  let c96_2753 : Index := 96#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6176 : Index := Scalar.indexCast v4268
  ![5, 96, v6176.toNat]
def k0_off187 (i : grid0.Coords) (k0_t2 : Fin (k0_t2_loop i).trips) : Fin 3 → Nat :=
  let c6_2760 : Index := 6#32
  let c96_2761 : Index := 96#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6198 : Index := Scalar.indexCast v4268
  ![6, 96, v6198.toNat]
def k0_off188 (i : grid0.Coords) (k0_t2 : Fin (k0_t2_loop i).trips) : Fin 3 → Nat :=
  let c7_2768 : Index := 7#32
  let c96_2769 : Index := 96#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6220 : Index := Scalar.indexCast v4268
  ![7, 96, v6220.toNat]
def k0_off189 (i : grid0.Coords) (k0_t2 : Fin (k0_t2_loop i).trips) : Fin 3 → Nat :=
  let c8_2776 : Index := 8#32
  let c96_2777 : Index := 96#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6242 : Index := Scalar.indexCast v4268
  ![8, 96, v6242.toNat]
def k0_off190 (i : grid0.Coords) (k0_t2 : Fin (k0_t2_loop i).trips) : Fin 3 → Nat :=
  let c9_2784 : Index := 9#32
  let c96_2785 : Index := 96#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6264 : Index := Scalar.indexCast v4268
  ![9, 96, v6264.toNat]
def k0_off191 (i : grid0.Coords) (k0_t2 : Fin (k0_t2_loop i).trips) : Fin 3 → Nat :=
  let c10_2792 : Index := 10#32
  let c96_2793 : Index := 96#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6286 : Index := Scalar.indexCast v4268
  ![10, 96, v6286.toNat]
def k0_off192 (i : grid0.Coords) (k0_t2 : Fin (k0_t2_loop i).trips) : Fin 3 → Nat :=
  let c11_2800 : Index := 11#32
  let c96_2801 : Index := 96#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6308 : Index := Scalar.indexCast v4268
  ![11, 96, v6308.toNat]
def k0_off193 (i : grid0.Coords) (k0_t2 : Fin (k0_t2_loop i).trips) : Fin 3 → Nat :=
  let c0_2825 : Index := 0#32
  let c112_2826 : Index := 112#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6356 : Index := Scalar.indexCast v4268
  ![0, 112, v6356.toNat]
def k0_off194 (i : grid0.Coords) (k0_t2 : Fin (k0_t2_loop i).trips) : Fin 3 → Nat :=
  let c1_2833 : Index := 1#32
  let c112_2834 : Index := 112#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6378 : Index := Scalar.indexCast v4268
  ![1, 112, v6378.toNat]
def k0_off195 (i : grid0.Coords) (k0_t2 : Fin (k0_t2_loop i).trips) : Fin 3 → Nat :=
  let c2_2841 : Index := 2#32
  let c112_2842 : Index := 112#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6400 : Index := Scalar.indexCast v4268
  ![2, 112, v6400.toNat]
def k0_off196 (i : grid0.Coords) (k0_t2 : Fin (k0_t2_loop i).trips) : Fin 3 → Nat :=
  let c3_2849 : Index := 3#32
  let c112_2850 : Index := 112#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6422 : Index := Scalar.indexCast v4268
  ![3, 112, v6422.toNat]
def k0_off197 (i : grid0.Coords) (k0_t2 : Fin (k0_t2_loop i).trips) : Fin 3 → Nat :=
  let c4_2857 : Index := 4#32
  let c112_2858 : Index := 112#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6444 : Index := Scalar.indexCast v4268
  ![4, 112, v6444.toNat]
def k0_off198 (i : grid0.Coords) (k0_t2 : Fin (k0_t2_loop i).trips) : Fin 3 → Nat :=
  let c5_2865 : Index := 5#32
  let c112_2866 : Index := 112#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6466 : Index := Scalar.indexCast v4268
  ![5, 112, v6466.toNat]
def k0_off199 (i : grid0.Coords) (k0_t2 : Fin (k0_t2_loop i).trips) : Fin 3 → Nat :=
  let c6_2873 : Index := 6#32
  let c112_2874 : Index := 112#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6488 : Index := Scalar.indexCast v4268
  ![6, 112, v6488.toNat]
def k0_off200 (i : grid0.Coords) (k0_t2 : Fin (k0_t2_loop i).trips) : Fin 3 → Nat :=
  let c7_2881 : Index := 7#32
  let c112_2882 : Index := 112#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6510 : Index := Scalar.indexCast v4268
  ![7, 112, v6510.toNat]
def k0_off201 (i : grid0.Coords) (k0_t2 : Fin (k0_t2_loop i).trips) : Fin 3 → Nat :=
  let c8_2889 : Index := 8#32
  let c112_2890 : Index := 112#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6532 : Index := Scalar.indexCast v4268
  ![8, 112, v6532.toNat]
def k0_off202 (i : grid0.Coords) (k0_t2 : Fin (k0_t2_loop i).trips) : Fin 3 → Nat :=
  let c9_2897 : Index := 9#32
  let c112_2898 : Index := 112#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6554 : Index := Scalar.indexCast v4268
  ![9, 112, v6554.toNat]
def k0_off203 (i : grid0.Coords) (k0_t2 : Fin (k0_t2_loop i).trips) : Fin 3 → Nat :=
  let c10_2905 : Index := 10#32
  let c112_2906 : Index := 112#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6576 : Index := Scalar.indexCast v4268
  ![10, 112, v6576.toNat]
def k0_off204 (i : grid0.Coords) (k0_t2 : Fin (k0_t2_loop i).trips) : Fin 3 → Nat :=
  let c11_2913 : Index := 11#32
  let c112_2914 : Index := 112#32
  let c0_i32_713 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_711 : BitVec 32 := 1#32
  let v1260 : BitVec 32 := Scalar.subi v20 c1_i32_711
  let v1261 : BitVec 32 := Scalar.subi v1260 c0_i32_713
  let c1_i32_714 : BitVec 32 := 1#32
  let v1263 : BitVec 32 := Scalar.divsi v1261 c1_i32_714
  let v1264 : BitVec 32 := Scalar.muli v1263 c1_i32_714
  let v1265 : BitVec 32 := Scalar.addi c0_i32_713 v1264
  let c1_i32_716 : BitVec 32 := 1#32
  let arg18 : BitVec 32 := Scf.iv v1265 c1_i32_716 k0_t2
  let c256_i32_2004 : BitVec 32 := 256#32
  let v4267 : BitVec 32 := Scalar.muli arg18 c256_i32_2004
  let v4268 : BitVec 32 := v4267
  let v6598 : Index := Scalar.indexCast v4268
  ![11, 112, v6598.toNat]
def k0_mult3 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  v1267
def k0_off205 (i : grid0.Coords) : Fin 4 → Nat :=
  let c0_719 : Index := 0#32
  let c0_720 : Index := 0#32
  let c0_721 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1269 : Index := Scalar.indexCast v1268
  ![0, 0, 0, v1269.toNat]
def k0_off206 (i : grid0.Coords) : Fin 3 → Nat :=
  let c0_722 : Index := 0#32
  let c0_723 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1273 : Index := Scalar.indexCast v1268
  ![0, 0, v1273.toNat]
def k0_off207 (i : grid0.Coords) : Fin 4 → Nat :=
  let c0_725 : Index := 0#32
  let c1_726 : Index := 1#32
  let c0_727 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1280 : Index := Scalar.indexCast v1268
  ![0, 1, 0, v1280.toNat]
def k0_off208 (i : grid0.Coords) : Fin 3 → Nat :=
  let c0_728 : Index := 0#32
  let c1_729 : Index := 1#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1284 : Index := Scalar.indexCast v1268
  ![0, 1, v1284.toNat]
def k0_off209 (i : grid0.Coords) : Fin 3 → Nat :=
  let c0_734 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1293 : Index := Scalar.indexCast v1268
  let c0_735 : Index := 0#32
  ![0, v1293.toNat, 0]
def k0_off210 (i : grid0.Coords) : Fin 3 → Nat :=
  let c0_741 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1305 : Index := Scalar.indexCast v1268
  let c128_742 : Index := 128#32
  ![0, v1305.toNat, 128]
def k0_off211 (i : grid0.Coords) : Fin 3 → Nat :=
  let c0_751 : Index := 0#32
  let c0_752 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1337 : Index := Scalar.indexCast v1268
  ![0, 0, v1337.toNat]
def k0_off212 (i : grid0.Coords) : Fin 3 → Nat :=
  let c1_760 : Index := 1#32
  let c0_761 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1361 : Index := Scalar.indexCast v1268
  ![1, 0, v1361.toNat]
def k0_off213 (i : grid0.Coords) : Fin 3 → Nat :=
  let c2_769 : Index := 2#32
  let c0_770 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1385 : Index := Scalar.indexCast v1268
  ![2, 0, v1385.toNat]
def k0_off214 (i : grid0.Coords) : Fin 3 → Nat :=
  let c3_778 : Index := 3#32
  let c0_779 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1409 : Index := Scalar.indexCast v1268
  ![3, 0, v1409.toNat]
def k0_off215 (i : grid0.Coords) : Fin 3 → Nat :=
  let c4_787 : Index := 4#32
  let c0_788 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1433 : Index := Scalar.indexCast v1268
  ![4, 0, v1433.toNat]
def k0_off216 (i : grid0.Coords) : Fin 3 → Nat :=
  let c5_796 : Index := 5#32
  let c0_797 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1457 : Index := Scalar.indexCast v1268
  ![5, 0, v1457.toNat]
def k0_off217 (i : grid0.Coords) : Fin 3 → Nat :=
  let c6_805 : Index := 6#32
  let c0_806 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1481 : Index := Scalar.indexCast v1268
  ![6, 0, v1481.toNat]
def k0_off218 (i : grid0.Coords) : Fin 3 → Nat :=
  let c7_814 : Index := 7#32
  let c0_815 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1505 : Index := Scalar.indexCast v1268
  ![7, 0, v1505.toNat]
def k0_off219 (i : grid0.Coords) : Fin 3 → Nat :=
  let c8 : Index := 8#32
  let c0_823 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1529 : Index := Scalar.indexCast v1268
  ![8, 0, v1529.toNat]
def k0_off220 (i : grid0.Coords) : Fin 3 → Nat :=
  let c9 : Index := 9#32
  let c0_831 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1553 : Index := Scalar.indexCast v1268
  ![9, 0, v1553.toNat]
def k0_off221 (i : grid0.Coords) : Fin 3 → Nat :=
  let c10 : Index := 10#32
  let c0_839 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1577 : Index := Scalar.indexCast v1268
  ![10, 0, v1577.toNat]
def k0_off222 (i : grid0.Coords) : Fin 3 → Nat :=
  let c11 : Index := 11#32
  let c0_847 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1601 : Index := Scalar.indexCast v1268
  ![11, 0, v1601.toNat]
def k0_off223 (i : grid0.Coords) : Fin 3 → Nat :=
  let c0_873 : Index := 0#32
  let c16_874 : Index := 16#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1660 : Index := Scalar.indexCast v1268
  ![0, 16, v1660.toNat]
def k0_off224 (i : grid0.Coords) : Fin 3 → Nat :=
  let c1_882 : Index := 1#32
  let c16_883 : Index := 16#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1684 : Index := Scalar.indexCast v1268
  ![1, 16, v1684.toNat]
def k0_off225 (i : grid0.Coords) : Fin 3 → Nat :=
  let c2_891 : Index := 2#32
  let c16_892 : Index := 16#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1708 : Index := Scalar.indexCast v1268
  ![2, 16, v1708.toNat]
def k0_off226 (i : grid0.Coords) : Fin 3 → Nat :=
  let c3_900 : Index := 3#32
  let c16_901 : Index := 16#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1732 : Index := Scalar.indexCast v1268
  ![3, 16, v1732.toNat]
def k0_off227 (i : grid0.Coords) : Fin 3 → Nat :=
  let c4_909 : Index := 4#32
  let c16_910 : Index := 16#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1756 : Index := Scalar.indexCast v1268
  ![4, 16, v1756.toNat]
def k0_off228 (i : grid0.Coords) : Fin 3 → Nat :=
  let c5_918 : Index := 5#32
  let c16_919 : Index := 16#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1780 : Index := Scalar.indexCast v1268
  ![5, 16, v1780.toNat]
def k0_off229 (i : grid0.Coords) : Fin 3 → Nat :=
  let c6_927 : Index := 6#32
  let c16_928 : Index := 16#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1804 : Index := Scalar.indexCast v1268
  ![6, 16, v1804.toNat]
def k0_off230 (i : grid0.Coords) : Fin 3 → Nat :=
  let c7_936 : Index := 7#32
  let c16_937 : Index := 16#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1828 : Index := Scalar.indexCast v1268
  ![7, 16, v1828.toNat]
def k0_off231 (i : grid0.Coords) : Fin 3 → Nat :=
  let c8_945 : Index := 8#32
  let c16_946 : Index := 16#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1852 : Index := Scalar.indexCast v1268
  ![8, 16, v1852.toNat]
def k0_off232 (i : grid0.Coords) : Fin 3 → Nat :=
  let c9_954 : Index := 9#32
  let c16_955 : Index := 16#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1876 : Index := Scalar.indexCast v1268
  ![9, 16, v1876.toNat]
def k0_off233 (i : grid0.Coords) : Fin 3 → Nat :=
  let c10_963 : Index := 10#32
  let c16_964 : Index := 16#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1900 : Index := Scalar.indexCast v1268
  ![10, 16, v1900.toNat]
def k0_off234 (i : grid0.Coords) : Fin 3 → Nat :=
  let c11_972 : Index := 11#32
  let c16_973 : Index := 16#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1924 : Index := Scalar.indexCast v1268
  ![11, 16, v1924.toNat]
def k0_off235 (i : grid0.Coords) : Fin 3 → Nat :=
  let c0_999 : Index := 0#32
  let c32_1000 : Index := 32#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v1983 : Index := Scalar.indexCast v1268
  ![0, 32, v1983.toNat]
def k0_off236 (i : grid0.Coords) : Fin 3 → Nat :=
  let c1_1008 : Index := 1#32
  let c32_1009 : Index := 32#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2007 : Index := Scalar.indexCast v1268
  ![1, 32, v2007.toNat]
def k0_off237 (i : grid0.Coords) : Fin 3 → Nat :=
  let c2_1017 : Index := 2#32
  let c32_1018 : Index := 32#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2031 : Index := Scalar.indexCast v1268
  ![2, 32, v2031.toNat]
def k0_off238 (i : grid0.Coords) : Fin 3 → Nat :=
  let c3_1026 : Index := 3#32
  let c32_1027 : Index := 32#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2055 : Index := Scalar.indexCast v1268
  ![3, 32, v2055.toNat]
def k0_off239 (i : grid0.Coords) : Fin 3 → Nat :=
  let c4_1035 : Index := 4#32
  let c32_1036 : Index := 32#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2079 : Index := Scalar.indexCast v1268
  ![4, 32, v2079.toNat]
def k0_off240 (i : grid0.Coords) : Fin 3 → Nat :=
  let c5_1044 : Index := 5#32
  let c32_1045 : Index := 32#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2103 : Index := Scalar.indexCast v1268
  ![5, 32, v2103.toNat]
def k0_off241 (i : grid0.Coords) : Fin 3 → Nat :=
  let c6_1053 : Index := 6#32
  let c32_1054 : Index := 32#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2127 : Index := Scalar.indexCast v1268
  ![6, 32, v2127.toNat]
def k0_off242 (i : grid0.Coords) : Fin 3 → Nat :=
  let c7_1062 : Index := 7#32
  let c32_1063 : Index := 32#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2151 : Index := Scalar.indexCast v1268
  ![7, 32, v2151.toNat]
def k0_off243 (i : grid0.Coords) : Fin 3 → Nat :=
  let c8_1071 : Index := 8#32
  let c32_1072 : Index := 32#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2175 : Index := Scalar.indexCast v1268
  ![8, 32, v2175.toNat]
def k0_off244 (i : grid0.Coords) : Fin 3 → Nat :=
  let c9_1080 : Index := 9#32
  let c32_1081 : Index := 32#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2199 : Index := Scalar.indexCast v1268
  ![9, 32, v2199.toNat]
def k0_off245 (i : grid0.Coords) : Fin 3 → Nat :=
  let c10_1089 : Index := 10#32
  let c32_1090 : Index := 32#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2223 : Index := Scalar.indexCast v1268
  ![10, 32, v2223.toNat]
def k0_off246 (i : grid0.Coords) : Fin 3 → Nat :=
  let c11_1098 : Index := 11#32
  let c32_1099 : Index := 32#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2247 : Index := Scalar.indexCast v1268
  ![11, 32, v2247.toNat]
def k0_off247 (i : grid0.Coords) : Fin 3 → Nat :=
  let c0_1125 : Index := 0#32
  let c48_1126 : Index := 48#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2306 : Index := Scalar.indexCast v1268
  ![0, 48, v2306.toNat]
def k0_off248 (i : grid0.Coords) : Fin 3 → Nat :=
  let c1_1134 : Index := 1#32
  let c48_1135 : Index := 48#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2330 : Index := Scalar.indexCast v1268
  ![1, 48, v2330.toNat]
def k0_off249 (i : grid0.Coords) : Fin 3 → Nat :=
  let c2_1143 : Index := 2#32
  let c48_1144 : Index := 48#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2354 : Index := Scalar.indexCast v1268
  ![2, 48, v2354.toNat]
def k0_off250 (i : grid0.Coords) : Fin 3 → Nat :=
  let c3_1152 : Index := 3#32
  let c48_1153 : Index := 48#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2378 : Index := Scalar.indexCast v1268
  ![3, 48, v2378.toNat]
def k0_off251 (i : grid0.Coords) : Fin 3 → Nat :=
  let c4_1161 : Index := 4#32
  let c48_1162 : Index := 48#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2402 : Index := Scalar.indexCast v1268
  ![4, 48, v2402.toNat]
def k0_off252 (i : grid0.Coords) : Fin 3 → Nat :=
  let c5_1170 : Index := 5#32
  let c48_1171 : Index := 48#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2426 : Index := Scalar.indexCast v1268
  ![5, 48, v2426.toNat]
def k0_off253 (i : grid0.Coords) : Fin 3 → Nat :=
  let c6_1179 : Index := 6#32
  let c48_1180 : Index := 48#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2450 : Index := Scalar.indexCast v1268
  ![6, 48, v2450.toNat]
def k0_off254 (i : grid0.Coords) : Fin 3 → Nat :=
  let c7_1188 : Index := 7#32
  let c48_1189 : Index := 48#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2474 : Index := Scalar.indexCast v1268
  ![7, 48, v2474.toNat]
def k0_off255 (i : grid0.Coords) : Fin 3 → Nat :=
  let c8_1197 : Index := 8#32
  let c48_1198 : Index := 48#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2498 : Index := Scalar.indexCast v1268
  ![8, 48, v2498.toNat]
def k0_off256 (i : grid0.Coords) : Fin 3 → Nat :=
  let c9_1206 : Index := 9#32
  let c48_1207 : Index := 48#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2522 : Index := Scalar.indexCast v1268
  ![9, 48, v2522.toNat]
def k0_off257 (i : grid0.Coords) : Fin 3 → Nat :=
  let c10_1215 : Index := 10#32
  let c48_1216 : Index := 48#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2546 : Index := Scalar.indexCast v1268
  ![10, 48, v2546.toNat]
def k0_off258 (i : grid0.Coords) : Fin 3 → Nat :=
  let c11_1224 : Index := 11#32
  let c48_1225 : Index := 48#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2570 : Index := Scalar.indexCast v1268
  ![11, 48, v2570.toNat]
def k0_off259 (i : grid0.Coords) : Fin 3 → Nat :=
  let c0_1251 : Index := 0#32
  let c64_1252 : Index := 64#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2629 : Index := Scalar.indexCast v1268
  ![0, 64, v2629.toNat]
def k0_off260 (i : grid0.Coords) : Fin 3 → Nat :=
  let c1_1260 : Index := 1#32
  let c64_1261 : Index := 64#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2653 : Index := Scalar.indexCast v1268
  ![1, 64, v2653.toNat]
def k0_off261 (i : grid0.Coords) : Fin 3 → Nat :=
  let c2_1269 : Index := 2#32
  let c64_1270 : Index := 64#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2677 : Index := Scalar.indexCast v1268
  ![2, 64, v2677.toNat]
def k0_off262 (i : grid0.Coords) : Fin 3 → Nat :=
  let c3_1278 : Index := 3#32
  let c64_1279 : Index := 64#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2701 : Index := Scalar.indexCast v1268
  ![3, 64, v2701.toNat]
def k0_off263 (i : grid0.Coords) : Fin 3 → Nat :=
  let c4_1287 : Index := 4#32
  let c64_1288 : Index := 64#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2725 : Index := Scalar.indexCast v1268
  ![4, 64, v2725.toNat]
def k0_off264 (i : grid0.Coords) : Fin 3 → Nat :=
  let c5_1296 : Index := 5#32
  let c64_1297 : Index := 64#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2749 : Index := Scalar.indexCast v1268
  ![5, 64, v2749.toNat]
def k0_off265 (i : grid0.Coords) : Fin 3 → Nat :=
  let c6_1305 : Index := 6#32
  let c64_1306 : Index := 64#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2773 : Index := Scalar.indexCast v1268
  ![6, 64, v2773.toNat]
def k0_off266 (i : grid0.Coords) : Fin 3 → Nat :=
  let c7_1314 : Index := 7#32
  let c64_1315 : Index := 64#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2797 : Index := Scalar.indexCast v1268
  ![7, 64, v2797.toNat]
def k0_off267 (i : grid0.Coords) : Fin 3 → Nat :=
  let c8_1323 : Index := 8#32
  let c64_1324 : Index := 64#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2821 : Index := Scalar.indexCast v1268
  ![8, 64, v2821.toNat]
def k0_off268 (i : grid0.Coords) : Fin 3 → Nat :=
  let c9_1332 : Index := 9#32
  let c64_1333 : Index := 64#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2845 : Index := Scalar.indexCast v1268
  ![9, 64, v2845.toNat]
def k0_off269 (i : grid0.Coords) : Fin 3 → Nat :=
  let c10_1341 : Index := 10#32
  let c64_1342 : Index := 64#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2869 : Index := Scalar.indexCast v1268
  ![10, 64, v2869.toNat]
def k0_off270 (i : grid0.Coords) : Fin 3 → Nat :=
  let c11_1350 : Index := 11#32
  let c64_1351 : Index := 64#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2893 : Index := Scalar.indexCast v1268
  ![11, 64, v2893.toNat]
def k0_off271 (i : grid0.Coords) : Fin 3 → Nat :=
  let c0_1377 : Index := 0#32
  let c80_1378 : Index := 80#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2952 : Index := Scalar.indexCast v1268
  ![0, 80, v2952.toNat]
def k0_off272 (i : grid0.Coords) : Fin 3 → Nat :=
  let c1_1386 : Index := 1#32
  let c80_1387 : Index := 80#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v2976 : Index := Scalar.indexCast v1268
  ![1, 80, v2976.toNat]
def k0_off273 (i : grid0.Coords) : Fin 3 → Nat :=
  let c2_1395 : Index := 2#32
  let c80_1396 : Index := 80#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3000 : Index := Scalar.indexCast v1268
  ![2, 80, v3000.toNat]
def k0_off274 (i : grid0.Coords) : Fin 3 → Nat :=
  let c3_1404 : Index := 3#32
  let c80_1405 : Index := 80#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3024 : Index := Scalar.indexCast v1268
  ![3, 80, v3024.toNat]
def k0_off275 (i : grid0.Coords) : Fin 3 → Nat :=
  let c4_1413 : Index := 4#32
  let c80_1414 : Index := 80#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3048 : Index := Scalar.indexCast v1268
  ![4, 80, v3048.toNat]
def k0_off276 (i : grid0.Coords) : Fin 3 → Nat :=
  let c5_1422 : Index := 5#32
  let c80_1423 : Index := 80#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3072 : Index := Scalar.indexCast v1268
  ![5, 80, v3072.toNat]
def k0_off277 (i : grid0.Coords) : Fin 3 → Nat :=
  let c6_1431 : Index := 6#32
  let c80_1432 : Index := 80#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3096 : Index := Scalar.indexCast v1268
  ![6, 80, v3096.toNat]
def k0_off278 (i : grid0.Coords) : Fin 3 → Nat :=
  let c7_1440 : Index := 7#32
  let c80_1441 : Index := 80#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3120 : Index := Scalar.indexCast v1268
  ![7, 80, v3120.toNat]
def k0_off279 (i : grid0.Coords) : Fin 3 → Nat :=
  let c8_1449 : Index := 8#32
  let c80_1450 : Index := 80#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3144 : Index := Scalar.indexCast v1268
  ![8, 80, v3144.toNat]
def k0_off280 (i : grid0.Coords) : Fin 3 → Nat :=
  let c9_1458 : Index := 9#32
  let c80_1459 : Index := 80#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3168 : Index := Scalar.indexCast v1268
  ![9, 80, v3168.toNat]
def k0_off281 (i : grid0.Coords) : Fin 3 → Nat :=
  let c10_1467 : Index := 10#32
  let c80_1468 : Index := 80#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3192 : Index := Scalar.indexCast v1268
  ![10, 80, v3192.toNat]
def k0_off282 (i : grid0.Coords) : Fin 3 → Nat :=
  let c11_1476 : Index := 11#32
  let c80_1477 : Index := 80#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3216 : Index := Scalar.indexCast v1268
  ![11, 80, v3216.toNat]
def k0_off283 (i : grid0.Coords) : Fin 3 → Nat :=
  let c0_1503 : Index := 0#32
  let c96_1504 : Index := 96#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3275 : Index := Scalar.indexCast v1268
  ![0, 96, v3275.toNat]
def k0_off284 (i : grid0.Coords) : Fin 3 → Nat :=
  let c1_1512 : Index := 1#32
  let c96_1513 : Index := 96#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3299 : Index := Scalar.indexCast v1268
  ![1, 96, v3299.toNat]
def k0_off285 (i : grid0.Coords) : Fin 3 → Nat :=
  let c2_1521 : Index := 2#32
  let c96_1522 : Index := 96#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3323 : Index := Scalar.indexCast v1268
  ![2, 96, v3323.toNat]
def k0_off286 (i : grid0.Coords) : Fin 3 → Nat :=
  let c3_1530 : Index := 3#32
  let c96_1531 : Index := 96#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3347 : Index := Scalar.indexCast v1268
  ![3, 96, v3347.toNat]
def k0_off287 (i : grid0.Coords) : Fin 3 → Nat :=
  let c4_1539 : Index := 4#32
  let c96_1540 : Index := 96#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3371 : Index := Scalar.indexCast v1268
  ![4, 96, v3371.toNat]
def k0_off288 (i : grid0.Coords) : Fin 3 → Nat :=
  let c5_1548 : Index := 5#32
  let c96_1549 : Index := 96#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3395 : Index := Scalar.indexCast v1268
  ![5, 96, v3395.toNat]
def k0_off289 (i : grid0.Coords) : Fin 3 → Nat :=
  let c6_1557 : Index := 6#32
  let c96_1558 : Index := 96#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3419 : Index := Scalar.indexCast v1268
  ![6, 96, v3419.toNat]
def k0_off290 (i : grid0.Coords) : Fin 3 → Nat :=
  let c7_1566 : Index := 7#32
  let c96_1567 : Index := 96#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3443 : Index := Scalar.indexCast v1268
  ![7, 96, v3443.toNat]
def k0_off291 (i : grid0.Coords) : Fin 3 → Nat :=
  let c8_1575 : Index := 8#32
  let c96_1576 : Index := 96#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3467 : Index := Scalar.indexCast v1268
  ![8, 96, v3467.toNat]
def k0_off292 (i : grid0.Coords) : Fin 3 → Nat :=
  let c9_1584 : Index := 9#32
  let c96_1585 : Index := 96#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3491 : Index := Scalar.indexCast v1268
  ![9, 96, v3491.toNat]
def k0_off293 (i : grid0.Coords) : Fin 3 → Nat :=
  let c10_1593 : Index := 10#32
  let c96_1594 : Index := 96#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3515 : Index := Scalar.indexCast v1268
  ![10, 96, v3515.toNat]
def k0_off294 (i : grid0.Coords) : Fin 3 → Nat :=
  let c11_1602 : Index := 11#32
  let c96_1603 : Index := 96#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3539 : Index := Scalar.indexCast v1268
  ![11, 96, v3539.toNat]
def k0_off295 (i : grid0.Coords) : Fin 3 → Nat :=
  let c0_1629 : Index := 0#32
  let c112_1630 : Index := 112#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3598 : Index := Scalar.indexCast v1268
  ![0, 112, v3598.toNat]
def k0_off296 (i : grid0.Coords) : Fin 3 → Nat :=
  let c1_1638 : Index := 1#32
  let c112_1639 : Index := 112#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3622 : Index := Scalar.indexCast v1268
  ![1, 112, v3622.toNat]
def k0_off297 (i : grid0.Coords) : Fin 3 → Nat :=
  let c2_1647 : Index := 2#32
  let c112_1648 : Index := 112#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3646 : Index := Scalar.indexCast v1268
  ![2, 112, v3646.toNat]
def k0_off298 (i : grid0.Coords) : Fin 3 → Nat :=
  let c3_1656 : Index := 3#32
  let c112_1657 : Index := 112#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3670 : Index := Scalar.indexCast v1268
  ![3, 112, v3670.toNat]
def k0_off299 (i : grid0.Coords) : Fin 3 → Nat :=
  let c4_1665 : Index := 4#32
  let c112_1666 : Index := 112#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3694 : Index := Scalar.indexCast v1268
  ![4, 112, v3694.toNat]
def k0_off300 (i : grid0.Coords) : Fin 3 → Nat :=
  let c5_1674 : Index := 5#32
  let c112_1675 : Index := 112#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3718 : Index := Scalar.indexCast v1268
  ![5, 112, v3718.toNat]
def k0_off301 (i : grid0.Coords) : Fin 3 → Nat :=
  let c6_1683 : Index := 6#32
  let c112_1684 : Index := 112#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3742 : Index := Scalar.indexCast v1268
  ![6, 112, v3742.toNat]
def k0_off302 (i : grid0.Coords) : Fin 3 → Nat :=
  let c7_1692 : Index := 7#32
  let c112_1693 : Index := 112#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3766 : Index := Scalar.indexCast v1268
  ![7, 112, v3766.toNat]
def k0_off303 (i : grid0.Coords) : Fin 3 → Nat :=
  let c8_1701 : Index := 8#32
  let c112_1702 : Index := 112#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3790 : Index := Scalar.indexCast v1268
  ![8, 112, v3790.toNat]
def k0_off304 (i : grid0.Coords) : Fin 3 → Nat :=
  let c9_1710 : Index := 9#32
  let c112_1711 : Index := 112#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3814 : Index := Scalar.indexCast v1268
  ![9, 112, v3814.toNat]
def k0_off305 (i : grid0.Coords) : Fin 3 → Nat :=
  let c10_1719 : Index := 10#32
  let c112_1720 : Index := 112#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3838 : Index := Scalar.indexCast v1268
  ![10, 112, v3838.toNat]
def k0_off306 (i : grid0.Coords) : Fin 3 → Nat :=
  let c11_1728 : Index := 11#32
  let c112_1729 : Index := 112#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_717 : BitVec 32 := 1#32
  let v1266 : BitVec 32 := Scalar.subi v20 c1_i32_717
  let c256_i32_718 : BitVec 32 := 256#32
  let v1267 : BitVec 32 := Scalar.muli v1266 c256_i32_718
  let v1268 : BitVec 32 := v1267
  let v3862 : Index := Scalar.indexCast v1268
  ![11, 112, v3862.toNat]
@[reducible] def k0_t3_loop (i : grid0.Coords) : Scf.Loop 32 :=
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1831 : BitVec 32 := 1#32
  ⟨c0_i32_1829, v3995, c1_i32_1831⟩
def k0_mult4 (i : grid0.Coords) (k0_t3 : Fin (k0_t3_loop i).trips) : BitVec 32 :=
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  v4267
def k0_off307 (i : grid0.Coords) (k0_t3 : Fin (k0_t3_loop i).trips) : Fin 3 → Nat :=
  let c0_2005 : Index := 0#32
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  let v4268 : BitVec 32 := v4267
  let v4269 : Index := Scalar.indexCast v4268
  let c0_2006 : Index := 0#32
  ![0, v4269.toNat, 0]
def k0_off308 (i : grid0.Coords) (k0_t3 : Fin (k0_t3_loop i).trips) : Fin 3 → Nat :=
  let c0_2007 : Index := 0#32
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  let v4268 : BitVec 32 := v4267
  let v4273 : Index := Scalar.indexCast v4268
  let c128_2008 : Index := 128#32
  ![0, v4273.toNat, 128]
def k0_off309 (i : grid0.Coords) (k0_t3 : Fin (k0_t3_loop i).trips) : Fin 4 → Nat :=
  let c0_2009 : Index := 0#32
  let c0_2010 : Index := 0#32
  let c0_2011 : Index := 0#32
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  let v4268 : BitVec 32 := v4267
  let v4277 : Index := Scalar.indexCast v4268
  ![0, 0, 0, v4277.toNat]
def k0_off310 (i : grid0.Coords) (k0_t3 : Fin (k0_t3_loop i).trips) : Fin 3 → Nat :=
  let c0_2012 : Index := 0#32
  let c0_2013 : Index := 0#32
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  let v4268 : BitVec 32 := v4267
  let v4281 : Index := Scalar.indexCast v4268
  ![0, 0, v4281.toNat]
def k0_off311 (i : grid0.Coords) (k0_t3 : Fin (k0_t3_loop i).trips) : Fin 4 → Nat :=
  let c0_2015 : Index := 0#32
  let c1_2016 : Index := 1#32
  let c0_2017 : Index := 0#32
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  let v4268 : BitVec 32 := v4267
  let v4288 : Index := Scalar.indexCast v4268
  ![0, 1, 0, v4288.toNat]
def k0_off312 (i : grid0.Coords) (k0_t3 : Fin (k0_t3_loop i).trips) : Fin 3 → Nat :=
  let c0_2018 : Index := 0#32
  let c1_2019 : Index := 1#32
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  let v4268 : BitVec 32 := v4267
  let v4292 : Index := Scalar.indexCast v4268
  ![0, 1, v4292.toNat]
def k0_off313 (i : grid0.Coords) (k0_t3 : Fin (k0_t3_loop i).trips) (c0_i32_2024 : BitVec 32) : Fin 3 → Nat :=
  let c0_2025 : Index := 0#32
  let c0_2026 : Index := 0#32
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  let v4268 : BitVec 32 := v4267
  let v4301 : BitVec 32 := Scalar.addi v4268 c0_i32_2024
  let v4302 : Index := Scalar.indexCast v4301
  ![0, 0, v4302.toNat]
def k0_off314 (i : grid0.Coords) (k0_t3 : Fin (k0_t3_loop i).trips) (c0_i32_2047 : BitVec 32) : Fin 3 → Nat :=
  let c1_2048 : Index := 1#32
  let c0_2049 : Index := 0#32
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  let v4268 : BitVec 32 := v4267
  let v4340 : BitVec 32 := Scalar.addi v4268 c0_i32_2047
  let v4341 : Index := Scalar.indexCast v4340
  ![1, 0, v4341.toNat]
def k0_off315 (i : grid0.Coords) (k0_t3 : Fin (k0_t3_loop i).trips) (c0_i32_2070 : BitVec 32) : Fin 3 → Nat :=
  let c2_2071 : Index := 2#32
  let c0_2072 : Index := 0#32
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  let v4268 : BitVec 32 := v4267
  let v4379 : BitVec 32 := Scalar.addi v4268 c0_i32_2070
  let v4380 : Index := Scalar.indexCast v4379
  ![2, 0, v4380.toNat]
def k0_off316 (i : grid0.Coords) (k0_t3 : Fin (k0_t3_loop i).trips) (c0_i32_2093 : BitVec 32) : Fin 3 → Nat :=
  let c3_2094 : Index := 3#32
  let c0_2095 : Index := 0#32
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  let v4268 : BitVec 32 := v4267
  let v4418 : BitVec 32 := Scalar.addi v4268 c0_i32_2093
  let v4419 : Index := Scalar.indexCast v4418
  ![3, 0, v4419.toNat]
def k0_off317 (i : grid0.Coords) (k0_t3 : Fin (k0_t3_loop i).trips) (c0_i32_2116 : BitVec 32) : Fin 3 → Nat :=
  let c4_2117 : Index := 4#32
  let c0_2118 : Index := 0#32
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  let v4268 : BitVec 32 := v4267
  let v4457 : BitVec 32 := Scalar.addi v4268 c0_i32_2116
  let v4458 : Index := Scalar.indexCast v4457
  ![4, 0, v4458.toNat]
def k0_off318 (i : grid0.Coords) (k0_t3 : Fin (k0_t3_loop i).trips) (c0_i32_2139 : BitVec 32) : Fin 3 → Nat :=
  let c5_2140 : Index := 5#32
  let c0_2141 : Index := 0#32
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  let v4268 : BitVec 32 := v4267
  let v4496 : BitVec 32 := Scalar.addi v4268 c0_i32_2139
  let v4497 : Index := Scalar.indexCast v4496
  ![5, 0, v4497.toNat]
def k0_off319 (i : grid0.Coords) (k0_t3 : Fin (k0_t3_loop i).trips) (c0_i32_2162 : BitVec 32) : Fin 3 → Nat :=
  let c6_2163 : Index := 6#32
  let c0_2164 : Index := 0#32
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  let v4268 : BitVec 32 := v4267
  let v4535 : BitVec 32 := Scalar.addi v4268 c0_i32_2162
  let v4536 : Index := Scalar.indexCast v4535
  ![6, 0, v4536.toNat]
def k0_off320 (i : grid0.Coords) (k0_t3 : Fin (k0_t3_loop i).trips) (c0_i32_2185 : BitVec 32) : Fin 3 → Nat :=
  let c7_2186 : Index := 7#32
  let c0_2187 : Index := 0#32
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  let v4268 : BitVec 32 := v4267
  let v4574 : BitVec 32 := Scalar.addi v4268 c0_i32_2185
  let v4575 : Index := Scalar.indexCast v4574
  ![7, 0, v4575.toNat]
def k0_off321 (i : grid0.Coords) (k0_t3 : Fin (k0_t3_loop i).trips) (c0_i32_2208 : BitVec 32) : Fin 3 → Nat :=
  let c8_2209 : Index := 8#32
  let c0_2210 : Index := 0#32
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  let v4268 : BitVec 32 := v4267
  let v4613 : BitVec 32 := Scalar.addi v4268 c0_i32_2208
  let v4614 : Index := Scalar.indexCast v4613
  ![8, 0, v4614.toNat]
def k0_off322 (i : grid0.Coords) (k0_t3 : Fin (k0_t3_loop i).trips) (c0_i32_2231 : BitVec 32) : Fin 3 → Nat :=
  let c9_2232 : Index := 9#32
  let c0_2233 : Index := 0#32
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  let v4268 : BitVec 32 := v4267
  let v4652 : BitVec 32 := Scalar.addi v4268 c0_i32_2231
  let v4653 : Index := Scalar.indexCast v4652
  ![9, 0, v4653.toNat]
def k0_off323 (i : grid0.Coords) (k0_t3 : Fin (k0_t3_loop i).trips) (c0_i32_2254 : BitVec 32) : Fin 3 → Nat :=
  let c10_2255 : Index := 10#32
  let c0_2256 : Index := 0#32
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  let v4268 : BitVec 32 := v4267
  let v4691 : BitVec 32 := Scalar.addi v4268 c0_i32_2254
  let v4692 : Index := Scalar.indexCast v4691
  ![10, 0, v4692.toNat]
def k0_off324 (i : grid0.Coords) (k0_t3 : Fin (k0_t3_loop i).trips) (c0_i32_2277 : BitVec 32) : Fin 3 → Nat :=
  let c11_2278 : Index := 11#32
  let c0_2279 : Index := 0#32
  let c0_i32_1829 : BitVec 32 := 0#32
  let c1_i32_1831 : BitVec 32 := 1#32
  let arg18 : BitVec 32 := Scf.iv c0_i32_1829 c1_i32_1831 k0_t3
  let c256_i32_2004 : BitVec 32 := 256#32
  let v4267 : BitVec 32 := Scalar.muli arg18 c256_i32_2004
  let v4268 : BitVec 32 := v4267
  let v4730 : BitVec 32 := Scalar.addi v4268 c0_i32_2277
  let v4731 : Index := Scalar.indexCast v4730
  ![11, 0, v4731.toNat]
@[reducible] def k0_t4_loop (i : grid0.Coords) : Scf.Loop 32 :=
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let v3992 : BitVec 32 := Scalar.addi c0_i32_1829 v3991
  let c1_i32_1832 : BitVec 32 := 1#32
  ⟨v3995, v3992, c1_i32_1832⟩
def k0_mult5 (i : grid0.Coords) (k0_t4 : Fin (k0_t4_loop i).trips) : BitVec 32 :=
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  v4267
def k0_off325 (i : grid0.Coords) (k0_t4 : Fin (k0_t4_loop i).trips) : Fin 3 → Nat :=
  let c0_2005 : Index := 0#32
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  let v4268 : BitVec 32 := v4267
  let v4269 : Index := Scalar.indexCast v4268
  let c0_2006 : Index := 0#32
  ![0, v4269.toNat, 0]
def k0_off326 (i : grid0.Coords) (k0_t4 : Fin (k0_t4_loop i).trips) : Fin 3 → Nat :=
  let c0_2007 : Index := 0#32
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  let v4268 : BitVec 32 := v4267
  let v4273 : Index := Scalar.indexCast v4268
  let c128_2008 : Index := 128#32
  ![0, v4273.toNat, 128]
def k0_off327 (i : grid0.Coords) (k0_t4 : Fin (k0_t4_loop i).trips) : Fin 4 → Nat :=
  let c0_2009 : Index := 0#32
  let c0_2010 : Index := 0#32
  let c0_2011 : Index := 0#32
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  let v4268 : BitVec 32 := v4267
  let v4277 : Index := Scalar.indexCast v4268
  ![0, 0, 0, v4277.toNat]
def k0_off328 (i : grid0.Coords) (k0_t4 : Fin (k0_t4_loop i).trips) : Fin 3 → Nat :=
  let c0_2012 : Index := 0#32
  let c0_2013 : Index := 0#32
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  let v4268 : BitVec 32 := v4267
  let v4281 : Index := Scalar.indexCast v4268
  ![0, 0, v4281.toNat]
def k0_off329 (i : grid0.Coords) (k0_t4 : Fin (k0_t4_loop i).trips) : Fin 4 → Nat :=
  let c0_2015 : Index := 0#32
  let c1_2016 : Index := 1#32
  let c0_2017 : Index := 0#32
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  let v4268 : BitVec 32 := v4267
  let v4288 : Index := Scalar.indexCast v4268
  ![0, 1, 0, v4288.toNat]
def k0_off330 (i : grid0.Coords) (k0_t4 : Fin (k0_t4_loop i).trips) : Fin 3 → Nat :=
  let c0_2018 : Index := 0#32
  let c1_2019 : Index := 1#32
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  let v4268 : BitVec 32 := v4267
  let v4292 : Index := Scalar.indexCast v4268
  ![0, 1, v4292.toNat]
def k0_off331 (i : grid0.Coords) (k0_t4 : Fin (k0_t4_loop i).trips) (c0_i32_2024 : BitVec 32) : Fin 3 → Nat :=
  let c0_2025 : Index := 0#32
  let c0_2026 : Index := 0#32
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  let v4268 : BitVec 32 := v4267
  let v4301 : BitVec 32 := Scalar.addi v4268 c0_i32_2024
  let v4302 : Index := Scalar.indexCast v4301
  ![0, 0, v4302.toNat]
def k0_off332 (i : grid0.Coords) (k0_t4 : Fin (k0_t4_loop i).trips) (c0_i32_2047 : BitVec 32) : Fin 3 → Nat :=
  let c1_2048 : Index := 1#32
  let c0_2049 : Index := 0#32
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  let v4268 : BitVec 32 := v4267
  let v4340 : BitVec 32 := Scalar.addi v4268 c0_i32_2047
  let v4341 : Index := Scalar.indexCast v4340
  ![1, 0, v4341.toNat]
def k0_off333 (i : grid0.Coords) (k0_t4 : Fin (k0_t4_loop i).trips) (c0_i32_2070 : BitVec 32) : Fin 3 → Nat :=
  let c2_2071 : Index := 2#32
  let c0_2072 : Index := 0#32
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  let v4268 : BitVec 32 := v4267
  let v4379 : BitVec 32 := Scalar.addi v4268 c0_i32_2070
  let v4380 : Index := Scalar.indexCast v4379
  ![2, 0, v4380.toNat]
def k0_off334 (i : grid0.Coords) (k0_t4 : Fin (k0_t4_loop i).trips) (c0_i32_2093 : BitVec 32) : Fin 3 → Nat :=
  let c3_2094 : Index := 3#32
  let c0_2095 : Index := 0#32
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  let v4268 : BitVec 32 := v4267
  let v4418 : BitVec 32 := Scalar.addi v4268 c0_i32_2093
  let v4419 : Index := Scalar.indexCast v4418
  ![3, 0, v4419.toNat]
def k0_off335 (i : grid0.Coords) (k0_t4 : Fin (k0_t4_loop i).trips) (c0_i32_2116 : BitVec 32) : Fin 3 → Nat :=
  let c4_2117 : Index := 4#32
  let c0_2118 : Index := 0#32
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  let v4268 : BitVec 32 := v4267
  let v4457 : BitVec 32 := Scalar.addi v4268 c0_i32_2116
  let v4458 : Index := Scalar.indexCast v4457
  ![4, 0, v4458.toNat]
def k0_off336 (i : grid0.Coords) (k0_t4 : Fin (k0_t4_loop i).trips) (c0_i32_2139 : BitVec 32) : Fin 3 → Nat :=
  let c5_2140 : Index := 5#32
  let c0_2141 : Index := 0#32
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  let v4268 : BitVec 32 := v4267
  let v4496 : BitVec 32 := Scalar.addi v4268 c0_i32_2139
  let v4497 : Index := Scalar.indexCast v4496
  ![5, 0, v4497.toNat]
def k0_off337 (i : grid0.Coords) (k0_t4 : Fin (k0_t4_loop i).trips) (c0_i32_2162 : BitVec 32) : Fin 3 → Nat :=
  let c6_2163 : Index := 6#32
  let c0_2164 : Index := 0#32
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  let v4268 : BitVec 32 := v4267
  let v4535 : BitVec 32 := Scalar.addi v4268 c0_i32_2162
  let v4536 : Index := Scalar.indexCast v4535
  ![6, 0, v4536.toNat]
def k0_off338 (i : grid0.Coords) (k0_t4 : Fin (k0_t4_loop i).trips) (c0_i32_2185 : BitVec 32) : Fin 3 → Nat :=
  let c7_2186 : Index := 7#32
  let c0_2187 : Index := 0#32
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  let v4268 : BitVec 32 := v4267
  let v4574 : BitVec 32 := Scalar.addi v4268 c0_i32_2185
  let v4575 : Index := Scalar.indexCast v4574
  ![7, 0, v4575.toNat]
def k0_off339 (i : grid0.Coords) (k0_t4 : Fin (k0_t4_loop i).trips) (c0_i32_2208 : BitVec 32) : Fin 3 → Nat :=
  let c8_2209 : Index := 8#32
  let c0_2210 : Index := 0#32
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  let v4268 : BitVec 32 := v4267
  let v4613 : BitVec 32 := Scalar.addi v4268 c0_i32_2208
  let v4614 : Index := Scalar.indexCast v4613
  ![8, 0, v4614.toNat]
def k0_off340 (i : grid0.Coords) (k0_t4 : Fin (k0_t4_loop i).trips) (c0_i32_2231 : BitVec 32) : Fin 3 → Nat :=
  let c9_2232 : Index := 9#32
  let c0_2233 : Index := 0#32
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  let v4268 : BitVec 32 := v4267
  let v4652 : BitVec 32 := Scalar.addi v4268 c0_i32_2231
  let v4653 : Index := Scalar.indexCast v4652
  ![9, 0, v4653.toNat]
def k0_off341 (i : grid0.Coords) (k0_t4 : Fin (k0_t4_loop i).trips) (c0_i32_2254 : BitVec 32) : Fin 3 → Nat :=
  let c10_2255 : Index := 10#32
  let c0_2256 : Index := 0#32
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  let v4268 : BitVec 32 := v4267
  let v4691 : BitVec 32 := Scalar.addi v4268 c0_i32_2254
  let v4692 : Index := Scalar.indexCast v4691
  ![10, 0, v4692.toNat]
def k0_off342 (i : grid0.Coords) (k0_t4 : Fin (k0_t4_loop i).trips) (c0_i32_2277 : BitVec 32) : Fin 3 → Nat :=
  let c11_2278 : Index := 11#32
  let c0_2279 : Index := 0#32
  let c0_i32_1829 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v3991 : BitVec 32 := Scalar.subi v20 c0_i32_1829
  let c1_i32_1830 : BitVec 32 := 1#32
  let v3993 : BitVec 32 := Scalar.divsi v3991 c1_i32_1830
  let v3994 : BitVec 32 := Scalar.muli v3993 c1_i32_1830
  let v3995 : BitVec 32 := Scalar.addi c0_i32_1829 v3994
  let c1_i32_1832 : BitVec 32 := 1#32
  let arg18 : BitVec 32 := Scf.iv v3995 c1_i32_1832 k0_t4
  let c256_i32_2004 : BitVec 32 := 256#32
  let v4267 : BitVec 32 := Scalar.muli arg18 c256_i32_2004
  let v4268 : BitVec 32 := v4267
  let v4730 : BitVec 32 := Scalar.addi v4268 c0_i32_2277
  let v4731 : Index := Scalar.indexCast v4730
  ![11, 0, v4731.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x12x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x12x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x12x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x12x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "ln2" => some ((Real.log 2 : ℝ) : EReal)
  | "score_scale" => some ((((Real.sqrt 128)⁻¹ * (1 / 16)) * (Real.log 2)⁻¹ : ℝ) : EReal)
  | _ => none
-- ==== ReferenceIdeal.lean ====
abbrev S7x2048x8x12 : Shape := ⟨4, ![7, 2048, 8, 12]⟩
abbrev S7x2048x8 : Shape := ⟨3, ![7, 2048, 8]⟩
abbrev S7x2048x8x128 : Shape := ⟨4, ![7, 2048, 8, 128]⟩
abbrev S7x2048x2x12 : Shape := ⟨4, ![7, 2048, 2, 12]⟩
abbrev S7x2048x2 : Shape := ⟨3, ![7, 2048, 2]⟩
abbrev S7x2048x2x128 : Shape := ⟨4, ![7, 2048, 2, 128]⟩
abbrev S7x2048x2x1 : Shape := ⟨4, ![7, 2048, 2, 1]⟩
abbrev S7x12x2x2048 : Shape := ⟨4, ![7, 12, 2, 2048]⟩
abbrev S_ : Shape := ⟨0, ![]⟩
abbrev S7x2x2048x128 : Shape := ⟨4, ![7, 2, 2048, 128]⟩
abbrev S7x2x2048 : Shape := ⟨3, ![7, 2, 2048]⟩
abbrev S7x2048x8x2x2048 : Shape := ⟨5, ![7, 2048, 8, 2, 2048]⟩
abbrev S7x2048x8x1x1 : Shape := ⟨5, ![7, 2048, 8, 1, 1]⟩
abbrev S7x1x1x2x2048 : Shape := ⟨5, ![7, 1, 1, 2, 2048]⟩
abbrev S7x2048x8x1 : Shape := ⟨4, ![7, 2048, 8, 1]⟩
abbrev S7x12x2048x8 : Shape := ⟨4, ![7, 12, 2048, 8]⟩
abbrev S7x12x2048x1 : Shape := ⟨4, ![7, 12, 2048, 1]⟩
abbrev S7x12x2048 : Shape := ⟨3, ![7, 12, 2048]⟩
abbrev S7x2048x1x1x2048 : Shape := ⟨5, ![7, 2048, 1, 1, 2048]⟩
abbrev S7x2048x2048 : Shape := ⟨3, ![7, 2048, 2048]⟩
abbrev S7x1x2048x2048 : Shape := ⟨4, ![7, 1, 2048, 2048]⟩
abbrev S7x12x2048x2048 : Shape := ⟨4, ![7, 12, 2048, 2048]⟩
abbrev S7x12x1x2048 : Shape := ⟨4, ![7, 12, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S7x12x2048x1x2048 : Shape := ⟨5, ![7, 12, 2048, 1, 2048]⟩
abbrev S7x12x1x2x2048 : Shape := ⟨5, ![7, 12, 1, 2, 2048]⟩
abbrev S7x12x2048x2x2048 : Shape := ⟨5, ![7, 12, 2048, 2, 2048]⟩
abbrev S7x12x2048x128 : Shape := ⟨4, ![7, 12, 2048, 128]⟩
abbrev S7x2048x12x128 : Shape := ⟨4, ![7, 2048, 12, 128]⟩
abbrev S7x2048x1536 : Shape := ⟨3, ![7, 2048, 1536]⟩

abbrev nBuf : Space → Nat
  | .hbm => 264
  | .vmem => 12
  | .smem => 0
  | _ => 0

abbrev hbmTy0_0 (i : Nat) : BufTy := match i % 128 with
  | 0 => ⟨S7x2048x8x12, .i8⟩
  | 1 => ⟨S7x2048x8, .f32⟩
  | 2 => ⟨S7x2048x8x128, .i8⟩
  | 3 => ⟨S7x2048x8, .f32⟩
  | 4 => ⟨S7x2048x2x12, .i8⟩
  | 5 => ⟨S7x2048x2, .f32⟩
  | 6 => ⟨S7x2048x2x128, .i8⟩
  | 7 => ⟨S7x2048x2, .f32⟩
  | 8 => ⟨S7x2048x2x12, .i8⟩
  | 9 => ⟨S7x2048x2, .f32⟩
  | 10 => ⟨S7x2048x2x128, .i8⟩
  | 11 => ⟨S7x2048x2, .f32⟩
  | 12 => ⟨S7x2048x8x12, .fp8e4m3⟩
  | 13 => ⟨S7x2048x8x128, .fp8e4m3⟩
  | 14 => ⟨S7x2048x2x12, .fp8e4m3⟩
  | 15 => ⟨S7x2048x2x128, .fp8e4m3⟩
  | 16 => ⟨S7x2048x2x12, .fp8e4m3⟩
  | 17 => ⟨S7x2048x2x128, .fp8e4m3⟩
  | 18 => ⟨S7x2048x8x12, .f32⟩
  | 19 => ⟨S7x2048x8x128, .f32⟩
  | 20 => ⟨S7x2048x2x12, .f32⟩
  | 21 => ⟨S7x2048x2x128, .f32⟩
  | 22 => ⟨S7x2048x2x12, .f32⟩
  | 23 => ⟨S7x2048x2x128, .f32⟩
  | 24 => ⟨S7x2048x2x1, .f32⟩
  | 25 => ⟨S7x2048x2x12, .f32⟩
  | 26 => ⟨S7x2048x2x12, .f32⟩
  | 27 => ⟨S7x12x2x2048, .f32⟩
  | 28 => ⟨S7x2048x2x1, .f32⟩
  | 29 => ⟨S7x2048x2x12, .f32⟩
  | 30 => ⟨S7x2048x2x12, .f32⟩
  | 31 => ⟨S7x2048x2x1, .f32⟩
  | 32 => ⟨S7x2048x2x12, .f32⟩
  | 33 => ⟨S7x2048x2x12, .f32⟩
  | 34 => ⟨S_, .f32⟩
  | 35 => ⟨S7x2048x2x12, .f32⟩
  | 36 => ⟨S7x2048x2x12, .f32⟩
  | 37 => ⟨S7x12x2x2048, .f32⟩
  | 38 => ⟨S7x2048x2x128, .bf16⟩
  | 39 => ⟨S7x2x2048x128, .bf16⟩
  | 40 => ⟨S7x2x2048x128, .f32⟩
  | 41 => ⟨S7x2x2048, .f32⟩
  | 42 => ⟨S7x2048x8x2x2048, .f32⟩
  | 43 => ⟨S7x2048x8x1x1, .f32⟩
  | 44 => ⟨S7x1x1x2x2048, .f32⟩
  | 45 => ⟨S7x2048x8x2x2048, .f32⟩
  | 46 => ⟨S7x2048x8x2x2048, .f32⟩
  | 47 => ⟨S7x2048x8x2x2048, .f32⟩
  | 48 => ⟨S7x2048x8x2x2048, .f32⟩
  | 49 => ⟨S7x2048x8x1, .f32⟩
  | 50 => ⟨S7x2048x8x12, .f32⟩
  | 51 => ⟨S7x2048x8x12, .f32⟩
  | 52 => ⟨S7x12x2048x8, .f32⟩
  | 53 => ⟨S7x12x2048x1, .f32⟩
  | 54 => ⟨S7x12x2048, .f32⟩
  | 55 => ⟨S7x12x2048x1, .f32⟩
  | 56 => ⟨S7x2048x1x1x2048, .f32⟩
  | 57 => ⟨S7x2048x2048, .f32⟩
  | 58 => ⟨S7x1x2048x2048, .f32⟩
  | 59 => ⟨S7x12x2048x2048, .f32⟩
  | 60 => ⟨S7x12x2048x2048, .f32⟩
  | 61 => ⟨S7x12x2048x2048, .f32⟩
  | 62 => ⟨S7x12x2048x1, .f32⟩
  | 63 => ⟨S7x12x2048, .f32⟩
  | 64 => ⟨S7x12x2048x1, .f32⟩
  | 65 => ⟨S7x2048x1x1x2048, .f32⟩
  | 66 => ⟨S7x2048x2048, .f32⟩
  | 67 => ⟨S7x1x2048x2048, .f32⟩
  | 68 => ⟨S7x12x2048x2048, .f32⟩
  | 69 => ⟨S7x12x2048x2048, .f32⟩
  | 70 => ⟨S7x12x2048x2048, .f32⟩
  | 71 => ⟨S7x12x2048x2048, .f32⟩
  | 72 => ⟨S7x12x2048x1, .f32⟩
  | 73 => ⟨S7x12x2048, .f32⟩
  | 74 => ⟨S7x12x2048x1, .f32⟩
  | 75 => ⟨S7x2048x1x1x2048, .f32⟩
  | 76 => ⟨S7x2048x2048, .f32⟩
  | 77 => ⟨S7x1x2048x2048, .f32⟩
  | 78 => ⟨S7x12x2048x2048, .f32⟩
  | 79 => ⟨S7x12x2048x2048, .f32⟩
  | 80 => ⟨S7x12x2048x2048, .f32⟩
  | 81 => ⟨S7x12x2048x2048, .f32⟩
  | 82 => ⟨S7x12x2048x1, .f32⟩
  | 83 => ⟨S7x12x2048, .f32⟩
  | 84 => ⟨S7x12x2048x1, .f32⟩
  | 85 => ⟨S7x2048x1x1x2048, .f32⟩
  | 86 => ⟨S7x2048x2048, .f32⟩
  | 87 => ⟨S7x1x2048x2048, .f32⟩
  | 88 => ⟨S7x12x2048x2048, .f32⟩
  | 89 => ⟨S7x12x2048x2048, .f32⟩
  | 90 => ⟨S7x12x2048x2048, .f32⟩
  | 91 => ⟨S7x12x2048x2048, .f32⟩
  | 92 => ⟨S7x12x2048x1, .f32⟩
  | 93 => ⟨S7x12x2048, .f32⟩
  | 94 => ⟨S7x12x2048x1, .f32⟩
  | 95 => ⟨S7x2048x1x1x2048, .f32⟩
  | 96 => ⟨S7x2048x2048, .f32⟩
  | 97 => ⟨S7x1x2048x2048, .f32⟩
  | 98 => ⟨S7x12x2048x2048, .f32⟩
  | 99 => ⟨S7x12x2048x2048, .f32⟩
  | 100 => ⟨S7x12x2048x2048, .f32⟩
  | 101 => ⟨S7x12x2048x2048, .f32⟩
  | 102 => ⟨S7x12x2048x1, .f32⟩
  | 103 => ⟨S7x12x2048, .f32⟩
  | 104 => ⟨S7x12x2048x1, .f32⟩
  | 105 => ⟨S7x2048x1x1x2048, .f32⟩
  | 106 => ⟨S7x2048x2048, .f32⟩
  | 107 => ⟨S7x1x2048x2048, .f32⟩
  | 108 => ⟨S7x12x2048x2048, .f32⟩
  | 109 => ⟨S7x12x2048x2048, .f32⟩
  | 110 => ⟨S7x12x2048x2048, .f32⟩
  | 111 => ⟨S7x12x2048x2048, .f32⟩
  | 112 => ⟨S7x12x2048x1, .f32⟩
  | 113 => ⟨S7x12x2048, .f32⟩
  | 114 => ⟨S7x12x2048x1, .f32⟩
  | 115 => ⟨S7x2048x1x1x2048, .f32⟩
  | 116 => ⟨S7x2048x2048, .f32⟩
  | 117 => ⟨S7x1x2048x2048, .f32⟩
  | 118 => ⟨S7x12x2048x2048, .f32⟩
  | 119 => ⟨S7x12x2048x2048, .f32⟩
  | 120 => ⟨S7x12x2048x2048, .f32⟩
  | 121 => ⟨S7x12x2048x2048, .f32⟩
  | 122 => ⟨S7x12x2048x1, .f32⟩
  | 123 => ⟨S7x12x2048, .f32⟩
  | 124 => ⟨S7x12x2048x1, .f32⟩
  | 125 => ⟨S7x2048x1x1x2048, .f32⟩
  | 126 => ⟨S7x2048x2048, .f32⟩
  | 127 => ⟨S7x1x2048x2048, .f32⟩
  | _ => ⟨S7x2048x8x12, .i8⟩

abbrev hbmTy0_1 (i : Nat) : BufTy := match i % 128 with
  | 0 => ⟨S7x12x2048x2048, .f32⟩
  | 1 => ⟨S7x12x2048x2048, .f32⟩
  | 2 => ⟨S7x12x2048x2048, .f32⟩
  | 3 => ⟨S7x12x2048x2048, .f32⟩
  | 4 => ⟨S7x12x1x2048, .f32⟩
  | 5 => ⟨S7x12x2048, .f32⟩
  | 6 => ⟨S7x12x1x2048, .f32⟩
  | 7 => ⟨S7x12x2048x2048, .f32⟩
  | 8 => ⟨S7x12x2048x2048, .f32⟩
  | 9 => ⟨S7x12x2048x1, .f32⟩
  | 10 => ⟨S7x12x2048, .f32⟩
  | 11 => ⟨S7x12x2048x1, .f32⟩
  | 12 => ⟨S7x2048x1x1x2048, .f32⟩
  | 13 => ⟨S7x2048x2048, .f32⟩
  | 14 => ⟨S7x1x2048x2048, .f32⟩
  | 15 => ⟨S7x12x2048x2048, .f32⟩
  | 16 => ⟨S7x12x2048x2048, .f32⟩
  | 17 => ⟨S7x12x2048x2048, .f32⟩
  | 18 => ⟨S7x12x2048x1, .f32⟩
  | 19 => ⟨S7x12x2048, .f32⟩
  | 20 => ⟨S7x12x2048x1, .f32⟩
  | 21 => ⟨S7x2048x1x1x2048, .f32⟩
  | 22 => ⟨S7x2048x2048, .f32⟩
  | 23 => ⟨S7x1x2048x2048, .f32⟩
  | 24 => ⟨S7x12x2048x2048, .f32⟩
  | 25 => ⟨S7x12x2048x2048, .f32⟩
  | 26 => ⟨S7x12x2048x2048, .f32⟩
  | 27 => ⟨S7x12x2048x2048, .f32⟩
  | 28 => ⟨S7x12x2048x1, .f32⟩
  | 29 => ⟨S7x12x2048, .f32⟩
  | 30 => ⟨S7x12x2048x1, .f32⟩
  | 31 => ⟨S7x2048x1x1x2048, .f32⟩
  | 32 => ⟨S7x2048x2048, .f32⟩
  | 33 => ⟨S7x1x2048x2048, .f32⟩
  | 34 => ⟨S7x12x2048x2048, .f32⟩
  | 35 => ⟨S7x12x2048x2048, .f32⟩
  | 36 => ⟨S7x12x2048x2048, .f32⟩
  | 37 => ⟨S7x12x2048x2048, .f32⟩
  | 38 => ⟨S7x12x2048x1, .f32⟩
  | 39 => ⟨S7x12x2048, .f32⟩
  | 40 => ⟨S7x12x2048x1, .f32⟩
  | 41 => ⟨S7x2048x1x1x2048, .f32⟩
  | 42 => ⟨S7x2048x2048, .f32⟩
  | 43 => ⟨S7x1x2048x2048, .f32⟩
  | 44 => ⟨S7x12x2048x2048, .f32⟩
  | 45 => ⟨S7x12x2048x2048, .f32⟩
  | 46 => ⟨S7x12x2048x2048, .f32⟩
  | 47 => ⟨S7x12x2048x2048, .f32⟩
  | 48 => ⟨S7x12x2048x1, .f32⟩
  | 49 => ⟨S7x12x2048, .f32⟩
  | 50 => ⟨S7x12x2048x1, .f32⟩
  | 51 => ⟨S7x2048x1x1x2048, .f32⟩
  | 52 => ⟨S7x2048x2048, .f32⟩
  | 53 => ⟨S7x1x2048x2048, .f32⟩
  | 54 => ⟨S7x12x2048x2048, .f32⟩
  | 55 => ⟨S7x12x2048x2048, .f32⟩
  | 56 => ⟨S7x12x2048x2048, .f32⟩
  | 57 => ⟨S7x12x2048x2048, .f32⟩
  | 58 => ⟨S7x12x2048x1, .f32⟩
  | 59 => ⟨S7x12x2048, .f32⟩
  | 60 => ⟨S7x12x2048x1, .f32⟩
  | 61 => ⟨S7x2048x1x1x2048, .f32⟩
  | 62 => ⟨S7x2048x2048, .f32⟩
  | 63 => ⟨S7x1x2048x2048, .f32⟩
  | 64 => ⟨S7x12x2048x2048, .f32⟩
  | 65 => ⟨S7x12x2048x2048, .f32⟩
  | 66 => ⟨S7x12x2048x2048, .f32⟩
  | 67 => ⟨S7x12x2048x2048, .f32⟩
  | 68 => ⟨S7x12x2048x1, .f32⟩
  | 69 => ⟨S7x12x2048, .f32⟩
  | 70 => ⟨S7x12x2048x1, .f32⟩
  | 71 => ⟨S7x2048x1x1x2048, .f32⟩
  | 72 => ⟨S7x2048x2048, .f32⟩
  | 73 => ⟨S7x1x2048x2048, .f32⟩
  | 74 => ⟨S7x12x2048x2048, .f32⟩
  | 75 => ⟨S7x12x2048x2048, .f32⟩
  | 76 => ⟨S7x12x2048x2048, .f32⟩
  | 77 => ⟨S7x12x2048x2048, .f32⟩
  | 78 => ⟨S7x12x2048x1, .f32⟩
  | 79 => ⟨S7x12x2048, .f32⟩
  | 80 => ⟨S7x12x2048x1, .f32⟩
  | 81 => ⟨S7x2048x1x1x2048, .f32⟩
  | 82 => ⟨S7x2048x2048, .f32⟩
  | 83 => ⟨S7x1x2048x2048, .f32⟩
  | 84 => ⟨S7x12x2048x2048, .f32⟩
  | 85 => ⟨S7x12x2048x2048, .f32⟩
  | 86 => ⟨S7x12x2048x2048, .f32⟩
  | 87 => ⟨S7x12x2048x2048, .f32⟩
  | 88 => ⟨S7x12x1x2048, .f32⟩
  | 89 => ⟨S7x12x2048, .f32⟩
  | 90 => ⟨S7x12x1x2048, .f32⟩
  | 91 => ⟨S7x12x2048x2048, .f32⟩
  | 92 => ⟨S7x12x2048x2048, .f32⟩
  | 93 => ⟨S7x12x2048x2048, .f32⟩
  | 94 => ⟨S_, .f32⟩
  | 95 => ⟨S_, .f32⟩
  | 96 => ⟨S7x12x2048x2048, .f32⟩
  | 97 => ⟨S7x12x2048x2048, .f32⟩
  | 98 => ⟨S_, .f32⟩
  | 99 => ⟨S7x12x2048x2048, .f32⟩
  | 100 => ⟨S7x12x2048x2048, .f32⟩
  | 101 => ⟨S2048, .i32⟩
  | 102 => ⟨S1x2048, .i32⟩
  | 103 => ⟨S2048x1, .i32⟩
  | 104 => ⟨S2048x2048, .i32⟩
  | 105 => ⟨S2048x2048, .i32⟩
  | 106 => ⟨S2048x2048, .i1⟩
  | 107 => ⟨S_, .f32⟩
  | 108 => ⟨S_, .f32⟩
  | 109 => ⟨S7x12x2048x2048, .i1⟩
  | 110 => ⟨S7x12x2048x2048, .f32⟩
  | 111 => ⟨S7x12x2048x2048, .f32⟩
  | 112 => ⟨S_, .f32⟩
  | 113 => ⟨S7x12x2048, .f32⟩
  | 114 => ⟨S7x12x2048x1, .f32⟩
  | 115 => ⟨S7x12x2048x2048, .f32⟩
  | 116 => ⟨S7x12x2048x2048, .f32⟩
  | 117 => ⟨S7x12x2048x2048, .f32⟩
  | 118 => ⟨S_, .f32⟩
  | 119 => ⟨S7x12x2048, .f32⟩
  | 120 => ⟨S7x12x2048x1, .f32⟩
  | 121 => ⟨S7x12x2048x2048, .f32⟩
  | 122 => ⟨S7x12x2048x2048, .f32⟩
  | 123 => ⟨S7x12x2048x1, .f32⟩
  | 124 => ⟨S7x12x2048x1, .f32⟩
  | 125 => ⟨S7x12x2048, .f32⟩
  | 126 => ⟨S7x12x2048x1x2048, .f32⟩
  | 127 => ⟨S7x12x1x2x2048, .f32⟩
  | _ => ⟨S7x2048x8x12, .i8⟩

abbrev hbmTy0_2 (i : Nat) : BufTy := match i % 128 with
  | 0 => ⟨S7x12x2048x2x2048, .f32⟩
  | 1 => ⟨S7x12x2048x2x2048, .f32⟩
  | 2 => ⟨S7x12x2048x2x2048, .f32⟩
  | 3 => ⟨S7x12x2048x2x2048, .bf16⟩
  | 4 => ⟨S7x12x2048x128, .f32⟩
  | 5 => ⟨S7x2048x12x128, .f32⟩
  | 6 => ⟨S7x2048x1536, .f32⟩
  | 7 => ⟨S7x2048x1536, .bf16⟩
  | _ => ⟨S7x2048x8x12, .i8⟩

abbrev hbmTy (i : Nat) : BufTy := match i / 128 with
  | 0 => hbmTy0_0 i
  | 1 => hbmTy0_1 i
  | 2 => hbmTy0_2 i
  | _ => ⟨S7x2048x8x12, .i8⟩

abbrev bufTy : (tb : Table) → Fin (tcTables nBuf tb) → BufTy
  | .hbm, ⟨i, _⟩ => hbmTy i
  | .local _ .vmem, ⟨0, _⟩ => ⟨S7x2048x8x12, .fp8e4m3⟩
  | .local _ .vmem, ⟨1, _⟩ => ⟨S7x2048x8x128, .fp8e4m3⟩
  | .local _ .vmem, ⟨2, _⟩ => ⟨S7x2048x2x12, .fp8e4m3⟩
  | .local _ .vmem, ⟨3, _⟩ => ⟨S7x2048x2x128, .fp8e4m3⟩
  | .local _ .vmem, ⟨4, _⟩ => ⟨S7x2048x2x12, .fp8e4m3⟩
  | .local _ .vmem, ⟨5, _⟩ => ⟨S7x2048x2x128, .fp8e4m3⟩
  | .local _ .vmem, ⟨6, _⟩ => ⟨S7x2048x8x12, .f32⟩
  | .local _ .vmem, ⟨7, _⟩ => ⟨S7x2048x8x128, .f32⟩
  | .local _ .vmem, ⟨8, _⟩ => ⟨S7x2048x2x12, .f32⟩
  | .local _ .vmem, ⟨9, _⟩ => ⟨S7x2048x2x128, .f32⟩
  | .local _ .vmem, ⟨10, _⟩ => ⟨S7x2048x2x12, .f32⟩
  | .local _ .vmem, ⟨11, _⟩ => ⟨S7x2048x2x128, .f32⟩
  | _, _ => ⟨S7x2048x8x12, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev main_v6_5 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_cst_0 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_cst_1 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_cst_2 : Ref sig .tc := ⟨.hbm, 235, rfl⟩
abbrev main_call0_v0 : Ref sig .tc := ⟨.hbm, 236, rfl⟩
abbrev main_call0_v1 : Ref sig .tc := ⟨.hbm, 237, rfl⟩
abbrev main_call0_v2 : Ref sig .tc := ⟨.hbm, 238, rfl⟩
abbrev main_v215 : Ref sig .tc := ⟨.hbm, 239, rfl⟩
abbrev main_cst_3 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_cst_4 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_v224 : Ref sig .tc := ⟨.hbm, 250, rfl⟩
abbrev main_v225 : Ref sig .tc := ⟨.hbm, 251, rfl⟩
abbrev main_v226 : Ref sig .tc := ⟨.hbm, 252, rfl⟩
abbrev main_v227 : Ref sig .tc := ⟨.hbm, 253, rfl⟩
abbrev main_v228 : Ref sig .tc := ⟨.hbm, 254, rfl⟩
abbrev main_v229 : Ref sig .tc := ⟨.hbm, 255, rfl⟩
abbrev main_v230 : Ref sig .tc := ⟨.hbm, 256, rfl⟩
abbrev main_v231 : Ref sig .tc := ⟨.hbm, 257, rfl⟩
abbrev main_v232 : Ref sig .tc := ⟨.hbm, 258, rfl⟩
abbrev main_v233 : Ref sig .tc := ⟨.hbm, 259, rfl⟩
abbrev main_v234 : Ref sig .tc := ⟨.hbm, 260, rfl⟩
abbrev main_v235 : Ref sig .tc := ⟨.hbm, 261, rfl⟩
abbrev main_v236 : Ref sig .tc := ⟨.hbm, 262, rfl⟩
abbrev main_v237 : Ref sig .tc := ⟨.hbm, 263, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S7x2048x8x12 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x2048x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7x2048x2x12 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x2048x2x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7x2048x2x12 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7x2048x2x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7x2048x8x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7x2048x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7x2048x2x12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7x2048x2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7x2048x2x12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S7x2048x2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KBody.lean ====
module

public import proofs.«01_k».proof.Proof.Gen.Kernel.Frame
public import proofs.«01_k».proof.Proof.Gen.Kernel.Loops

@[expose] public section

set_option maxRecDepth 65536

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 20000000 in
/-- The body run over whole memrefs: the inputs end as they were, the results and the scratch at some contents. -/
theorem sound_kernel (c : Dev nD) (E : Set ℕ) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole)
    (x2 : Vec F S1x12x1024 .fp8e4m3) (x3 : Vec F S1x1x1024 .f32) (x4 : Vec F S1x2x12x2048 .fp8e4m3) (x5 : Vec F S1x2x2048 .f32) (x6 : Vec F S1x2x12x2048 .fp8e4m3) (x7 : Vec F S1x2x2048 .f32) (x8 : Vec F S1x1024x128 .fp8e4m3) (x9 : Vec F S1x2048x256 .fp8e4m3) (x10 : Vec F S1x2048x256 .fp8e4m3) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_tpa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_tpa_attention_eq_skeleton]; unfold cc0_tpa_attention_skel
  simp only [k0_part255_eq_skeleton, k0_part256_eq_skeleton]; unfold k0_part255_skel k0_part256_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.Kernel.Run

end
-- ==== Proof.KFrame.lean ====
module

public import proofs.«01_k».proof.Proof.KBody

@[expose] public section

set_option maxRecDepth 65536

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: each input's buffer keeps its block, nothing is said of the two results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Dat.unnamed ⟨9, h⟩ t
    | ⟨10, h⟩ => Dat.unnamed ⟨10, h⟩ t
  Φ _ := Pipeline.ΦA spec0 c
  q _ := fullShare
  owed _ := 0

/-- The two result windows. -/
def fgt (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ X, owns (c : Thread nD τ) (win0_9.stage (cfg0.slots t 9)) fullShare X)
    ∗ (∃ X, owns (c : Thread nD τ) (win0_10.stage (cfg0.slots t 10)) fullShare X))

/-- What the body leaves at point `t`. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ (∃ X, owns (c : Thread nD τ) (win0_9.stage (cfg0.slots t 9)) fullShare X)
    ∗ (∃ X, owns (c : Thread nD τ) (win0_10.stage (cfg0.slots t 10)) fullShare X))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).Φ t.castSucc = Pipeline.ΦA spec0 c from rfl,
    show (dats m 0 c).owesAt () t.succ = (dats m 0 c).owesAt () t.castSucc from rfl,
    after_0, after_1, after_2, after_3, after_4, after_5, after_6, after_7, after_8]
  unfold Pipeline.ΦA
  rw [scopedRest0_eq]
  iintro ⟨⟨⟨⟨%s0, S0⟩, ⟨%s1, S1⟩, ⟨%s2, S2⟩, ⟨%s3, S3⟩, ⟨%s4, S4⟩⟩, Hρ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [S0]; · iexists s0; rw [owns_whole]; iexact S0
  isplitl [S1]; · iexists s1; rw [owns_whole]; iexact S1
  isplitl [S2]; · iexists s2; rw [owns_whole]; iexact S2
  isplitl [S3]; · iexists s3; rw [owns_whole]; iexact S3
  isplitl [S4]; · iexists s4; rw [owns_whole]; iexact S4
  iintro ⟨H0, H1, H2, H3, H4, H5, H6, H7, H8, ⟨%e9, H9⟩, ⟨%e10, H10⟩, ⟨%r0, S0⟩, ⟨%r1, S1⟩, ⟨%r2, S2⟩, ⟨%r3, S3⟩, ⟨%r4, S4⟩⟩
  isplitl [S0 S1 S2 S3 S4 Hρ]
  · isplitr [Hρ]; swap; · iexact Hρ
    isplitl [S0]; · iexists r0; rw [← owns_whole]; iexact S0
    isplitl [S1]; · iexists r1; rw [← owns_whole]; iexact S1
    isplitl [S2]; · iexists r2; rw [← owns_whole]; iexact S2
    isplitl [S3]; · iexists r3; rw [← owns_whole]; iexact S3
    iexists r4; rw [← owns_whole]; iexact S4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The launch: every run ends, the arrays related as the proof data say, every counter at zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m)
    (hmain := hmain m Variants.none) (hA := A_eq m) (hΦ := fun _ _ => rfl)

/-- The argument arrays end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c)⟩, h.2⟩)
    (run_main_quiescent m ρ)

end Cert.Kernel.Run

end
-- ==== Proof.IBody.lean ====
module

public import proofs.«01_k».proof.Proof.Gen.KernelIdeal.Frame
public import proofs.«01_k».proof.Proof.Gen.KernelIdeal.Loops

@[expose] public section

set_option maxRecDepth 65536

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 20000000 in
/-- The body run over whole memrefs: the inputs end as they were, the results and the scratch at some contents. -/
theorem sound_kernel (c : Dev nD) (E : Set ℕ) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole)
    (x2 : Vec F S1x12x1024 .fp8e4m3) (x3 : Vec F S1x1x1024 .f32) (x4 : Vec F S1x2x12x2048 .fp8e4m3) (x5 : Vec F S1x2x2048 .f32) (x6 : Vec F S1x2x12x2048 .fp8e4m3) (x7 : Vec F S1x2x2048 .f32) (x8 : Vec F S1x1024x128 .fp8e4m3) (x9 : Vec F S1x2048x256 .fp8e4m3) (x10 : Vec F S1x2048x256 .fp8e4m3) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_tpa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_tpa_attention_eq_skeleton]; unfold cc0_tpa_attention_skel
  simp only [k0_part255_eq_skeleton, k0_part256_eq_skeleton]; unfold k0_part255_skel k0_part256_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  subst hf2 hf3 hf4 hf5 hf6 hf7 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.KernelIdeal.Run

end
-- ==== Proof.IFrame.lean ====
module

public import proofs.«01_k».proof.Proof.IBody

@[expose] public section

set_option maxRecDepth 65536

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data: each input's buffer keeps its block, nothing is said of the two results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Dat.unnamed ⟨9, h⟩ t
    | ⟨10, h⟩ => Dat.unnamed ⟨10, h⟩ t
  Φ _ := Pipeline.ΦA spec0 c
  q _ := fullShare
  owed _ := 0

/-- The two result windows. -/
def fgt (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ X, owns (c : Thread nD τ) (win0_9.stage (cfg0.slots t 9)) fullShare X)
    ∗ (∃ X, owns (c : Thread nD τ) (win0_10.stage (cfg0.slots t 10)) fullShare X))

/-- What the body leaves at point `t`. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ (∃ X, owns (c : Thread nD τ) (win0_9.stage (cfg0.slots t 9)) fullShare X)
    ∗ (∃ X, owns (c : Thread nD τ) (win0_10.stage (cfg0.slots t 10)) fullShare X))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).Φ t.castSucc = Pipeline.ΦA spec0 c from rfl,
    show (dats m 0 c).owesAt () t.succ = (dats m 0 c).owesAt () t.castSucc from rfl,
    after_0, after_1, after_2, after_3, after_4, after_5, after_6, after_7, after_8]
  unfold Pipeline.ΦA
  rw [scopedRest0_eq]
  iintro ⟨⟨⟨⟨%s0, S0⟩, ⟨%s1, S1⟩, ⟨%s2, S2⟩, ⟨%s3, S3⟩, ⟨%s4, S4⟩⟩, Hρ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [S0]; · iexists s0; rw [owns_whole]; iexact S0
  isplitl [S1]; · iexists s1; rw [owns_whole]; iexact S1
  isplitl [S2]; · iexists s2; rw [owns_whole]; iexact S2
  isplitl [S3]; · iexists s3; rw [owns_whole]; iexact S3
  isplitl [S4]; · iexists s4; rw [owns_whole]; iexact S4
  iintro ⟨H0, H1, H2, H3, H4, H5, H6, H7, H8, ⟨%e9, H9⟩, ⟨%e10, H10⟩, ⟨%r0, S0⟩, ⟨%r1, S1⟩, ⟨%r2, S2⟩, ⟨%r3, S3⟩, ⟨%r4, S4⟩⟩
  isplitl [S0 S1 S2 S3 S4 Hρ]
  · isplitr [Hρ]; swap; · iexact Hρ
    isplitl [S0]; · iexists r0; rw [← owns_whole]; iexact S0
    isplitl [S1]; · iexists r1; rw [← owns_whole]; iexact S1
    isplitl [S2]; · iexists r2; rw [← owns_whole]; iexact S2
    isplitl [S3]; · iexists r3; rw [← owns_whole]; iexact S3
    iexists r4; rw [← owns_whole]; iexact S4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The launch: every run ends, the arrays related as the proof data say, every counter at zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m)
    (hmain := hmain m Variants.none) (hA := A_eq m) (hΦ := fun _ _ => rfl)

/-- The argument arrays end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c)⟩, h.2⟩)
    (run_main_quiescent m ρ)

end Cert.KernelIdeal.Run

end
-- ==== Proof.Tiles.lean ====
module

public import proofs.«01_k».proof.Proof.Gen.KernelIdeal.Loops
public import Idealize.ShloMosaic.Lib.Pointwise

@[expose] public section

set_option maxRecDepth 65536

noncomputable section

namespace Cert.KernelIdeal.Val

open Idealize.ShloMosaic Idealize.ShloMosaic.TcCoe
open Cert.KernelIdeal.Gen

/-! ## Lists of pieces numbered from the last -/

/-- The list `f (n - 1), …, f 0`. -/
def down {α : Type} {N : ℕ} (f : (n : ℕ) → n < N → α) : (n : ℕ) → n ≤ N → List α
  | 0, _ => []
  | n + 1, h => f n h :: down f n (Nat.le_of_succ_le h)

theorem mem_down {α : Type} {N : ℕ} (f : (n : ℕ) → n < N → α) : ∀ (n : ℕ) (h : n ≤ N) (x : α),
    x ∈ down f n h ↔ ∃ (j : ℕ) (hj : j < n), x = f j (Nat.lt_of_lt_of_le hj h)
  | 0, _, x => by simp [down]
  | n + 1, h, x => by
    rw [down, List.mem_cons, mem_down f n]
    constructor
    · rintro (rfl | ⟨j, hj, rfl⟩)
      · exact ⟨n, Nat.lt_succ_self n, rfl⟩
      · exact ⟨j, Nat.lt_succ_of_lt hj, rfl⟩
    · rintro ⟨j, hj, rfl⟩
      rcases Nat.lt_succ_iff_lt_or_eq.mp hj with hj | rfl
      · exact .inr ⟨j, hj, rfl⟩
      · exact .inl rfl

variable {F : FTy → Type} [FloatOps F] [Named F]

/-! ## The tiles of the score pass -/

/-- One rank's product of the queries' mixing weights and the inner products of the factors, of one group of tokens. -/
def zTile (x8 : Vec F S1x128x128 .fp8e4m3) (x9 : Vec F S1x256x128 .fp8e4m3) (x13 : Vec F S1x192x256 .bf16) : FVec F S192x256 .f32 :=
  have f : FVec F S128x256 .f32 := matmul dot_S128x128_S256x128_S128x256_1_1_0_0_n_n none (shapeCast S128x128 x8 shapeCasts_S1x128x128_S128x128) (shapeCast S256x128 x9 shapeCasts_S1x256x128_S256x128) (constant S128x256 .f32 0x00000000#32)
  have hi : FVec F S128x256 .bf16 := truncf .bf16 f bitsLt_bf16_f32
  have lo : FVec F S128x256 .bf16 := truncf .bf16 (subf f (extf .f32 hi bitsLt_bf16_f32)) bitsLt_bf16_f32
  matmul dot_S192x256_S256x256_S192x256_1_0_0_1_n_n none (shapeCast S192x256 x13 shapeCasts_S1x192x256_S192x256) (concatenate S256x256 0 [⟨S128x256, hi⟩, ⟨S128x256, lo⟩] concatenates_S128x256_S128x256_S256x256_d0) (constant S192x256 .f32 0x00000000#32)

theorem slices_rows {h : ℕ} (hh : h < 12) : S192x256.Slices ![16 * h, 0] S16x256 :=
  ⟨rfl, fun a => by fin_cases a <;> simp <;> omega⟩

theorem slices_row {h : ℕ} (hh : h < 12) : S12x256.Slices ![h, 0] S1x256 :=
  ⟨rfl, fun a => by fin_cases a <;> simp <;> omega⟩

/-- The tile of scores of head `h` and one group of tokens. -/
def sTile (h : ℕ) (hh : h < 12) (a0 a1 : FVec F S12x256 .f32) (z0 z1 : FVec F S192x256 .f32) : FVec F S16x256 .f32 :=
  addf (mulf (extractStridedSlice S16x256 ![16 * h, 0] z0 (slices_rows hh)) (broadcastTo S16x256 (extractStridedSlice S1x256 ![h, 0] a0 (slices_row hh)) broadcasts_S1x256_S16x256))
    (mulf (extractStridedSlice S16x256 ![16 * h, 0] z1 (slices_rows hh)) (broadcastTo S16x256 (extractStridedSlice S1x256 ![h, 0] a1 (slices_row hh)) broadcasts_S1x256_S16x256))

/-- The running maximum of a tile's two halves. -/
def mTile (m : Vec F S1x16x128 .f32) (s : FVec F S16x256 .f32) : Vec F S1x16x128 .f32 :=
  shapeCast S1x16x128 (maximumf (maximumf (shapeCast S16x128 m shapeCasts_S1x16x128_S16x128) (extractStridedSlice S16x128 ![0, 0] s slices_S16x256_o0_0_S16x128))
    (extractStridedSlice S16x128 ![0, 128] s slices_S16x256_o0_128_S16x128)) shapeCasts_S16x128_S1x16x128

theorem inb13 {n : ℕ} (hn : n < 96) : ∀ a, (![n / 12, 0, 0] : Fin 3 → ℕ) a + S1x192x256.size a ≤ S8x192x256.size a := by
  intro a; fin_cases a <;> simp <;> omega
theorem inb8 {n : ℕ} (hn : n < 96) : ∀ a, (![0, 128 * (n / 12), 0] : Fin 3 → ℕ) a + S1x128x128.size a ≤ S1x1024x128.size a := by
  intro a; fin_cases a <;> simp <;> omega
theorem inb15 {n : ℕ} (hn : n < 96) : ∀ a, (![n % 12, 16 * (n / 12), 0] : Fin 3 → ℕ) a + S1x16x128.size a ≤ S12x128x128.size a := by
  intro a; fin_cases a <;> simp <;> omega
theorem inb14 {n u : ℕ} (hn : n < 96) (hu : u + 256 ≤ 2048) : ∀ a, (![n % 12, 16 * (n / 12), u] : Fin 3 → ℕ) a + S1x16x256.size a ≤ S12x128x2048.size a := by
  intro a; fin_cases a <;> simp <;> omega
theorem inb9 {u d : ℕ} (hu : u + 256 ≤ 2048) (hd : d + 128 ≤ 256) : ∀ a, (![0, u, d] : Fin 3 → ℕ) a + S1x256x128.size a ≤ S1x2048x256.size a := by
  intro a; fin_cases a <;> simp <;> omega
theorem inb4 {u j : ℕ} (hj : j < 2) (hu : u + 256 ≤ 2048) : ∀ a, (![0, j, 0, u] : Fin 4 → ℕ) a + S1x1x12x256.size a ≤ S1x2x12x2048.size a := by
  intro a; fin_cases a <;> simp <;> omega
theorem inb5 {u j : ℕ} (hj : j < 2) (hu : u + 256 ≤ 2048) : ∀ a, (![0, j, u] : Fin 3 → ℕ) a + S1x1x256.size a ≤ S1x2x2048.size a := by
  intro a; fin_cases a <;> simp <;> omega

section
variable (arg4 : Memref sig .tc .vmem S1x2x12x2048 .fp8e4m3) (arg5 : Memref sig .tc .vmem S1x2x2048 .f32)
  (arg8 : Memref sig .tc .vmem S1x1024x128 .fp8e4m3) (arg9 : Memref sig .tc .vmem S1x2048x256 .fp8e4m3)
  (arg13 : Memref sig .tc .vmem S8x192x256 .bf16) (arg15 : Memref sig .tc .vmem S12x128x128 .f32)
  (X4 : BufTy.Contents (Elt F) arg4.view.ty) (X5 : BufTy.Contents (Elt F) arg5.view.ty) (X8 : BufTy.Contents (Elt F) arg8.view.ty)
  (X9 : BufTy.Contents (Elt F) arg9.view.ty) (X13 : BufTy.Contents (Elt F) arg13.view.ty) (X15 : BufTy.Contents (Elt F) arg15.view.ty)
  (u : ℕ) (hu : u + 256 ≤ 2048)

/-- The key weights of rank `j` over the block of keys from `u`. -/
def aBlk (j : ℕ) (hj : j < 2) : FVec F S12x256 .f32 :=
  k0_pay3 (View.readAt (Elt F) arg4.view (Rect.unit (s := S1x2x12x2048) ![0, j, 0, u] S1x1x12x256.size (inb4 hj hu)).toLoadRect X4)
    (View.readAt (Elt F) arg5.view (Rect.unit (s := S1x2x2048) ![0, j, u] S1x1x256.size (inb5 hj hu)).toLoadRect X5)

/-- The product of rank `j` for tile number `n`, over the block of keys from `u`. -/
def zBlk (j : ℕ) (hj : j < 2) (n : ℕ) (hn : n < 96) : FVec F S192x256 .f32 :=
  zTile (View.readAt (Elt F) arg8.view (Rect.unit (s := S1x1024x128) ![0, 128 * (n / 12), 0] S1x128x128.size (inb8 hn)).toLoadRect X8)
    (View.readAt (Elt F) arg9.view (Rect.unit (s := S1x2048x256) ![0, u, 128 * j] S1x256x128.size (inb9 hu (by omega))).toLoadRect X9)
    (View.readAt (Elt F) arg13.view (Rect.unit (s := S8x192x256) ![n / 12, 0, 0] S1x192x256.size (inb13 hn)).toLoadRect X13)

/-- The scores of tile number `n` (head `n % 12`, group of tokens `n / 12`) over the block of keys from `u`. -/
def sBlk (n : ℕ) (hn : n < 96) : FVec F S16x256 .f32 :=
  sTile (n % 12) (Nat.mod_lt _ (by decide)) (aBlk arg4 arg5 X4 X5 u hu 0 (by decide)) (aBlk arg4 arg5 X4 X5 u hu 1 (by decide))
    (zBlk arg8 arg9 arg13 X8 X9 X13 u hu 0 (by decide) n hn) (zBlk arg8 arg9 arg13 X8 X9 X13 u hu 1 (by decide) n hn)

/-- The tile's store of scores. -/
def sPiece (s : (n : ℕ) → n < 96 → FVec F S16x256 .f32) (n : ℕ) (hn : n < 96) : View.Piece (Elt F) S12x128x2048 .f32 :=
  ⟨Rect.unit ![n % 12, 16 * (n / 12), u] S1x16x256.size (inb14 hn hu), shapeCast S1x16x256 (s n hn) shapeCasts_S16x256_S1x16x256⟩

/-- The tile's store of running maxima. -/
def mPiece (s : (n : ℕ) → n < 96 → FVec F S16x256 .f32) (n : ℕ) (hn : n < 96) : View.Piece (Elt F) S12x128x128 .f32 :=
  ⟨Rect.unit ![n % 12, 16 * (n / 12), 0] S1x16x128.size (inb15 hn),
    mTile (View.readAt (Elt F) arg15.view (Rect.unit (s := S12x128x128) ![n % 12, 16 * (n / 12), 0] S1x16x128.size (inb15 hn)).toLoadRect X15) (s n hn)⟩
end

/-- The column a trip of the score loop starts at. -/
def col1 (i : grid0.Coords) (k : Fin (k0_t1_loop i).trips) : ℕ := k0_off102 i k 2

theorem col1_le (i : grid0.Coords) (k : Fin (k0_t1_loop i).trips) : col1 i k + 256 ≤ 2048 := k0_off102_inb i k 2

/-! ## The tiles of the value pass -/

/-- The exponentials of one head over half a block of keys. -/
def eTile (s m : Vec F S1x128x128 .f32) : FVec F S128x128 .f32 :=
  exp2 (subf (shapeCast S128x128 s shapeCasts_S1x128x128_S128x128) (shapeCast S128x128 m shapeCasts_S1x128x128_S128x128))

/-- The value weights of one rank. -/
def vRow (x6 : Vec F S1x1x12x256 .fp8e4m3) (x7 : Vec F S1x1x256 .f32) : FVec F S12x256 .f32 :=
  mulf (mulf (extf .f32 (shapeCast S12x256 x6 shapeCasts_S1x1x12x256_S12x256) bitsLt_fp8e4m3_f32)
    (broadcastTo S12x256 (shapeCast S1x256 x7 shapeCasts_S1x1x256_S1x256) broadcasts_S1x256_S12x256))
    (broadcast S12x256 (Scalar.ofBits (F := F) .f32 0x3F000000#32))

/-- The weighted values of one rank and head over a block of keys. -/
def wTile (h : ℕ) (hh : h < 12) (e0 e1 : FVec F S128x128 .f32) (a : FVec F S12x256 .f32) (x10 : Vec F S1x256x128 .fp8e4m3) : FVec F S128x128 .f32 :=
  matmul dot_S128x256_S256x128_S128x128_1_0_0_1_n_n none
    (truncf .bf16 (mulf (concatenate S128x256 1 [⟨S128x128, e0⟩, ⟨S128x128, e1⟩] concatenates_S128x128_S128x128_S128x256_d1)
      (broadcastTo S128x256 (extractStridedSlice S1x256 ![h, 0] a (slices_row hh)) broadcasts_S1x256_S128x256)) bitsLt_bf16_f32)
    (extf .bf16 (shapeCast S256x128 x10 shapeCasts_S1x256x128_S256x128) bitsLt_fp8e4m3_bf16) (constant S128x128 .f32 0x00000000#32)

theorem inb16 {n : ℕ} (hn : n < 12) : ∀ a, (![n, 0, 0] : Fin 3 → ℕ) a + S1x128x128.size a ≤ S12x128x128.size a := by
  intro a; fin_cases a <;> simp <;> omega
theorem inb14' {n u : ℕ} (hn : n < 12) (hu : u + 128 ≤ 2048) : ∀ a, (![n, 0, u] : Fin 3 → ℕ) a + S1x128x128.size a ≤ S12x128x2048.size a := by
  intro a; fin_cases a <;> simp <;> omega

section
variable (arg6 : Memref sig .tc .vmem S1x2x12x2048 .fp8e4m3) (arg7 : Memref sig .tc .vmem S1x2x2048 .f32)
  (arg10 : Memref sig .tc .vmem S1x2048x256 .fp8e4m3) (arg14 : Memref sig .tc .vmem S12x128x2048 .f32)
  (arg15 : Memref sig .tc .vmem S12x128x128 .f32) (arg16 : Memref sig .tc .vmem S12x128x128 .f32) (arg17 : Memref sig .tc .vmem S12x128x128 .f32)
  (X6 : BufTy.Contents (Elt F) arg6.view.ty) (X7 : BufTy.Contents (Elt F) arg7.view.ty) (X10 : BufTy.Contents (Elt F) arg10.view.ty)
  (X14 : BufTy.Contents (Elt F) arg14.view.ty) (X15 : BufTy.Contents (Elt F) arg15.view.ty)
  (X16 : BufTy.Contents (Elt F) arg16.view.ty) (X17 : BufTy.Contents (Elt F) arg17.view.ty)

/-- The exponentials of head `n` over the half block of keys from `u`. -/
def eBlk (u : ℕ) (hu : u + 128 ≤ 2048) (n : ℕ) (hn : n < 12) : FVec F S128x128 .f32 :=
  eTile (View.readAt (Elt F) arg14.view (Rect.unit (s := S12x128x2048) ![n, 0, u] S1x128x128.size (inb14' hn hu)).toLoadRect X14)
    (View.readAt (Elt F) arg15.view (Rect.unit (s := S12x128x128) ![n, 0, 0] S1x128x128.size (inb16 hn)).toLoadRect X15)

/-- The value weights of rank `j` over the block of keys from `u`. -/
def vBlk (u : ℕ) (hu : u + 256 ≤ 2048) (j : ℕ) (hj : j < 2) : FVec F S12x256 .f32 :=
  vRow (View.readAt (Elt F) arg6.view (Rect.unit (s := S1x2x12x2048) ![0, j, 0, u] S1x1x12x256.size (inb4 hj hu)).toLoadRect X6)
    (View.readAt (Elt F) arg7.view (Rect.unit (s := S1x2x2048) ![0, j, u] S1x1x256.size (inb5 hj hu)).toLoadRect X7)

/-- The weighted values of rank `j` and head `n`, given the exponentials of the block of keys from `u`. -/
def wBlk (u : ℕ) (hu : u + 256 ≤ 2048) (n : ℕ) (hn : n < 12) (e0 e1 : FVec F S128x128 .f32) (j : ℕ) (hj : j < 2) : FVec F S128x128 .f32 :=
  wTile n hn e0 e1 (vBlk arg6 arg7 X6 X7 u hu j hj)
    (View.readAt (Elt F) arg10.view (Rect.unit (s := S1x2048x256) ![0, u, 128 * j] S1x256x128.size (inb9 hu (by omega))).toLoadRect X10)

/-- The store of head `n`'s sums of exponentials. -/
def lPiece (e0 e1 : (n : ℕ) → n < 12 → FVec F S128x128 .f32) (n : ℕ) (hn : n < 12) : View.Piece (Elt F) S12x128x128 .f32 :=
  ⟨Rect.unit ![n, 0, 0] S1x128x128.size (inb16 hn), shapeCast S1x128x128 (addf (addf (shapeCast S128x128
    (View.readAt (Elt F) arg16.view (Rect.unit (s := S12x128x128) ![n, 0, 0] S1x128x128.size (inb16 hn)).toLoadRect X16) shapeCasts_S1x128x128_S128x128)
    (e0 n hn)) (e1 n hn)) shapeCasts_S128x128_S1x128x128⟩

/-- The store of head `n`'s weighted sums. -/
def accPiece (w0 w1 : (n : ℕ) → n < 12 → FVec F S128x128 .f32) (n : ℕ) (hn : n < 12) : View.Piece (Elt F) S12x128x128 .f32 :=
  ⟨Rect.unit ![n, 0, 0] S1x128x128.size (inb16 hn), shapeCast S1x128x128 (addf (addf (shapeCast S128x128
    (View.readAt (Elt F) arg17.view (Rect.unit (s := S12x128x128) ![n, 0, 0] S1x128x128.size (inb16 hn)).toLoadRect X17) shapeCasts_S1x128x128_S128x128)
    (w0 n hn)) (w1 n hn)) shapeCasts_S128x128_S1x128x128⟩
end

/-- The column a trip of the value loop starts at, and the one half a block further. -/
def col3 (i : grid0.Coords) (k : Fin (k0_t3_loop i).trips) : ℕ := k0_off308 i k 1
def col3a (i : grid0.Coords) (k : Fin (k0_t3_loop i).trips) : ℕ := k0_off323 i k 0#32 2
def col3b (i : grid0.Coords) (k : Fin (k0_t3_loop i).trips) : ℕ := k0_off323 i k 128#32 2

theorem col3_le (i : grid0.Coords) (k : Fin (k0_t3_loop i).trips) : col3 i k + 256 ≤ 2048 := k0_off308_inb i k 1
theorem col3a_le (i : grid0.Coords) (k : Fin (k0_t3_loop i).trips) : col3a i k + 128 ≤ 2048 := k0_off323_inb i k 0 2
theorem col3b_le (i : grid0.Coords) (k : Fin (k0_t3_loop i).trips) : col3b i k + 128 ≤ 2048 := k0_off323_inb i k 1 2

end Cert.KernelIdeal.Val
-- ==== Proof.Trip1.lean ====
module

public import proofs.«01_k».proof.Proof.Tiles

@[expose] public section

set_option maxRecDepth 65536

noncomputable section

namespace Cert.KernelIdeal.Val

open Idealize.ShloMosaic Idealize.ShloMosaic.TcCoe
open Cert.KernelIdeal.Gen

variable {F : FTy → Type} [FloatOps F] [Named F]

set_option maxHeartbeats 4000000 in
/-- A trip of the score loop stores the tiles of scores of its block of keys. -/
theorem trip1_scores (𝒱 : Variants) (c : Dev nD) (bd : Option 𝒱.V) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole) (v20 : BitVec 32) (v47 : IVec S16x128 1) (v1111 : FVec F S12x128 .f32) (v1237 : FVec F S16x128 .bf16) (X_arg4 : BufTy.Contents (Elt F) arg4.view.ty) (X_arg5 : BufTy.Contents (Elt F) arg5.view.ty) (X_arg8 : BufTy.Contents (Elt F) arg8.view.ty) (X_arg9 : BufTy.Contents (Elt F) arg9.view.ty) (X_arg13 : BufTy.Contents (Elt F) arg13.view.ty) (k : Fin (k0_t1_loop i).trips) (f_arg14 : BufTy.Contents (Elt F) arg14.view.ty) (f_arg15 : BufTy.Contents (Elt F) arg15.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v47 v1111 v1237 X_arg4 X_arg5 X_arg8 X_arg9 X_arg13 k).1 f_arg14 f_arg15
      = down (sPiece (col1 i k) (col1_le i k) (sBlk arg4 arg5 arg8 arg9 arg13 X_arg4 X_arg5 X_arg8 X_arg9 X_arg13 (col1 i k) (col1_le i k))) 96 (Nat.le_refl _) := by
  unfold trip_k0_t1
  iterate 96 refine congrArg₂ List.cons rfl ?_
  rfl

set_option maxHeartbeats 4000000 in
/-- and the running maxima. -/
theorem trip1_maxima (𝒱 : Variants) (c : Dev nD) (bd : Option 𝒱.V) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole) (v20 : BitVec 32) (v47 : IVec S16x128 1) (v1111 : FVec F S12x128 .f32) (v1237 : FVec F S16x128 .bf16) (X_arg4 : BufTy.Contents (Elt F) arg4.view.ty) (X_arg5 : BufTy.Contents (Elt F) arg5.view.ty) (X_arg8 : BufTy.Contents (Elt F) arg8.view.ty) (X_arg9 : BufTy.Contents (Elt F) arg9.view.ty) (X_arg13 : BufTy.Contents (Elt F) arg13.view.ty) (k : Fin (k0_t1_loop i).trips) (f_arg14 : BufTy.Contents (Elt F) arg14.view.ty) (f_arg15 : BufTy.Contents (Elt F) arg15.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v47 v1111 v1237 X_arg4 X_arg5 X_arg8 X_arg9 X_arg13 k).2.1 f_arg14 f_arg15
      = down (mPiece arg15 f_arg15 (sBlk arg4 arg5 arg8 arg9 arg13 X_arg4 X_arg5 X_arg8 X_arg9 X_arg13 (col1 i k) (col1_le i k))) 96 (Nat.le_refl _) := by
  unfold trip_k0_t1
  iterate 96 refine congrArg₂ List.cons rfl ?_
  rfl

end Cert.KernelIdeal.Val
-- ==== Proof.Trip3.lean ====
module

public import proofs.«01_k».proof.Proof.Tiles

@[expose] public section

set_option maxRecDepth 65536

noncomputable section

namespace Cert.KernelIdeal.Val

open Idealize.ShloMosaic Idealize.ShloMosaic.TcCoe
open Cert.KernelIdeal.Gen

variable {F : FTy → Type} [FloatOps F] [Named F]

set_option maxHeartbeats 4000000 in
/-- A trip of the value loop stores the sums of exponentials, head by head. -/
theorem trip3_sums (𝒱 : Variants) (c : Dev nD) (bd : Option 𝒱.V) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole) (v20 : BitVec 32) (v3979 : FVec F S128x128 .f32) (X_arg6 : BufTy.Contents (Elt F) arg6.view.ty) (X_arg7 : BufTy.Contents (Elt F) arg7.view.ty) (X_arg10 : BufTy.Contents (Elt F) arg10.view.ty) (X_arg14 : BufTy.Contents (Elt F) arg14.view.ty) (X_arg15 : BufTy.Contents (Elt F) arg15.view.ty) (k : Fin (k0_t3_loop i).trips) (f_arg16 : BufTy.Contents (Elt F) arg16.view.ty) (f_arg17 : BufTy.Contents (Elt F) arg17.view.ty) :
    (trip_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v3979 X_arg6 X_arg7 X_arg10 X_arg14 X_arg15 k).1 f_arg16 f_arg17
      = down (lPiece arg16 f_arg16 (eBlk arg14 arg15 X_arg14 X_arg15 (col3a i k) (col3a_le i k)) (eBlk arg14 arg15 X_arg14 X_arg15 (col3b i k) (col3b_le i k))) 12 (Nat.le_refl _) := by
  unfold trip_k0_t3
  iterate 12 refine congrArg₂ List.cons rfl ?_
  rfl

set_option maxHeartbeats 4000000 in
/-- and the weighted sums of the values. -/
theorem trip3_values (𝒱 : Variants) (c : Dev nD) (bd : Option 𝒱.V) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole) (v20 : BitVec 32) (v3979 : FVec F S128x128 .f32) (X_arg6 : BufTy.Contents (Elt F) arg6.view.ty) (X_arg7 : BufTy.Contents (Elt F) arg7.view.ty) (X_arg10 : BufTy.Contents (Elt F) arg10.view.ty) (X_arg14 : BufTy.Contents (Elt F) arg14.view.ty) (X_arg15 : BufTy.Contents (Elt F) arg15.view.ty) (k : Fin (k0_t3_loop i).trips) (f_arg16 : BufTy.Contents (Elt F) arg16.view.ty) (f_arg17 : BufTy.Contents (Elt F) arg17.view.ty) :
    (trip_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v3979 X_arg6 X_arg7 X_arg10 X_arg14 X_arg15 k).2.1 f_arg16 f_arg17
      = down (accPiece arg17 f_arg17 (fun n hn => wBlk arg6 arg7 arg10 X_arg6 X_arg7 X_arg10 (col3 i k) (col3_le i k) n hn ((eBlk arg14 arg15 X_arg14 X_arg15 (col3a i k) (col3a_le i k)) n hn) ((eBlk arg14 arg15 X_arg14 X_arg15 (col3b i k) (col3b_le i k)) n hn) 0 (by decide)) (fun n hn => wBlk arg6 arg7 arg10 X_arg6 X_arg7 X_arg10 (col3 i k) (col3_le i k) n hn ((eBlk arg14 arg15 X_arg14 X_arg15 (col3a i k) (col3a_le i k)) n hn) ((eBlk arg14 arg15 X_arg14 X_arg15 (col3b i k) (col3b_le i k)) n hn) 1 (by decide))) 12 (Nat.le_refl _) := by
  unfold trip_k0_t3
  iterate 12 refine congrArg₂ List.cons rfl ?_
  rfl

end Cert.KernelIdeal.Val
-- ==== Proof.IRun.lean ====
module

public import proofs.«01_k».proof.Proof.Gen.KernelIdeal.Frame
public import proofs.«01_k».proof.Proof.Gen.KernelIdeal.Loops

@[expose] public section

set_option maxRecDepth 65536

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 20000000 in
/-- The body run over whole memrefs whose contents are named: the inputs stay, the two results end as the stores listed here left them. -/
@[irreducible] def run (c : Dev nD) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) :
    Σ' (L11 : List (View.Piece (Elt F) S1x128x1536 .bf16)), { L12 : List (View.Piece (Elt F) S1x12x128 .f32) // ∀ (E : Set ℕ),
    (iprop(((arg2.view.loc (c : Thread nD τ)) ↦[arg2.view.set]{fullShare} X2) ∗ ((arg3.view.loc (c : Thread nD τ)) ↦[arg3.view.set]{fullShare} X3) ∗ ((arg4.view.loc (c : Thread nD τ)) ↦[arg4.view.set]{fullShare} X4) ∗ ((arg5.view.loc (c : Thread nD τ)) ↦[arg5.view.set]{fullShare} X5) ∗ ((arg6.view.loc (c : Thread nD τ)) ↦[arg6.view.set]{fullShare} X6) ∗ ((arg7.view.loc (c : Thread nD τ)) ↦[arg7.view.set]{fullShare} X7) ∗ ((arg8.view.loc (c : Thread nD τ)) ↦[arg8.view.set]{fullShare} X8) ∗ ((arg9.view.loc (c : Thread nD τ)) ↦[arg9.view.set]{fullShare} X9) ∗ ((arg10.view.loc (c : Thread nD τ)) ↦[arg10.view.set]{fullShare} X10) ∗ ((arg11.view.loc (c : Thread nD τ)) ↦[arg11.view.set]{fullShare} X11) ∗ ((arg12.view.loc (c : Thread nD τ)) ↦[arg12.view.set]{fullShare} X12) ∗ ((arg13.view.loc (c : Thread nD τ)) ↦[arg13.view.set]{fullShare} X13) ∗ ((arg14.view.loc (c : Thread nD τ)) ↦[arg14.view.set]{fullShare} X14) ∗ ((arg15.view.loc (c : Thread nD τ)) ↦[arg15.view.set]{fullShare} X15) ∗ ((arg16.view.loc (c : Thread nD τ)) ↦[arg16.view.set]{fullShare} X16) ∗ ((arg17.view.loc (c : Thread nD τ)) ↦[arg17.view.set]{fullShare} X17)) : sProp 𝕄)
      ⊢ wp frame (wpE (defs₀ (F := F)) Variants.none c none) E (cc0_tpa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop(((arg2.view.loc (c : Thread nD τ)) ↦[arg2.view.set]{fullShare} X2) ∗ ((arg3.view.loc (c : Thread nD τ)) ↦[arg3.view.set]{fullShare} X3) ∗ ((arg4.view.loc (c : Thread nD τ)) ↦[arg4.view.set]{fullShare} X4) ∗ ((arg5.view.loc (c : Thread nD τ)) ↦[arg5.view.set]{fullShare} X5) ∗ ((arg6.view.loc (c : Thread nD τ)) ↦[arg6.view.set]{fullShare} X6) ∗ ((arg7.view.loc (c : Thread nD τ)) ↦[arg7.view.set]{fullShare} X7) ∗ ((arg8.view.loc (c : Thread nD τ)) ↦[arg8.view.set]{fullShare} X8) ∗ ((arg9.view.loc (c : Thread nD τ)) ↦[arg9.view.set]{fullShare} X9) ∗ ((arg10.view.loc (c : Thread nD τ)) ↦[arg10.view.set]{fullShare} X10) ∗ ((arg11.view.loc (c : Thread nD τ)) ↦[arg11.view.set]{fullShare} (arg11.view.writes (Elt F) X11 L11)) ∗ ((arg12.view.loc (c : Thread nD τ)) ↦[arg12.view.set]{fullShare} (arg12.view.writes (Elt F) X12 L12)) ∗ (∃ f, ((arg13.view.loc (c : Thread nD τ)) ↦[arg13.view.set]{fullShare} f)) ∗ (∃ f, ((arg14.view.loc (c : Thread nD τ)) ↦[arg14.view.set]{fullShare} f)) ∗ (∃ f, ((arg15.view.loc (c : Thread nD τ)) ↦[arg15.view.set]{fullShare} f)) ∗ (∃ f, ((arg16.view.loc (c : Thread nD τ)) ↦[arg16.view.set]{fullShare} f)) ∗ (∃ f, ((arg17.view.loc (c : Thread nD τ)) ↦[arg17.view.set]{fullShare} f)))) } := by
  refine ⟨?_, ?_, fun E => ?run⟩
  case run =>
    simp only [cc0_tpa_attention_eq_skeleton]; unfold cc0_tpa_attention_skel
    simp only [k0_part255_eq_skeleton, k0_part256_eq_skeleton]; unfold k0_part255_skel k0_part256_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton]
    iintro ⟨H2, H3, H4, H5, H6, H7, H8, H9, H10, H11, H12, H13, H14, H15, H16, H17⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    iexists _; iexact H17

end Cert.KernelIdeal.Run
-- ==== Proof.Lists.lean ====
module

public import proofs.«01_k».proof.Proof.Trip1
public import proofs.«01_k».proof.Proof.Trip3
public import proofs.«01_k».proof.Proof.IRun

@[expose] public section

set_option maxRecDepth 65536

noncomputable section

namespace Cert.KernelIdeal.Val

open Idealize.ShloMosaic Idealize.ShloMosaic.TcCoe
open Cert.KernelIdeal.Gen

variable {F : FTy → Type} [FloatOps F] [Named F]

/-! ## The mixing weights of the queries -/

theorem inbA {n : ℕ} (hn : n < 192) : ∀ a, (![n / 24, 16 * (n / 2 % 12), 128 * (n % 2)] : Fin 3 → ℕ) a + S1x16x128.size a ≤ S8x192x256.size a := by
  intro a; fin_cases a <;> simp <;> omega
theorem inb2 {n : ℕ} (hn : n < 192) : ∀ a, (![0, 0, 128 * (n / 24)] : Fin 3 → ℕ) a + S1x12x128.size a ≤ S1x12x1024.size a := by
  intro a; fin_cases a <;> simp <;> omega
theorem inb3 {n : ℕ} (hn : n < 192) : ∀ a, (![0, 0, 128 * (n / 24)] : Fin 3 → ℕ) a + S1x1x128.size a ≤ S1x1x1024.size a := by
  intro a; fin_cases a <;> simp <;> omega
theorem slices_row128 {h : ℕ} (hh : h < 12) : S12x128.Slices ![h, 0] S1x128 :=
  ⟨rfl, fun a => by fin_cases a <;> simp <;> omega⟩

/-- One head's mixing weights of a group of tokens, spread over the tokens' own columns. -/
def aTile (own : IVec S16x128 1) (h : ℕ) (hh : h < 12) (a : FVec F S12x128 .f32) : FVec F S1x16x128 .bf16 :=
  shapeCast S1x16x128 (truncf .bf16 (select own (broadcastTo S16x128 (shapeCast S1x128 (extractStridedSlice S1x128 ![h, 0] a (slices_row128 hh)) shapeCasts_S1x128_S1x128) broadcasts_S1x128_S16x128)
    (broadcast S16x128 (Scalar.ofBits (F := F) .f32 0x00000000#32))) bitsLt_bf16_f32) shapeCasts_S16x128_S1x16x128

/-- The store of mixing weights number `n`. -/
def aPiece (own : IVec S16x128 1) (arg2 : Memref sig .tc .vmem S1x12x1024 .fp8e4m3) (arg3 : Memref sig .tc .vmem S1x1x1024 .f32)
    (X2 : BufTy.Contents (Elt F) arg2.view.ty) (X3 : BufTy.Contents (Elt F) arg3.view.ty) (n : ℕ) (hn : n < 192) : View.Piece (Elt F) S8x192x256 .bf16 :=
  ⟨Rect.unit ![n / 24, 16 * (n / 2 % 12), 128 * (n % 2)] S1x16x128.size (inbA hn),
    aTile own (n / 2 % 12) (Nat.mod_lt _ (by decide)) (k0_pay884
      (View.readAt (Elt F) arg2.view (Rect.unit (s := S1x12x1024) ![0, 0, 128 * (n / 24)] S1x12x128.size (inb2 hn)).toLoadRect X2)
      (View.readAt (Elt F) arg3.view (Rect.unit (s := S1x1x1024) ![0, 0, 128 * (n / 24)] S1x1x128.size (inb3 hn)).toLoadRect X3))⟩

set_option maxHeartbeats 4000000 in
theorem weights_eq (arg2 : Memref sig .tc .vmem S1x12x1024 .fp8e4m3) (arg3 : Memref sig .tc .vmem S1x1x1024 .f32) (X2 : BufTy.Contents (Elt F) arg2.view.ty) (X3 : BufTy.Contents (Elt F) arg3.view.ty) :
    Run.run.sl.H13_192 (F := F) arg2 arg3 X2 X3 = down (aPiece Run.run.sl.r arg2 arg3 X2 X3) 192 (Nat.le_refl _) := by
  unfold Run.run.sl.H13_192
  iterate 192 refine congrArg₂ List.cons rfl ?_
  rfl

/-! ## Stores that each read what the ones before left -/

/-- The running maxima's stores, one tile after another, each over what the list before holds. -/
def mAcc (arg15 : Memref sig .tc .vmem S12x128x128 .f32) (L0 : List (View.Piece (Elt F) S12x128x128 .f32))
    (s : (n : ℕ) → n < 96 → FVec F S16x256 .f32) : (n : ℕ) → n ≤ 96 → List (View.Piece (Elt F) S12x128x128 .f32)
  | 0, _ => L0
  | n + 1, h => mPiece arg15 (arg15.view.writes (Elt F) arg15.view.junk (mAcc arg15 L0 s n (Nat.le_of_succ_le h))) s n h
      :: mAcc arg15 L0 s n (Nat.le_of_succ_le h)

theorem mAcc_succ {arg15 : Memref sig .tc .vmem S12x128x128 .f32} {L0 : List (View.Piece (Elt F) S12x128x128 .f32)}
    {s : (n : ℕ) → n < 96 → FVec F S16x256 .f32} {n : ℕ} {h : n + 1 ≤ 96} {L L' : List (View.Piece (Elt F) S12x128x128 .f32)}
    (e' : L' = mPiece arg15 (arg15.view.writes (Elt F) arg15.view.junk L) s n h :: L) (e : L = mAcc arg15 L0 s n (Nat.le_of_succ_le h)) : L' = mAcc arg15 L0 s (n + 1) h := by
  subst e e'; rfl

/-- The largest entry of each row, in every column. -/
def rowMax (m : Vec F S1x128x128 .f32) : Vec F S1x128x128 .f32 :=
  shapeCast S1x128x128 (broadcastTo S128x128 (shapeCast S128x1 (shapeCast S128x1
    (multiReduction .maximumf [1] S128 (shapeCast S128x128 m shapeCasts_S1x128x128_S128x128) 0xFF800000#32 reduces_S128x128_S128 (.inl rfl) rfl)
    shapeCasts_S128_S128x1) shapeCasts_S128x1_S128x1) broadcasts_S128x1_S128x128) shapeCasts_S128x128_S1x128x128

/-- The store of head `n`'s row maxima. -/
def rPiece (arg15 : Memref sig .tc .vmem S12x128x128 .f32) (X15 : BufTy.Contents (Elt F) arg15.view.ty) (n : ℕ) (hn : n < 12) : View.Piece (Elt F) S12x128x128 .f32 :=
  ⟨Rect.unit ![n, 0, 0] S1x128x128.size (inb16 hn),
    rowMax (View.readAt (Elt F) arg15.view (Rect.unit (s := S12x128x128) ![n, 0, 0] S1x128x128.size (inb16 hn)).toLoadRect X15)⟩

def rAcc (arg15 : Memref sig .tc .vmem S12x128x128 .f32) (L0 : List (View.Piece (Elt F) S12x128x128 .f32)) :
    (n : ℕ) → n ≤ 12 → List (View.Piece (Elt F) S12x128x128 .f32)
  | 0, _ => L0
  | n + 1, h => rPiece arg15 (arg15.view.writes (Elt F) arg15.view.junk (rAcc arg15 L0 n (Nat.le_of_succ_le h))) n h :: rAcc arg15 L0 n (Nat.le_of_succ_le h)

theorem rAcc_succ {arg15 : Memref sig .tc .vmem S12x128x128 .f32} {L0 : List (View.Piece (Elt F) S12x128x128 .f32)}
    {n : ℕ} {h : n + 1 ≤ 12} {L L' : List (View.Piece (Elt F) S12x128x128 .f32)}
    (e' : L' = rPiece arg15 (arg15.view.writes (Elt F) arg15.view.junk L) n h :: L) (e : L = rAcc arg15 L0 n (Nat.le_of_succ_le h)) : L' = rAcc arg15 L0 (n + 1) h := by
  subst e e'; rfl

/-- The column the masked block starts at. -/
def colM (i : grid0.Coords) : ℕ := k0_off205 i 3
theorem colM_le (i : grid0.Coords) : colM i + 256 ≤ 2048 := k0_off205_inb i 3

/-- Which keys of the masked block lie after the queries of group `g`. -/
def hid (i : grid0.Coords) (g : ℕ) : IVec S16x256 1 :=
  cmpi .sgt (addi (broadcast S16x256 (Run.run.sl.v1267 i)) (iota .tc S16x256 32 [1] iota_S16x256_d1_w32))
    (addi (broadcast S16x256 (Scalar.addi (Scalar.muli (BitVec.ofNat 32 (i 1).val) 128#32) (BitVec.ofNat 32 (16 * g)))) (iota .tc S16x256 32 [0] iota_S16x256_d0_w32))

/-- The masked tile. -/
def sMsk (i : grid0.Coords) (s : (n : ℕ) → n < 96 → FVec F S16x256 .f32) (n : ℕ) (hn : n < 96) : FVec F S16x256 .f32 :=
  select (hid i (n / 12)) (broadcast S16x256 (Scalar.ofBits (F := F) .f32 0xFF800000#32)) (s n hn)

/-- The stores of the score loop, of its remainder loop, and of the masked block. -/
abbrev P1 (c : Dev nD) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole) (X2 : BufTy.Contents (Elt F) arg2.view.ty) (X3 : BufTy.Contents (Elt F) arg3.view.ty) (X4 : BufTy.Contents (Elt F) arg4.view.ty) (X5 : BufTy.Contents (Elt F) arg5.view.ty) (X8 : BufTy.Contents (Elt F) arg8.view.ty) (X9 : BufTy.Contents (Elt F) arg9.view.ty) (X14 : BufTy.Contents (Elt F) arg14.view.ty) := pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (Run.run.sl.v20 i) Run.run.sl.r (Run.run.sl.r_38 arg2 arg3 X2 X3) (Run.run.sl.r_42 arg2 arg3 X2 X3) X4 X5 X8 X9 (arg13.view.writes (Elt F) arg13.view.junk (Run.run.sl.H13_192 arg2 arg3 X2 X3)) X14 (arg15.view.writes (Elt F) arg15.view.junk Run.run.sl.H15_1) (Scf.trips (k0_t1_loop i).lb (k0_t1_loop i).ub (k0_t1_loop i).st)

abbrev P2 (c : Dev nD) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole) (X2 : BufTy.Contents (Elt F) arg2.view.ty) (X3 : BufTy.Contents (Elt F) arg3.view.ty) (X4 : BufTy.Contents (Elt F) arg4.view.ty) (X5 : BufTy.Contents (Elt F) arg5.view.ty) (X8 : BufTy.Contents (Elt F) arg8.view.ty) (X9 : BufTy.Contents (Elt F) arg9.view.ty) (X14 : BufTy.Contents (Elt F) arg14.view.ty) := pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (Run.run.sl.v20 i) Run.run.sl.r (Run.run.sl.r_38 arg2 arg3 X2 X3) (Run.run.sl.r_42 arg2 arg3 X2 X3) (Run.run.sl.v1265 i) X4 X5 X8 X9 (arg13.view.writes (Elt F) arg13.view.junk (Run.run.sl.H13_192 arg2 arg3 X2 X3)) (arg14.view.writes (Elt F) X14 (P1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14).1) (arg15.view.writes (Elt F) arg15.view.junk ((P1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14).2 ++ Run.run.sl.H15_1)) (Scf.trips (k0_t2_loop i).lb (k0_t2_loop i).ub (k0_t2_loop i).st)

/-- The masked block's tiles. -/
abbrev tM (c : Dev nD) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole) (X2 : BufTy.Contents (Elt F) arg2.view.ty) (X3 : BufTy.Contents (Elt F) arg3.view.ty) (X4 : BufTy.Contents (Elt F) arg4.view.ty) (X5 : BufTy.Contents (Elt F) arg5.view.ty) (X8 : BufTy.Contents (Elt F) arg8.view.ty) (X9 : BufTy.Contents (Elt F) arg9.view.ty) (X14 : BufTy.Contents (Elt F) arg14.view.ty) (n : ℕ) (hn : n < 96) : FVec F S16x256 .f32 := sMsk i (sBlk arg4 arg5 arg8 arg9 arg13 X4 X5 X8 X9 (arg13.view.writes (Elt F) arg13.view.junk (Run.run.sl.H13_192 arg2 arg3 X2 X3)) (colM i) (colM_le i)) n hn

abbrev m15 (c : Dev nD) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole) (X2 : BufTy.Contents (Elt F) arg2.view.ty) (X3 : BufTy.Contents (Elt F) arg3.view.ty) (X4 : BufTy.Contents (Elt F) arg4.view.ty) (X5 : BufTy.Contents (Elt F) arg5.view.ty) (X8 : BufTy.Contents (Elt F) arg8.view.ty) (X9 : BufTy.Contents (Elt F) arg9.view.ty) (X14 : BufTy.Contents (Elt F) arg14.view.ty) := mAcc (F := F) arg15 ((P2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14).2 ++ ((P1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14).2 ++ Run.run.sl.H15_1)) (tM c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14) 96 (Nat.le_refl _)
abbrev r15 (c : Dev nD) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole) (X2 : BufTy.Contents (Elt F) arg2.view.ty) (X3 : BufTy.Contents (Elt F) arg3.view.ty) (X4 : BufTy.Contents (Elt F) arg4.view.ty) (X5 : BufTy.Contents (Elt F) arg5.view.ty) (X8 : BufTy.Contents (Elt F) arg8.view.ty) (X9 : BufTy.Contents (Elt F) arg9.view.ty) (X14 : BufTy.Contents (Elt F) arg14.view.ty) := rPiece (F := F) arg15 (arg15.view.writes (Elt F) arg15.view.junk (Run.run.sl.H15_107 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14)) 11 (by decide) :: Run.run.sl.H15_107 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14
abbrev s14 (c : Dev nD) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole) (X2 : BufTy.Contents (Elt F) arg2.view.ty) (X3 : BufTy.Contents (Elt F) arg3.view.ty) (X4 : BufTy.Contents (Elt F) arg4.view.ty) (X5 : BufTy.Contents (Elt F) arg5.view.ty) (X8 : BufTy.Contents (Elt F) arg8.view.ty) (X9 : BufTy.Contents (Elt F) arg9.view.ty) (X14 : BufTy.Contents (Elt F) arg14.view.ty) := down (sPiece (colM i) (colM_le i) (tM c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14)) 96 (Nat.le_refl _) ++ ((P2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14).1 ++ (P1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14).1)

/-- The stores of the value loop and of its remainder loop. -/
abbrev P3 (c : Dev nD) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X14 : BufTy.Contents (Elt F) arg14.view.ty) := pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (Run.run.sl.v20 i) (Run.run.sl.r_159 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14) X6 X7 X10 (arg14.view.writes (Elt F) X14 (s14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14)) (arg15.view.writes (Elt F) arg15.view.junk (r15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14)) (arg16.view.writes (Elt F) arg16.view.junk Run.run.sl.H16_1) (arg17.view.writes (Elt F) arg17.view.junk Run.run.sl.H17_1) (Scf.trips (k0_t3_loop i).lb (k0_t3_loop i).ub (k0_t3_loop i).st)
abbrev P4 (c : Dev nD) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X14 : BufTy.Contents (Elt F) arg14.view.ty) := pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (Run.run.sl.v20 i) (Run.run.sl.r_159 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14) (Run.run.sl.v3995 i) X6 X7 X10 (arg14.view.writes (Elt F) X14 (s14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14)) (arg15.view.writes (Elt F) arg15.view.junk (r15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14)) (arg16.view.writes (Elt F) arg16.view.junk ((P3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14).1 ++ Run.run.sl.H16_1)) (arg17.view.writes (Elt F) arg17.view.junk ((P3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14).2 ++ Run.run.sl.H17_1)) (Scf.trips (k0_t4_loop i).lb (k0_t4_loop i).ub (k0_t4_loop i).st)

abbrev l16 (c : Dev nD) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X14 : BufTy.Contents (Elt F) arg14.view.ty) := (P4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14).1 ++ ((P3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14).1 ++ Run.run.sl.H16_1)
abbrev a17 (c : Dev nD) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X14 : BufTy.Contents (Elt F) arg14.view.ty) := (P4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14).2 ++ ((P3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14).2 ++ Run.run.sl.H17_1)

set_option maxHeartbeats 20000000 in
theorem m15_eq (c : Dev nD) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole) (X2 : BufTy.Contents (Elt F) arg2.view.ty) (X3 : BufTy.Contents (Elt F) arg3.view.ty) (X4 : BufTy.Contents (Elt F) arg4.view.ty) (X5 : BufTy.Contents (Elt F) arg5.view.ty) (X8 : BufTy.Contents (Elt F) arg8.view.ty) (X9 : BufTy.Contents (Elt F) arg9.view.ty) (X14 : BufTy.Contents (Elt F) arg14.view.ty) : Run.run.sl.H15_96 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14 = (m15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14) := by
  iterate 96 refine mAcc_succ rfl ?_
  rfl

set_option maxHeartbeats 20000000 in
theorem r15_eq (c : Dev nD) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole) (X2 : BufTy.Contents (Elt F) arg2.view.ty) (X3 : BufTy.Contents (Elt F) arg3.view.ty) (X4 : BufTy.Contents (Elt F) arg4.view.ty) (X5 : BufTy.Contents (Elt F) arg5.view.ty) (X8 : BufTy.Contents (Elt F) arg8.view.ty) (X9 : BufTy.Contents (Elt F) arg9.view.ty) (X14 : BufTy.Contents (Elt F) arg14.view.ty) : (r15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14) = rAcc arg15 (m15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14) 12 (Nat.le_refl _) := by
  iterate 12 refine rAcc_succ rfl ?_
  exact m15_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14

end Cert.KernelIdeal.Val
-- ==== Proof.Lists2.lean ====
module

public import proofs.«01_k».proof.Proof.Lists

@[expose] public section

set_option maxRecDepth 65536

noncomputable section

namespace Cert.KernelIdeal.Val

open Idealize.ShloMosaic Idealize.ShloMosaic.TcCoe
open Cert.KernelIdeal.Gen

variable {F : FTy → Type} [FloatOps F] [Named F]

/-- The sums along the rows. -/
def lSum (l : Vec F S1x128x128 .f32) : FVec F S128x1 .f32 :=
  shapeCast S128x1 (multiReduction .add [1] S128 (shapeCast S128x128 l shapeCasts_S1x128x128_S128x128) 0x00000000#32 reduces_S128x128_S128 (.inl rfl) rfl) shapeCasts_S128_S128x1

/-- One head's output. -/
def oTile (l a : Vec F S1x128x128 .f32) : FVec F S1x128x128 .bf16 :=
  shapeCast S1x128x128 (truncf .bf16 (divf (shapeCast S128x128 a shapeCasts_S1x128x128_S128x128) (broadcastTo S128x128 (lSum l) broadcasts_S128x1_S128x128)) bitsLt_bf16_f32) shapeCasts_S128x128_S1x128x128

theorem inb11 {n : ℕ} (hn : n < 12) : ∀ a, (![0, 0, 128 * n] : Fin 3 → ℕ) a + S1x128x128.size a ≤ S1x128x1536.size a := by
  intro a; fin_cases a <;> simp <;> omega

/-- The store of head `n`'s output. -/
def oPiece (l a : (n : ℕ) → n < 12 → Vec F S1x128x128 .f32) (n : ℕ) (hn : n < 12) : View.Piece (Elt F) S1x128x1536 .bf16 :=
  ⟨Rect.unit ![0, 0, 128 * n] S1x128x128.size (inb11 hn), oTile (l n hn) (a n hn)⟩

/-- The logarithms of the sums of exponentials, a column per head, over the first `n` heads. -/
def lseAcc (l m : (n : ℕ) → n < 12 → Vec F S1x128x128 .f32) : (n : ℕ) → n ≤ 12 → FVec F S128x128 .f32
  | 0, _ => broadcast S128x128 (Scalar.ofBits (F := F) .f32 0x00000000#32)
  | n + 1, h => select (cmpi .eq (iota .tc S128x128 32 [1] iota_S128x128_d1_w32) (broadcast S128x128 (BitVec.ofNat 32 n)))
      (addf (mulf (shapeCast S128x128 (m n h) shapeCasts_S1x128x128_S128x128) (broadcast S128x128 (Named.named κ "ln2" 0x3F317218#32 : F .f32)))
        (broadcastTo S128x128 (log (lSum (l n h))) broadcasts_S128x1_S128x128)) (lseAcc l m n (Nat.le_of_succ_le h))

/-- The store of the logarithms, a row per head. -/
def lsePay (x : FVec F S128x128 .f32) : FVec F S1x12x128 .f32 :=
  shapeCast S1x12x128 (extractStridedSlice S12x128 ![0, 0] (transpose S128x128 [1, 0] x transposes_S128x128_p1_0_S128x128) slices_S128x128_o0_0_S12x128) shapeCasts_S12x128_S1x12x128

/-- What a list of stores holds of head `n`. -/
def headOf (v : Memref sig .tc .vmem S12x128x128 .f32) (L : List (View.Piece (Elt F) S12x128x128 .f32)) (n : ℕ) (hn : n < 12) : Vec F S1x128x128 .f32 :=
  View.readAt (Elt F) v.view (Rect.unit (s := S12x128x128) ![n, 0, 0] S1x128x128.size (inb16 hn)).toLoadRect (v.view.writes (Elt F) v.view.junk L)

set_option maxHeartbeats 20000000 in
theorem run_lse (c : Dev nD) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) : (Run.run (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X11 X12 X13 X14 X15 X16 X17).2.val
    = [⟨Rect.unit ![0, 0, 0] S1x12x128.size inb_S1x12x128_S1x12x128_0_0_0, lsePay (lseAcc (headOf arg16 (l16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14)) (headOf arg15 (r15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14)) 12 (Nat.le_refl _))⟩] := by
  unfold Run.run
  rfl

set_option maxHeartbeats 20000000 in
theorem run_out (c : Dev nD) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) : (Run.run (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X11 X12 X13 X14 X15 X16 X17).1
    = down (oPiece (headOf arg16 (l16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14)) (headOf arg17 (a17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14))) 12 (Nat.le_refl _) := by
  unfold Run.run
  iterate 12 refine congrArg₂ List.cons rfl ?_
  rfl

end Cert.KernelIdeal.Val
-- ==== Proof.V1.lean ====
module

public import proofs.«01_k».proof.Proof.Lists2

@[expose] public section

set_option maxRecDepth 65536

noncomputable section

namespace Cert.KernelIdeal.Val

open Idealize.ShloMosaic Idealize.ShloMosaic.TcCoe
open Cert.KernelIdeal.Gen

theorem ofBits_neg_inf : Ideal.ofBits .f32 0xFF800000#32 = ⊥ := by simp [Ideal.ofBits, Ideal.ieee]
theorem ofBits_half : Ideal.ofBits .f32 0x3F000000#32 = ((1 / 2 : ℝ) : EReal) := by
  simp [Ideal.ofBits, Ideal.ieee, -EReal.coe_mul]; norm_num
theorem named_scale : Named.named (F := Ideal) κ "score_scale" (φ := .f32) 0x3C0293EE#32 = ((((Real.sqrt 128)⁻¹ * (1 / 16)) * (Real.log 2)⁻¹ : ℝ) : EReal) :=
  IdealRules.named_const.ideal_named_scalar _ _ _ _ rfl
theorem named_ln2 : Named.named (F := Ideal) κ "ln2" (φ := .f32) 0x3F317218#32 = ((Real.log 2 : ℝ) : EReal) :=
  IdealRules.named_const.ideal_named_scalar _ _ _ _ rfl

theorem select_one {α : Type} (c : BitVec 1) (x y : α) : Scalar.select c x y = if c = 1 then x else y := by
  unfold Scalar.select; rfl

theorem sTile_apply (h : ℕ) (hh : h < 12) (a0 a1 : FVec Ideal S12x256 .f32) (z0 z1 : FVec Ideal S192x256 .f32) (t : Fin 16) (u : Fin 256) :
    sTile h hh a0 a1 z0 z1 (ix2 t u)
      = z0 (ix2 ⟨16 * h + t.val, by omega⟩ u) * a0 (ix2 ⟨h, hh⟩ u) + z1 (ix2 ⟨16 * h + t.val, by omega⟩ u) * a1 (ix2 ⟨h, hh⟩ u) := by
  pointwise [sTile]

theorem mTile_apply (m : Vec Ideal S1x16x128 .f32) (s : FVec Ideal S16x256 .f32) (t : Fin 16) (l : Fin 128) :
    mTile m s (ix3 0 t l) = max (max (m (ix3 0 t l)) (s (ix2 t ⟨l.val, by omega⟩))) (s (ix2 t ⟨128 + l.val, by omega⟩)) := by
  pointwise [mTile]

theorem eTile_apply (s m : Vec Ideal S1x128x128 .f32) (q l : Fin 128) :
    eTile s m (ix2 q l) = Ideal.exp2 (s (ix3 0 q l) - m (ix3 0 q l)) := by
  pointwise [eTile]; rfl

theorem vRow_apply (x6 : Vec Ideal S1x1x12x256 .fp8e4m3) (x7 : Vec Ideal S1x1x256 .f32) (h : Fin 12) (u : Fin 256) :
    vRow x6 x7 (ix2 h u) = x6 (ix4 0 0 h u) * x7 (ix3 0 0 u) * ((1 / 2 : ℝ) : EReal) := by
  pointwise [vRow]; rw [ofBits_half]

theorem aRow_apply (x4 : Vec Ideal S1x1x12x256 .fp8e4m3) (x5 : Vec Ideal S1x1x256 .f32) (h : Fin 12) (u : Fin 256) :
    k0_pay3 x4 x5 (ix2 h u) = x4 (ix4 0 0 h u) * x5 (ix3 0 0 u) * ((((Real.sqrt 128)⁻¹ * (1 / 16)) * (Real.log 2)⁻¹ : ℝ) : EReal) := by
  pointwise [k0_pay3]; rw [named_scale]

theorem zTile_apply (x8 : Vec Ideal S1x128x128 .fp8e4m3) (x9 : Vec Ideal S1x256x128 .fp8e4m3) (x13 : Vec Ideal S1x192x256 .bf16) (r : Fin 192) (u : Fin 256) :
    zTile x8 x9 x13 (ix2 r u)
      = ∑ x : Fin 128, x13 (ix3 0 r ⟨x.val, by omega⟩) * ∑ d : Fin 128, x8 (ix3 0 x d) * x9 (ix3 0 u d)
        + ∑ x : Fin 128, x13 (ix3 0 r ⟨128 + x.val, by omega⟩)
          * (∑ d : Fin 128, x8 (ix3 0 x d) * x9 (ix3 0 u d) - ∑ d : Fin 128, x8 (ix3 0 x d) * x9 (ix3 0 u d)) := by
  pointwise [zTile]

theorem wTile_apply (h : ℕ) (hh : h < 12) (e0 e1 : FVec Ideal S128x128 .f32) (a : FVec Ideal S12x256 .f32) (x10 : Vec Ideal S1x256x128 .fp8e4m3) (q d : Fin 128) :
    wTile h hh e0 e1 a x10 (ix2 q d)
      = ∑ x : Fin 128, e0 (ix2 q x) * a (ix2 ⟨h, hh⟩ ⟨x.val, by omega⟩) * x10 (ix3 0 ⟨x.val, by omega⟩ d)
        + ∑ x : Fin 128, e1 (ix2 q x) * a (ix2 ⟨h, hh⟩ ⟨128 + x.val, by omega⟩) * x10 (ix3 0 ⟨128 + x.val, by omega⟩ d) := by
  pointwise [wTile]

theorem aTile_apply (own : IVec S16x128 1) (h : ℕ) (hh : h < 12) (a : FVec Ideal S12x128 .f32) (t : Fin 16) (l : Fin 128) :
    aTile own h hh a (ix3 0 t l) = if own (ix2 t l) = 1 then a (ix2 ⟨h, hh⟩ l) else 0 := by
  pointwise [aTile]; rw [select_one]

theorem own_apply (t : Fin 16) (l : Fin 128) : Run.run.sl.r (ix2 t l) = if l.val / 8 = t.val then 1 else 0 := by
  revert t l; decide

theorem aRow2_apply (x2 : Vec Ideal S1x12x128 .fp8e4m3) (x3 : Vec Ideal S1x1x128 .f32) (h : Fin 12) (l : Fin 128) :
    k0_pay884 x2 x3 (ix2 h l) = x2 (ix3 0 h l) * x3 (ix3 0 0 l) := by
  pointwise [k0_pay884]

theorem rowMax_apply (m : Vec Ideal S1x128x128 .f32) (q l : Fin 128) :
    rowMax m (ix3 0 q l) = Finset.fold max ⊥ (fun x : Fin 128 => m (ix3 0 q x)) Finset.univ := by
  pointwise [rowMax]; rw [ofBits_neg_inf]

theorem block_val (i : grid0.Coords) : Run.run.sl.v1267 i = BitVec.ofNat 32 (256 * ((i 1).val / 2)) := by
  have h : ∀ x : Fin 16, ∀ i : grid0.Coords, (i 1).val = x.val → Run.run.sl.v1267 i = BitVec.ofNat 32 (256 * (x.val / 2)) := by
    intro x i e
    simp only [Run.run.sl.v1267, Run.run.sl.v1266, Run.run.sl.v20, Run.run.sl.v18, Run.run.sl.v19, Run.run.sl.v17, Run.run.sl.v16, Run.run.sl.v15,
      Run.run.sl.v9, Run.run.sl.v8, Run.run.sl.v7, Run.run.sl.v6, Run.run.sl.v5, Run.run.sl.v4, Run.run.sl.v3, Run.run.sl.v2, Run.run.sl.v1, Run.run.sl.v0, e]
    clear e; revert x; decide
  exact h ⟨(i 1).val, (i 1).isLt⟩ i rfl

theorem colM_eq (i : grid0.Coords) : colM i = 256 * ((i 1).val / 2) := by
  have h : ∀ x : Fin 16, ∀ i : grid0.Coords, (i 1).val = x.val → colM i = 256 * (x.val / 2) := by
    intro x i e
    unfold colM k0_off205
    simp only [e]
    clear e; revert x; decide
  exact h ⟨(i 1).val, (i 1).isLt⟩ i rfl

theorem hid_apply (i : grid0.Coords) (g : ℕ) (hg : g < 8) (t : Fin 16) (u : Fin 256) :
    hid i g (ix2 t u) = 1 ↔ 128 * (i 1).val + 16 * g + t.val < 256 * ((i 1).val / 2) + u.val := by
  have hi : (i 1).val < 16 := (i 1).isLt
  have e : hid i g (ix2 t u) = IntOp.cmpi .sgt (BitVec.ofNat 32 (256 * ((i 1).val / 2) + u.val)) (BitVec.ofNat 32 (128 * (i 1).val + 16 * g + t.val)) := by
    pointwise [hid]
    rw [block_val]
    simp only [IntOp.addi, Scalar.addi, Scalar.muli, IntOp.muli, ← BitVec.ofNat_add, ← BitVec.ofNat_mul, Nat.mul_comm (i 1).val]
  rw [e]
  exact WordCmp.cmpi_sgt_ofNat_eq_one_iff (by omega) (by omega)

theorem trips1_eq (i : grid0.Coords) : Scf.trips (k0_t1_loop i).lb (k0_t1_loop i).ub (k0_t1_loop i).st = (i 1).val / 2 := by
  have h : ∀ x : Fin 16, ∀ i : grid0.Coords, (i 1).val = x.val → Scf.trips (k0_t1_loop i).lb (k0_t1_loop i).ub (k0_t1_loop i).st = x.val / 2 := by
    intro x i e
    unfold k0_t1_loop
    simp only [e]
    clear e; revert x; decide
  exact h ⟨(i 1).val, (i 1).isLt⟩ i rfl

theorem trips2_eq (i : grid0.Coords) : Scf.trips (k0_t2_loop i).lb (k0_t2_loop i).ub (k0_t2_loop i).st = 0 := by
  have h : ∀ x : Fin 16, ∀ i : grid0.Coords, (i 1).val = x.val → Scf.trips (k0_t2_loop i).lb (k0_t2_loop i).ub (k0_t2_loop i).st = 0 := by
    intro x i e
    unfold k0_t2_loop
    simp only [e]
    clear e; revert x; decide
  exact h ⟨(i 1).val, (i 1).isLt⟩ i rfl

theorem trips3_eq (i : grid0.Coords) : Scf.trips (k0_t3_loop i).lb (k0_t3_loop i).ub (k0_t3_loop i).st = (i 1).val / 2 + 1 := by
  have h : ∀ x : Fin 16, ∀ i : grid0.Coords, (i 1).val = x.val → Scf.trips (k0_t3_loop i).lb (k0_t3_loop i).ub (k0_t3_loop i).st = x.val / 2 + 1 := by
    intro x i e
    unfold k0_t3_loop
    simp only [e]
    clear e; revert x; decide
  exact h ⟨(i 1).val, (i 1).isLt⟩ i rfl

theorem trips4_eq (i : grid0.Coords) : Scf.trips (k0_t4_loop i).lb (k0_t4_loop i).ub (k0_t4_loop i).st = 0 := by
  have h : ∀ x : Fin 16, ∀ i : grid0.Coords, (i 1).val = x.val → Scf.trips (k0_t4_loop i).lb (k0_t4_loop i).ub (k0_t4_loop i).st = 0 := by
    intro x i e
    unfold k0_t4_loop
    simp only [e]
    clear e; revert x; decide
  exact h ⟨(i 1).val, (i 1).isLt⟩ i rfl

theorem col1_eq (i : grid0.Coords) (k : Fin (k0_t1_loop i).trips) : col1 i k = 256 * k.val := by
  have hk : k.val < 8 := by have hk : k.val < Scf.trips (k0_t1_loop i).lb (k0_t1_loop i).ub (k0_t1_loop i).st := k.isLt; have e := trips1_eq i; have hi : (i 1).val < 16 := (i 1).isLt; omega
  have h : ∀ x : Fin 8, k.val = x.val → col1 i k = 256 * x.val := by
    intro x e
    unfold col1 k0_off102
    simp only [e]
    clear e; revert x; decide
  exact h ⟨k.val, hk⟩ rfl

theorem col3_eq (i : grid0.Coords) (k : Fin (k0_t3_loop i).trips) : col3 i k = 256 * k.val := by
  have hk : k.val < 9 := by have hk : k.val < Scf.trips (k0_t3_loop i).lb (k0_t3_loop i).ub (k0_t3_loop i).st := k.isLt; have e := trips3_eq i; have hi : (i 1).val < 16 := (i 1).isLt; omega
  have h : ∀ x : Fin 9, k.val = x.val → col3 i k = 256 * x.val := by
    intro x e
    unfold col3 k0_off308
    simp only [e]
    clear e; revert x; decide
  exact h ⟨k.val, hk⟩ rfl

theorem col3a_eq (i : grid0.Coords) (k : Fin (k0_t3_loop i).trips) : col3a i k = 256 * k.val := by
  have hk : k.val < 9 := by have hk : k.val < Scf.trips (k0_t3_loop i).lb (k0_t3_loop i).ub (k0_t3_loop i).st := k.isLt; have e := trips3_eq i; have hi : (i 1).val < 16 := (i 1).isLt; omega
  have h : ∀ x : Fin 9, k.val = x.val → col3a i k = 256 * x.val := by
    intro x e
    unfold col3a k0_off323
    simp only [e]
    clear e; revert x; decide
  exact h ⟨k.val, hk⟩ rfl

theorem col3b_eq (i : grid0.Coords) (k : Fin (k0_t3_loop i).trips) : col3b i k = 256 * k.val + 128 := by
  have hk : k.val < 9 := by have hk : k.val < Scf.trips (k0_t3_loop i).lb (k0_t3_loop i).ub (k0_t3_loop i).st := k.isLt; have e := trips3_eq i; have hi : (i 1).val < 16 := (i 1).isLt; omega
  have h : ∀ x : Fin 9, k.val = x.val → col3b i k = 256 * x.val + 128 := by
    intro x e
    unfold col3b k0_off323
    simp only [e]
    clear e; revert x; decide
  exact h ⟨k.val, hk⟩ rfl

theorem lSum_apply (l : Vec Ideal S1x128x128 .f32) (q : Fin 128) : lSum l (ix2 q 0) = ∑ x : Fin 128, l (ix3 0 q x) := by
  pointwise [lSum]

theorem oTile_apply (l a : Vec Ideal S1x128x128 .f32) (q d : Fin 128) :
    oTile l a (ix3 0 q d) = Ideal.div (a (ix3 0 q d)) (∑ x : Fin 128, l (ix3 0 q x)) := by
  rw [← lSum_apply]
  pointwise [oTile]

theorem lsePay_apply (x : FVec Ideal S128x128 .f32) (h : Fin 12) (q : Fin 128) : lsePay x (ix3 0 h q) = x (ix2 q ⟨h.val, by omega⟩) := by
  pointwise [lsePay]

theorem lseStep_apply (n : ℕ) (hn : n < 12) (m l : Vec Ideal S1x128x128 .f32) (y : FVec Ideal S128x128 .f32) (q c : Fin 128) :
    (select (cmpi .eq (iota .tc S128x128 32 [1] iota_S128x128_d1_w32) (broadcast S128x128 (BitVec.ofNat 32 n)))
      (addf (mulf (shapeCast S128x128 m shapeCasts_S1x128x128_S128x128) (broadcast S128x128 (Named.named κ "ln2" 0x3F317218#32 : Ideal .f32)))
        (broadcastTo S128x128 (log (lSum l)) broadcasts_S128x1_S128x128)) y : FVec Ideal S128x128 .f32) (ix2 q c)
      = if c.val = n then m (ix3 0 q c) * ((Real.log 2 : ℝ) : EReal) + Ideal.log (∑ x : Fin 128, l (ix3 0 q x)) else y (ix2 q c) := by
  rw [← lSum_apply]
  pointwise
  rw [select_one, named_ln2]
  exact if_congr (WordCmp.cmpi_eq_ofNat_eq_one_iff (by omega) (by omega)) rfl rfl

theorem sMsk_apply (i : grid0.Coords) (s : (n : ℕ) → n < 96 → FVec Ideal S16x256 .f32) (n : ℕ) (hn : n < 96) (t : Fin 16) (u : Fin 256) :
    sMsk i s n hn (ix2 t u) = if hid i (n / 12) (ix2 t u) = 1 then ⊥ else s n hn (ix2 t u) := by
  pointwise [sMsk]; rw [select_one, ofBits_neg_inf]

end Cert.KernelIdeal.Val
-- ==== Proof.V2.lean ====
module

public import proofs.«01_k».proof.Proof.V1

@[expose] public section

set_option maxRecDepth 65536

noncomputable section

namespace Cert.KernelIdeal.Val

open Idealize.ShloMosaic Idealize.ShloMosaic.TcCoe
open Cert.KernelIdeal.Gen

/-! ## Reading a numbered list of stores -/

section
variable {sig' : RefSig} {κ' : Kind} {sp : Space} {s : Shape} {e : EltTy} {Val : EltTy → Type} (v : View sig' κ' sp s e) (f : v.ty.Contents Val)

theorem read_down_miss {N : ℕ} (g : (n : ℕ) → n < N → View.Piece Val s e) (L : List (View.Piece Val s e)) (y : s.Idx)
    (hd : ∀ (n : ℕ) (hn : n < N), y ∉ (g n hn).1.set) : ∀ (k : ℕ) (hk : k ≤ N),
    v.read Val (v.writes Val f (down g k hk ++ L)) y = v.read Val (v.writes Val f L) y := by
  intro k hk
  rw [View.writes_append]
  refine View.read_writes_apply_of_forall_not_mem v _ y _ fun p hp => ?_
  obtain ⟨j, hj, rfl⟩ := (mem_down g k hk p).1 hp
  exact hd j _

theorem read_cons_hit (p : View.Piece Val s e) (L : List (View.Piece Val s e)) (x : p.1.shape.Idx) (y : s.Idx)
    (hx : ∀ a, (y a).val = p.1.off a + p.1.stride a * (x a).val) : v.read Val (v.writes Val f (p :: L)) y = p.2 x :=
  View.read_writes_cons_hit_of_coords v f p.1 p.2 L x y hx

theorem read_down_hit {N : ℕ} (g : (n : ℕ) → n < N → View.Piece Val s e) (L : List (View.Piece Val s e)) (y : s.Idx) (j : ℕ) (hj : j < N)
    (x : (g j hj).1.shape.Idx) (hx : ∀ a, (y a).val = (g j hj).1.off a + (g j hj).1.stride a * (x a).val)
    (hd : ∀ (n : ℕ) (hn : n < N), n ≠ j → y ∉ (g n hn).1.set) : ∀ (k : ℕ) (hk : k ≤ N), j < k →
    v.read Val (v.writes Val f (down g k hk ++ L)) y = (g j hj).2 x
  | 0, _, h => absurd h (Nat.not_lt_zero j)
  | k + 1, hk, h => by
    rw [down, List.cons_append]
    by_cases e : j = k
    · subst e
      exact View.read_writes_cons_hit_of_coords v f _ _ _ x y hx
    · have : j < k := by omega
      rw [← read_down_hit g L y j hj x hx hd k (Nat.le_of_succ_le hk) this]
      exact View.read_writes_cons_miss v f _ _ y (hd k hk (fun h => e h.symm))
end

section
variable (n : ℕ) (h : Fin 12) (q : Fin 128)

theorem tile_not_mem {m : ℕ} (c : Fin m) {o sz : ℕ} (hn : n < 96) (inb) (hne : n ≠ 12 * (q.val / 16) + h.val) :
    (ix3 h q c : (⟨3, ![12, 128, m]⟩ : Shape).Idx) ∉ (Rect.unit (s := ⟨3, ![12, 128, m]⟩) ![n % 12, 16 * (n / 12), o] ![1, 16, sz] inb).set := by
  by_cases h0 : h.val = n % 12
  · refine Rect.not_mem_set_of_axis _ _ 1 (16 * (n / 12)) 16 rfl rfl rfl ?_
    have : ((ix3 h q c : (⟨3, ![12, 128, m]⟩ : Shape).Idx) 1).val = q.val := rfl
    rw [this]; omega
  · refine Rect.not_mem_set_of_axis _ _ 0 (n % 12) 1 rfl rfl rfl ?_
    have : ((ix3 h q c : (⟨3, ![12, 128, m]⟩ : Shape).Idx) 0).val = h.val := rfl
    rw [this]; omega

theorem col_not_mem (c : Fin 2048) {u : ℕ} (inb) (hne : ¬ (u ≤ c.val ∧ c.val < u + 256)) :
    (ix3 h q c : S12x128x2048.Idx) ∉ (Rect.unit (s := S12x128x2048) ![n % 12, 16 * (n / 12), u] S1x16x256.size inb).set := by
  refine Rect.not_mem_set_of_axis _ _ 2 u 256 rfl rfl rfl ?_
  have : ((ix3 h q c : S12x128x2048.Idx) 2).val = c.val := rfl
  rw [this]; omega

theorem head_not_mem (c : Fin 128) (inb) (hne : n ≠ h.val) :
    (ix3 h q c : S12x128x128.Idx) ∉ (Rect.unit (s := S12x128x128) ![n, 0, 0] S1x128x128.size inb).set := by
  refine Rect.not_mem_set_of_axis _ _ 0 n 1 rfl rfl rfl ?_
  have : ((ix3 h q c : S12x128x128.Idx) 0).val = h.val := rfl
  rw [this]; omega
end

abbrev Cont (v : Memref sig .tc .vmem S12x128x128 .f32) := BufTy.Contents (Elt Ideal) v.view.ty

/-! ## The score pass -/

section
variable (arg14 : Memref sig .tc .vmem S12x128x2048 .f32) (arg15 : Memref sig .tc .vmem S12x128x128 .f32)
  (f14 : BufTy.Contents (Elt Ideal) arg14.view.ty) (f15 : BufTy.Contents (Elt Ideal) arg15.view.ty)
  (G : ℕ → ℕ → ℕ → EReal) (u : ℕ) (hu : u + 256 ≤ 2048) (s : (n : ℕ) → n < 96 → FVec Ideal S16x256 .f32)
  (hs : ∀ (n : ℕ) (hn : n < 96) (t : Fin 16) (w : Fin 256), s n hn (ix2 t w) = G (n % 12) (16 * (n / 12) + t.val) (u + w.val))
include hs

theorem read_scores (L : List (View.Piece (Elt Ideal) S12x128x2048 .f32)) (h : Fin 12) (q : Fin 128) (c : Fin 2048) :
    arg14.view.read (Elt Ideal) (arg14.view.writes (Elt Ideal) f14 (down (sPiece u hu s) 96 (Nat.le_refl _) ++ L)) (ix3 h q c)
      = if u ≤ c.val ∧ c.val < u + 256 then G h.val q.val c.val else arg14.view.read (Elt Ideal) (arg14.view.writes (Elt Ideal) f14 L) (ix3 h q c) := by
  split
  next hc =>
    have hj : 12 * (q.val / 16) + h.val < 96 := by omega
    refine (read_down_hit arg14.view f14 (sPiece u hu s) L (ix3 h q c) (12 * (q.val / 16) + h.val) hj
      (ix3 0 ⟨q.val % 16, by omega⟩ ⟨c.val - u, by omega⟩ : S1x16x256.Idx) ?_ ?_ 96 (Nat.le_refl _) hj).trans ?_
    · intro a
      fin_cases a
      · show h.val = (12 * (q.val / 16) + h.val) % 12 + 1 * 0; omega
      · show q.val = 16 * ((12 * (q.val / 16) + h.val) / 12) + 1 * (q.val % 16); omega
      · show c.val = u + 1 * (c.val - u); omega
    · exact fun n hn hne => tile_not_mem n h q c hn (inb14 hn hu) hne
    · have e : shapeCast S1x16x256 (s (12 * (q.val / 16) + h.val) hj) shapeCasts_S16x256_S1x16x256 (ix3 0 ⟨q.val % 16, by omega⟩ ⟨c.val - u, by omega⟩)
        = s (12 * (q.val / 16) + h.val) hj (ix2 ⟨q.val % 16, by omega⟩ ⟨c.val - u, by omega⟩) := by pointwise
      refine e.trans ((hs _ hj _ _).trans ?_)
      congr 1
      · omega
      · show 16 * ((12 * (q.val / 16) + h.val) / 12) + q.val % 16 = q.val; omega
      · show u + (c.val - u) = c.val; omega
  next hc =>
    exact read_down_miss arg14.view f14 (sPiece u hu s) L (ix3 h q c) (fun n hn => col_not_mem n h q c (inb14 hn hu) hc) 96 (Nat.le_refl _)

theorem mPiece_apply (n : ℕ) (hn : n < 96) (h : Fin 12) (q l : Fin 128) (e : n = 12 * (q.val / 16) + h.val) :
    (mPiece arg15 f15 s n hn).2 (ix3 0 ⟨q.val % 16, by omega⟩ l : S1x16x128.Idx)
      = max (max (arg15.view.read (Elt Ideal) f15 (ix3 h q l)) (G h.val q.val (u + l.val))) (G h.val q.val (u + 128 + l.val)) := by
  refine (mTile_apply _ _ _ _).trans ?_
  rw [hs, hs]
  have e1 : n % 12 = h.val := by omega
  have e2 : 16 * (n / 12) + q.val % 16 = q.val := by omega
  have e3 : View.readAt (Elt Ideal) arg15.view (Rect.unit (s := S12x128x128) ![n % 12, 16 * (n / 12), 0] S1x16x128.size (inb15 hn)).toLoadRect f15 (ix3 0 ⟨q.val % 16, by omega⟩ l)
      = arg15.view.read (Elt Ideal) f15 (ix3 h q l) := by
    refine congrArg (arg15.view.read (Elt Ideal) f15) ?_
    funext a
    refine Fin.ext ?_
    fin_cases a
    · show n % 12 + 1 * 0 = h.val; omega
    · show 16 * (n / 12) + 1 * (q.val % 16) = q.val; omega
    · show 0 + 1 * l.val = l.val; omega
  have g : ∀ x, G (n % 12) (16 * (n / 12) + q.val % 16) x = G h.val q.val x := fun x => by rw [e1, e2]
  exact congrArg₂ max (congrArg₂ max e3 (g _)) ((g _).trans (congrArg (G h.val q.val) (Nat.add_assoc u 128 l.val).symm))

theorem mPiece_coords (n : ℕ) (hn : n < 96) (h : Fin 12) (q l : Fin 128) (e : n = 12 * (q.val / 16) + h.val) :
    ∀ a, ((ix3 h q l : S12x128x128.Idx) a).val = (mPiece arg15 f15 s n hn).1.off a + (mPiece arg15 f15 s n hn).1.stride a * ((ix3 0 ⟨q.val % 16, by omega⟩ l : S1x16x128.Idx) a).val := by
  intro a
  fin_cases a
  · show h.val = n % 12 + 1 * 0; omega
  · show q.val = 16 * (n / 12) + 1 * (q.val % 16); omega
  · show l.val = 0 + 1 * l.val; omega

theorem read_maxima (f : BufTy.Contents (Elt Ideal) arg15.view.ty) (L : List (View.Piece (Elt Ideal) S12x128x128 .f32)) (h : Fin 12) (q l : Fin 128) :
    arg15.view.read (Elt Ideal) (arg15.view.writes (Elt Ideal) f (down (mPiece arg15 f15 s) 96 (Nat.le_refl _) ++ L)) (ix3 h q l)
      = max (max (arg15.view.read (Elt Ideal) f15 (ix3 h q l)) (G h.val q.val (u + l.val))) (G h.val q.val (u + 128 + l.val)) := by
  have hj : 12 * (q.val / 16) + h.val < 96 := by omega
  refine (read_down_hit arg15.view f (mPiece arg15 f15 s) L (ix3 h q l) (12 * (q.val / 16) + h.val) hj
    (ix3 0 ⟨q.val % 16, by omega⟩ l : S1x16x128.Idx) (mPiece_coords arg15 f15 G u s hs _ hj h q l rfl) ?_ 96 (Nat.le_refl _) hj).trans ?_
  · exact fun n hn hne => tile_not_mem n h q l hn (inb15 hn) hne
  · exact mPiece_apply arg15 f15 G u s hs _ hj h q l rfl

theorem read_mAcc (L0 : List (View.Piece (Elt Ideal) S12x128x128 .f32)) (h : Fin 12) (q l : Fin 128) (n : ℕ) : ∀ (hn : n ≤ 96),
    arg15.view.read (Elt Ideal) (arg15.view.writes (Elt Ideal) arg15.view.junk (mAcc arg15 L0 s n hn)) (ix3 h q l)
      = if 12 * (q.val / 16) + h.val < n
        then max (max (arg15.view.read (Elt Ideal) (arg15.view.writes (Elt Ideal) arg15.view.junk L0) (ix3 h q l)) (G h.val q.val (u + l.val))) (G h.val q.val (u + 128 + l.val))
        else arg15.view.read (Elt Ideal) (arg15.view.writes (Elt Ideal) arg15.view.junk L0) (ix3 h q l) := by
  induction n with
  | zero => intro _; rfl
  | succ n ih =>
    intro hn
    replace ih := ih (Nat.le_of_succ_le hn)
    change arg15.view.read (Elt Ideal) (arg15.view.writes (Elt Ideal) arg15.view.junk
      (mPiece arg15 (arg15.view.writes (Elt Ideal) arg15.view.junk (mAcc arg15 L0 s n (Nat.le_of_succ_le hn))) s n hn :: mAcc arg15 L0 s n (Nat.le_of_succ_le hn))) (ix3 h q l) = _
    generalize mAcc arg15 L0 s n (Nat.le_of_succ_le hn) = L at ih ⊢
    by_cases e : n = 12 * (q.val / 16) + h.val
    · rw [if_pos (by omega)]
      refine (read_cons_hit arg15.view _ (mPiece arg15 (arg15.view.writes (Elt Ideal) arg15.view.junk L) s n hn) L (ix3 0 ⟨q.val % 16, by omega⟩ l : S1x16x128.Idx) _
        (mPiece_coords arg15 (arg15.view.writes (Elt Ideal) arg15.view.junk L) G u s hs n hn h q l e)).trans ?_
      refine (mPiece_apply arg15 _ G u s hs n hn h q l e).trans ?_
      rw [ih, if_neg (by omega)]
    · refine (View.read_writes_cons_miss arg15.view _ (mPiece arg15 (arg15.view.writes (Elt Ideal) arg15.view.junk L) s n hn) L (ix3 h q l) (tile_not_mem n h q l hn (inb15 hn) e)).trans ?_
      rw [ih]
      exact if_congr (by omega) rfl rfl
end

section
variable (arg15 : Memref sig .tc .vmem S12x128x128 .f32)

theorem headAt (f : BufTy.Contents (Elt Ideal) arg15.view.ty) (h : Fin 12) (q l : Fin 128) :
    View.readAt (Elt Ideal) arg15.view (Rect.unit (s := S12x128x128) ![h.val, 0, 0] S1x128x128.size (inb16 h.isLt)).toLoadRect f (ix3 0 q l)
      = arg15.view.read (Elt Ideal) f (ix3 h q l) := by
  refine congrArg (arg15.view.read (Elt Ideal) f) ?_
  funext a
  refine Fin.ext ?_
  fin_cases a
  · show h.val + 1 * 0 = h.val; omega
  · show 0 + 1 * q.val = q.val; omega
  · show 0 + 1 * l.val = l.val; omega

theorem head_coords (h : Fin 12) (q l : Fin 128) (w) :
    ∀ a, ((ix3 h q l : S12x128x128.Idx) a).val = (⟨Rect.unit ![h.val, 0, 0] S1x128x128.size (inb16 h.isLt), w⟩ : View.Piece (Elt Ideal) S12x128x128 .f32).1.off a
      + (⟨Rect.unit ![h.val, 0, 0] S1x128x128.size (inb16 h.isLt), w⟩ : View.Piece (Elt Ideal) S12x128x128 .f32).1.stride a * ((ix3 0 q l : S1x128x128.Idx) a).val := by
  intro a
  fin_cases a
  · show h.val = h.val + 1 * 0; omega
  · show q.val = 0 + 1 * q.val; omega
  · show l.val = 0 + 1 * l.val; omega

theorem read_rAcc (L0 : List (View.Piece (Elt Ideal) S12x128x128 .f32)) (h : Fin 12) (n : ℕ) : ∀ (hn : n ≤ 12) (q l : Fin 128),
    arg15.view.read (Elt Ideal) (arg15.view.writes (Elt Ideal) arg15.view.junk (rAcc arg15 L0 n hn)) (ix3 h q l)
      = if h.val < n
        then Finset.fold max ⊥ (fun x : Fin 128 => arg15.view.read (Elt Ideal) (arg15.view.writes (Elt Ideal) arg15.view.junk L0) (ix3 h q x)) Finset.univ
        else arg15.view.read (Elt Ideal) (arg15.view.writes (Elt Ideal) arg15.view.junk L0) (ix3 h q l) := by
  induction n with
  | zero => intro _ _ _; rfl
  | succ n ih =>
    intro hn q l
    replace ih := ih (Nat.le_of_succ_le hn)
    change arg15.view.read (Elt Ideal) (arg15.view.writes (Elt Ideal) arg15.view.junk
      (rPiece arg15 (arg15.view.writes (Elt Ideal) arg15.view.junk (rAcc arg15 L0 n (Nat.le_of_succ_le hn))) n hn :: rAcc arg15 L0 n (Nat.le_of_succ_le hn))) (ix3 h q l) = _
    generalize rAcc arg15 L0 n (Nat.le_of_succ_le hn) = L at ih ⊢
    by_cases e : n = h.val
    · subst e
      rw [if_pos (by omega)]
      refine (read_cons_hit arg15.view _ (rPiece arg15 (arg15.view.writes (Elt Ideal) arg15.view.junk L) h.val hn) L (ix3 0 q l : S1x128x128.Idx) _
        (head_coords h q l (rPiece arg15 (arg15.view.writes (Elt Ideal) arg15.view.junk L) h.val hn).2)).trans ?_
      refine (rowMax_apply _ q l).trans ?_
      refine congrArg (fun g => Finset.fold max ⊥ g (Finset.univ : Finset (Fin 128))) (funext fun x => ?_)
      refine (headAt arg15 _ h q x).trans ?_
      rw [ih, if_neg (by omega)]
    · refine (View.read_writes_cons_miss arg15.view _ (rPiece arg15 (arg15.view.writes (Elt Ideal) arg15.view.junk L) n hn) L (ix3 h q l) (head_not_mem n h q l (inb16 hn) e)).trans ?_
      rw [ih]
      exact if_congr (by omega) rfl rfl

theorem addTile_apply (x : Vec Ideal S1x128x128 .f32) (e0 e1 : FVec Ideal S128x128 .f32) (q l : Fin 128) :
    shapeCast S1x128x128 (addf (addf (shapeCast S128x128 x shapeCasts_S1x128x128_S128x128) e0) e1) shapeCasts_S128x128_S1x128x128 (ix3 0 q l)
      = x (ix3 0 q l) + e0 (ix2 q l) + e1 (ix2 q l) := by pointwise

/-- A list of one addition per head. -/
theorem read_sums (f f16 : BufTy.Contents (Elt Ideal) arg15.view.ty) (e0 e1 : (n : ℕ) → n < 12 → FVec Ideal S128x128 .f32)
    (L : List (View.Piece (Elt Ideal) S12x128x128 .f32)) (h : Fin 12) (q l : Fin 128) :
    arg15.view.read (Elt Ideal) (arg15.view.writes (Elt Ideal) f (down (lPiece arg15 f16 e0 e1) 12 (Nat.le_refl _) ++ L)) (ix3 h q l)
      = arg15.view.read (Elt Ideal) f16 (ix3 h q l) + e0 h.val h.isLt (ix2 q l) + e1 h.val h.isLt (ix2 q l) := by
  refine (read_down_hit arg15.view f (lPiece arg15 f16 e0 e1) L (ix3 h q l) h.val h.isLt (ix3 0 q l : S1x128x128.Idx)
    (head_coords h q l (lPiece arg15 f16 e0 e1 h.val h.isLt).2) (fun n hn hne => head_not_mem n h q l (inb16 hn) hne) 12 (Nat.le_refl _) h.isLt).trans ?_
  refine (addTile_apply _ _ _ q l).trans ?_
  rw [headAt]
end

end Cert.KernelIdeal.Val
-- ==== Proof.V3.lean ====
module

public import proofs.«01_k».proof.Proof.V2

@[expose] public section

set_option maxRecDepth 65536

noncomputable section

namespace Cert.KernelIdeal.Val

open Idealize.ShloMosaic Idealize.ShloMosaic.TcCoe
open Cert.KernelIdeal.Gen

theorem read_values (arg17 : Memref sig .tc .vmem S12x128x128 .f32) (f f17 : BufTy.Contents (Elt Ideal) arg17.view.ty) (e0 e1 : (n : ℕ) → n < 12 → FVec Ideal S128x128 .f32)
    (L : List (View.Piece (Elt Ideal) S12x128x128 .f32)) (h : Fin 12) (q l : Fin 128) :
    arg17.view.read (Elt Ideal) (arg17.view.writes (Elt Ideal) f (down (accPiece arg17 f17 e0 e1) 12 (Nat.le_refl _) ++ L)) (ix3 h q l)
      = arg17.view.read (Elt Ideal) f17 (ix3 h q l) + e0 h.val h.isLt (ix2 q l) + e1 h.val h.isLt (ix2 q l) :=
  read_sums arg17 f f17 e0 e1 L h q l

/-- The running maximum after `K` blocks of keys, in one lane. -/
def mxAcc (G : ℕ → EReal) (b : EReal) (l : ℕ) : ℕ → EReal
  | 0 => b
  | K + 1 => max (max (mxAcc G b l K) (G (256 * K + l))) (G (256 * K + 128 + l))

/-- The running sum after `K` blocks of keys, in one lane. -/
def smAcc (G : ℕ → EReal) (b : EReal) (l : ℕ) : ℕ → EReal
  | 0 => b
  | K + 1 => smAcc G b l K + G (256 * K + l) + G (256 * K + 128 + l)

/-- The running weighted sum after `K` blocks of keys. -/
def vAcc (w0 w1 : ℕ → EReal) (b : EReal) : ℕ → EReal
  | 0 => b
  | K + 1 => vAcc w0 w1 b K + w0 K + w1 K

section
variable (c : Dev nD) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole)

set_option maxHeartbeats 4000000 in
theorem score_loop (v20 : BitVec 32) (v47 : IVec S16x128 1) (v1111 : FVec Ideal S12x128 .f32) (v1237 : FVec Ideal S16x128 .bf16)
    (X4 : BufTy.Contents (Elt Ideal) arg4.view.ty) (X5 : BufTy.Contents (Elt Ideal) arg5.view.ty) (X8 : BufTy.Contents (Elt Ideal) arg8.view.ty) (X9 : BufTy.Contents (Elt Ideal) arg9.view.ty) (X13 : BufTy.Contents (Elt Ideal) arg13.view.ty) (G14 : BufTy.Contents (Elt Ideal) arg14.view.ty) (G15 : BufTy.Contents (Elt Ideal) arg15.view.ty)
    (G : ℕ → ℕ → ℕ → EReal) (hG : ∀ (u : ℕ) (hu : u + 256 ≤ 2048) (n : ℕ) (hn : n < 96) (t : Fin 16) (w : Fin 256),
      sBlk arg4 arg5 arg8 arg9 arg13 X4 X5 X8 X9 X13 u hu n hn (ix2 t w) = G (n % 12) (16 * (n / 12) + t.val) (u + w.val)) (K : ℕ) : K ≤ (i 1).val / 2 →
    (∀ (h : Fin 12) (q : Fin 128) (y : Fin 2048), y.val < 256 * K →
      arg14.view.read (Elt Ideal) (arg14.view.writes (Elt Ideal) G14 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v47 v1111 v1237 X4 X5 X8 X9 X13 G14 G15 K).1) (ix3 h q y) = G h.val q.val y.val)
    ∧ ∀ (h : Fin 12) (q l : Fin 128),
      arg15.view.read (Elt Ideal) (arg15.view.writes (Elt Ideal) G15 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v47 v1111 v1237 X4 X5 X8 X9 X13 G14 G15 K).2) (ix3 h q l)
        = mxAcc (G h.val q.val) (arg15.view.read (Elt Ideal) G15 (ix3 h q l)) l.val K := by
  induction K with
  | zero => exact fun _ => ⟨fun h q y hy => absurd hy (by omega), fun h q l => rfl⟩
  | succ K ih =>
    intro hK
    obtain ⟨ih1, ih2⟩ := ih (by omega)
    have hk : K < (k0_t1_loop i).trips := by
      show K < Scf.trips (k0_t1_loop i).lb (k0_t1_loop i).ub (k0_t1_loop i).st
      have e := trips1_eq i
      omega
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v47 v1111 v1237 X4 X5 X8 X9 X13 G14 G15 ⟨K, hk⟩
    have hs := hG (col1 i ⟨K, hk⟩) (col1_le i ⟨K, hk⟩)
    have hc : col1 i ⟨K, hk⟩ = 256 * K := col1_eq i ⟨K, hk⟩
    have e1 := (congrArg Prod.fst e).trans (congrArg (· ++ _) (trip1_scores (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v47 v1111 v1237 X4 X5 X8 X9 X13 ⟨K, hk⟩ _ _))
    have e2 := (congrArg Prod.snd e).trans (congrArg (· ++ _) (trip1_maxima (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v47 v1111 v1237 X4 X5 X8 X9 X13 ⟨K, hk⟩ _ _))
    clear e
    constructor
    · intro h q y hy
      rw [e1]
      refine (read_scores arg14 G14 G (col1 i ⟨K, hk⟩) (col1_le i ⟨K, hk⟩) _ hs _ h q y).trans ?_
      split
      next => rfl
      next hn => exact ih1 h q y (by omega)
    · intro h q l
      rw [e2]
      refine (read_maxima arg15 _ G (col1 i ⟨K, hk⟩) _ hs G15 _ h q l).trans ?_
      rw [ih2, hc, mxAcc]

set_option maxHeartbeats 4000000 in
theorem value_loop (v20 : BitVec 32) (v3979 : FVec Ideal S128x128 .f32)
    (X6 : BufTy.Contents (Elt Ideal) arg6.view.ty) (X7 : BufTy.Contents (Elt Ideal) arg7.view.ty) (X10 : BufTy.Contents (Elt Ideal) arg10.view.ty) (X14 : BufTy.Contents (Elt Ideal) arg14.view.ty) (X15 : BufTy.Contents (Elt Ideal) arg15.view.ty) (G16 : BufTy.Contents (Elt Ideal) arg16.view.ty) (G17 : BufTy.Contents (Elt Ideal) arg17.view.ty)
    (E : ℕ → ℕ → ℕ → EReal) (W : ℕ → ℕ → ℕ → ℕ → ℕ → EReal)
    (hE : ∀ (u : ℕ) (hu : u + 128 ≤ 2048) (n : ℕ) (hn : n < 12) (q l : Fin 128), u < 256 * ((i 1).val / 2 + 1) → u % 128 = 0 →
      eBlk arg14 arg15 X14 X15 u hu n hn (ix2 q l) = E n q.val (u + l.val))
    (hW : ∀ (K : ℕ) (hu : 256 * K + 256 ≤ 2048) (n : ℕ) (hn : n < 12) (j : ℕ) (hj : j < 2) (e0 e1 : FVec Ideal S128x128 .f32) (q d : Fin 128),
      (∀ x : Fin 128, e0 (ix2 q x) = E n q.val (256 * K + x.val)) → (∀ x : Fin 128, e1 (ix2 q x) = E n q.val (256 * K + 128 + x.val)) →
      wBlk arg6 arg7 arg10 X6 X7 X10 (256 * K) hu n hn e0 e1 j hj (ix2 q d) = W n q.val d.val j K) (K : ℕ) : K ≤ (i 1).val / 2 + 1 →
    (∀ (h : Fin 12) (q l : Fin 128),
      arg16.view.read (Elt Ideal) (arg16.view.writes (Elt Ideal) G16 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v3979 X6 X7 X10 X14 X15 G16 G17 K).1) (ix3 h q l)
        = smAcc (E h.val q.val) (arg16.view.read (Elt Ideal) G16 (ix3 h q l)) l.val K)
    ∧ ∀ (h : Fin 12) (q d : Fin 128),
      arg17.view.read (Elt Ideal) (arg17.view.writes (Elt Ideal) G17 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v3979 X6 X7 X10 X14 X15 G16 G17 K).2) (ix3 h q d)
        = vAcc (W h.val q.val d.val 0) (W h.val q.val d.val 1) (arg17.view.read (Elt Ideal) G17 (ix3 h q d)) K := by
  induction K with
  | zero => exact fun _ => ⟨fun h q l => rfl, fun h q d => rfl⟩
  | succ K ih =>
    intro hK
    obtain ⟨ih1, ih2⟩ := ih (by omega)
    have hi : (i 1).val < 16 := (i 1).isLt
    have hk : K < (k0_t3_loop i).trips := by
      show K < Scf.trips (k0_t3_loop i).lb (k0_t3_loop i).ub (k0_t3_loop i).st
      have e := trips3_eq i
      omega
    have e := pb_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v3979 X6 X7 X10 X14 X15 G16 G17 ⟨K, hk⟩
    have hc : col3 i ⟨K, hk⟩ = 256 * K := col3_eq i ⟨K, hk⟩
    have hca : col3a i ⟨K, hk⟩ = 256 * K := col3a_eq i ⟨K, hk⟩
    have hcb : col3b i ⟨K, hk⟩ = 256 * K + 128 := col3b_eq i ⟨K, hk⟩
    have e1 := (congrArg Prod.fst e).trans (congrArg (· ++ _) (trip3_sums (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v3979 X6 X7 X10 X14 X15 ⟨K, hk⟩ _ _))
    have e2 := (congrArg Prod.snd e).trans (congrArg (· ++ _) (trip3_values (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v3979 X6 X7 X10 X14 X15 ⟨K, hk⟩ _ _))
    clear e
    have ha : ∀ (n : ℕ) (hn : n < 12) (q l : Fin 128), eBlk arg14 arg15 X14 X15 (col3a i ⟨K, hk⟩) (col3a_le i ⟨K, hk⟩) n hn (ix2 q l) = E n q.val (256 * K + l.val) :=
      fun n hn q l => (hE _ _ n hn q l (by omega) (by omega)).trans (by rw [hca])
    have hb : ∀ (n : ℕ) (hn : n < 12) (q l : Fin 128), eBlk arg14 arg15 X14 X15 (col3b i ⟨K, hk⟩) (col3b_le i ⟨K, hk⟩) n hn (ix2 q l) = E n q.val (256 * K + 128 + l.val) :=
      fun n hn q l => (hE _ _ n hn q l (by omega) (by omega)).trans (by rw [hcb])
    have hw : ∀ (n : ℕ) (hn : n < 12) (j : ℕ) (hj : j < 2) (q d : Fin 128),
        wBlk arg6 arg7 arg10 X6 X7 X10 (col3 i ⟨K, hk⟩) (col3_le i ⟨K, hk⟩) n hn (eBlk arg14 arg15 X14 X15 (col3a i ⟨K, hk⟩) (col3a_le i ⟨K, hk⟩) n hn)
          (eBlk arg14 arg15 X14 X15 (col3b i ⟨K, hk⟩) (col3b_le i ⟨K, hk⟩) n hn) j hj (ix2 q d) = W n q.val d.val j K := by
      intro n hn j hj q d
      have h0 := ha n hn q
      have h1 := hb n hn q
      generalize eBlk arg14 arg15 X14 X15 (col3a i ⟨K, hk⟩) (col3a_le i ⟨K, hk⟩) n hn = e0 at h0 ⊢
      generalize eBlk arg14 arg15 X14 X15 (col3b i ⟨K, hk⟩) (col3b_le i ⟨K, hk⟩) n hn = e1 at h1 ⊢
      have key : ∀ (u : ℕ) (hu : u + 256 ≤ 2048), u = 256 * K → wBlk arg6 arg7 arg10 X6 X7 X10 u hu n hn e0 e1 j hj (ix2 q d) = W n q.val d.val j K := by
        intro u hu he
        subst he
        exact hW K hu n hn j hj e0 e1 q d h0 h1
      exact key _ _ hc
    constructor
    · intro h q l
      rw [e1]
      refine (read_sums arg16 _ _ _ _ _ h q l).trans ?_
      rw [ih1, ha, hb, smAcc]
    · intro h q d
      rw [e2]
      refine (read_values arg17 _ _ _ _ _ h q d).trans ?_
      rw [ih2, hw, hw, vAcc]

end

end Cert.KernelIdeal.Val
-- ==== Proof.V4.lean ====
module

public import proofs.«01_k».proof.Proof.V3

@[expose] public section

set_option maxRecDepth 65536

noncomputable section

namespace Cert.KernelIdeal.Val

open Idealize.ShloMosaic Idealize.ShloMosaic.TcCoe
open Cert.KernelIdeal.Gen

theorem readAt_eq {sig' : RefSig} {κ' : Kind} {sp : Space} {s : Shape} {e : EltTy} {Val : EltTy → Type} (v : View sig' κ' sp s e) (f : v.ty.Contents Val)
    {off : Fin s.rank → ℕ} {size : Fin s.rank → ℕ} (inb : ∀ a, off a + size a ≤ s.size a) (x : (Rect.unit (s := s) off size inb).shape.Idx) (y : s.Idx)
    (hy : ∀ a, (y a).val = off a + 1 * (x a).val) :
    View.readAt Val v (Rect.unit (s := s) off size inb).toLoadRect f x = v.read Val f y :=
  congrArg (v.read Val f) (funext fun a => Fin.ext (hy a).symm)

/-! ## The mixing weights -/

section
variable (arg2 : Memref sig .tc .vmem S1x12x1024 .fp8e4m3) (arg3 : Memref sig .tc .vmem S1x1x1024 .f32)
  (X2 : BufTy.Contents (Elt Ideal) arg2.view.ty) (X3 : BufTy.Contents (Elt Ideal) arg3.view.ty)
  (q2 : ℕ → ℕ → ℝ) (q3 : ℕ → ℝ)
  (h2 : ∀ (h : Fin 12) (t : Fin 1024), arg2.view.read (Elt Ideal) X2 (ix3 0 h t) = ((q2 h.val t.val : ℝ) : EReal))
  (h3 : ∀ (t : Fin 1024), arg3.view.read (Elt Ideal) X3 (ix3 0 0 t) = ((q3 t.val : ℝ) : EReal))
include h2 h3

theorem weight_not_mem (n : ℕ) (hn : n < 192) (g : Fin 8) (r : Fin 192) (x : Fin 256) (inb) (hne : n ≠ 24 * g.val + 2 * (r.val / 16) + x.val / 128) :
    (ix3 g r x : S8x192x256.Idx) ∉ (Rect.unit (s := S8x192x256) ![n / 24, 16 * (n / 2 % 12), 128 * (n % 2)] S1x16x128.size inb).set := by
  by_cases a0 : n / 24 = g.val
  · by_cases a1 : n / 2 % 12 = r.val / 16
    · refine Rect.not_mem_set_of_axis _ _ 2 (128 * (n % 2)) 128 rfl rfl rfl ?_
      have : ((ix3 g r x : S8x192x256.Idx) 2).val = x.val := rfl
      rw [this]; omega
    · refine Rect.not_mem_set_of_axis _ _ 1 (16 * (n / 2 % 12)) 16 rfl rfl rfl ?_
      have : ((ix3 g r x : S8x192x256.Idx) 1).val = r.val := rfl
      rw [this]; omega
  · refine Rect.not_mem_set_of_axis _ _ 0 (n / 24) 1 rfl rfl rfl ?_
    have : ((ix3 g r x : S8x192x256.Idx) 0).val = g.val := rfl
    rw [this]; omega

theorem read_weights (arg13 : Memref sig .tc .vmem S8x192x256 .bf16) (f : BufTy.Contents (Elt Ideal) arg13.view.ty) (g : Fin 8) (r : Fin 192) (x : Fin 256) :
    arg13.view.read (Elt Ideal) (arg13.view.writes (Elt Ideal) f (Run.run.sl.H13_192 (F := Ideal) arg2 arg3 X2 X3)) (ix3 g r x)
      = if x.val % 128 / 8 = r.val % 16 then ((q2 (r.val / 16) (128 * g.val + x.val % 128) * q3 (128 * g.val + x.val % 128) : ℝ) : EReal) else 0 := by
  rw [weights_eq, ← List.append_nil (down _ _ _)]
  have hj : 24 * g.val + 2 * (r.val / 16) + x.val / 128 < 192 := by omega
  refine (read_down_hit arg13.view f (aPiece Run.run.sl.r arg2 arg3 X2 X3) [] (ix3 g r x) (24 * g.val + 2 * (r.val / 16) + x.val / 128) hj
    (ix3 0 ⟨r.val % 16, by omega⟩ ⟨x.val % 128, by omega⟩ : S1x16x128.Idx) ?_ ?_ 192 (Nat.le_refl _) hj).trans ?_
  · intro a
    fin_cases a
    · show g.val = (24 * g.val + 2 * (r.val / 16) + x.val / 128) / 24 + 1 * 0; omega
    · show r.val = 16 * ((24 * g.val + 2 * (r.val / 16) + x.val / 128) / 2 % 12) + 1 * (r.val % 16); omega
    · show x.val = 128 * ((24 * g.val + 2 * (r.val / 16) + x.val / 128) % 2) + 1 * (x.val % 128); omega
  · exact fun n hn hne => weight_not_mem arg2 arg3 X2 X3 q2 q3 h2 h3 n hn g r x (inbA hn) hne
  · refine (aTile_apply Run.run.sl.r _ (Nat.mod_lt _ (by decide)) _ ⟨r.val % 16, by omega⟩ ⟨x.val % 128, by omega⟩).trans ?_
    rw [own_apply, aRow2_apply]
    have e2 := readAt_eq arg2.view X2 (inb2 hj) (ix3 0 ⟨(24 * g.val + 2 * (r.val / 16) + x.val / 128) / 2 % 12, by omega⟩ ⟨x.val % 128, by omega⟩ : S1x12x128.Idx)
      (ix3 0 ⟨r.val / 16, by omega⟩ ⟨128 * g.val + x.val % 128, by omega⟩) (by
        intro a
        fin_cases a
        · rfl
        · show r.val / 16 = 0 + 1 * ((24 * g.val + 2 * (r.val / 16) + x.val / 128) / 2 % 12); omega
        · show 128 * g.val + x.val % 128 = 128 * ((24 * g.val + 2 * (r.val / 16) + x.val / 128) / 24) + 1 * (x.val % 128); omega)
    have e3 := readAt_eq arg3.view X3 (inb3 hj) (ix3 0 0 ⟨x.val % 128, by omega⟩ : S1x1x128.Idx)
      (ix3 0 0 ⟨128 * g.val + x.val % 128, by omega⟩) (by
        intro a
        fin_cases a
        · rfl
        · rfl
        · show 128 * g.val + x.val % 128 = 128 * ((24 * g.val + 2 * (r.val / 16) + x.val / 128) / 24) + 1 * (x.val % 128); omega)
    rw [h2] at e2
    rw [h3] at e3
    rw [e2, e3, ← EReal.coe_mul]
    refine if_congr ?_ rfl rfl
    split
    next hh => exact iff_of_true rfl hh
    next hh => exact iff_of_false (by decide) hh
end

/-! ## The scores -/

/-- A sum over a token's own columns. -/
theorem sum_own (F : ℕ → ℝ) (t : ℕ) (ht : t < 16) : (∑ x : Fin 128, if x.val / 8 = t then F x.val else 0) = ∑ r : Fin 8, F (8 * t + r.val) := by
  rw [← Equiv.sum_comp (finProdFinEquiv (m := 16) (n := 8)) (fun x : Fin 128 => if x.val / 8 = t then F x.val else 0), Fintype.sum_prod_type,
    Finset.sum_eq_single (⟨t, ht⟩ : Fin 16)]
  · refine Finset.sum_congr rfl fun r _ => ?_
    show (if (r.val + 8 * t) / 8 = t then F (r.val + 8 * t) else 0) = _
    rw [if_pos (by omega), Nat.add_comm]
  · intro b _ hb
    refine Finset.sum_eq_zero fun r _ => ?_
    show (if (r.val + 8 * b.val) / 8 = t then F (r.val + 8 * b.val) else 0) = _
    rw [if_neg]
    intro e
    exact hb (Fin.ext (by show b.val = t; omega))
  · exact fun h => absurd (Finset.mem_univ _) h

theorem coe_sum {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- The factors' inner product of query column `t` and key `u`, rank `j`. -/
def ipR (b8 b9 : ℕ → ℕ → ℝ) (t u j : ℕ) : ℝ := ∑ d : Fin 128, b8 t d.val * b9 u (128 * j + d.val)

/-- The queries' side of a score. -/
def zR (q2 : ℕ → ℕ → ℝ) (q3 : ℕ → ℝ) (b8 b9 : ℕ → ℕ → ℝ) (h q u j : ℕ) : ℝ :=
  ∑ r : Fin 8, q2 h (8 * q + r.val) * q3 (8 * q + r.val) * ipR b8 b9 (8 * q + r.val) u j

/-- The scale of the scores, in base two. -/
def scaleR : ℝ := ((Real.sqrt 128)⁻¹ * (1 / 16)) * (Real.log 2)⁻¹

/-- A score, in base two. -/
def scR (q2 : ℕ → ℕ → ℝ) (q3 : ℕ → ℝ) (k4 : ℕ → ℕ → ℕ → ℝ) (k5 : ℕ → ℕ → ℝ) (b8 b9 : ℕ → ℕ → ℝ) (h q u : ℕ) : ℝ :=
  zR q2 q3 b8 b9 h q u 0 * (k4 0 h u * k5 0 u * scaleR) + zR q2 q3 b8 b9 h q u 1 * (k4 1 h u * k5 1 u * scaleR)

section
variable (arg4 : Memref sig .tc .vmem S1x2x12x2048 .fp8e4m3) (arg5 : Memref sig .tc .vmem S1x2x2048 .f32)
  (arg8 : Memref sig .tc .vmem S1x1024x128 .fp8e4m3) (arg9 : Memref sig .tc .vmem S1x2048x256 .fp8e4m3)
  (arg13 : Memref sig .tc .vmem S8x192x256 .bf16)
  (X4 : BufTy.Contents (Elt Ideal) arg4.view.ty) (X5 : BufTy.Contents (Elt Ideal) arg5.view.ty) (X8 : BufTy.Contents (Elt Ideal) arg8.view.ty)
  (X9 : BufTy.Contents (Elt Ideal) arg9.view.ty) (X13 : BufTy.Contents (Elt Ideal) arg13.view.ty)
  (q2 : ℕ → ℕ → ℝ) (q3 : ℕ → ℝ) (k4 : ℕ → ℕ → ℕ → ℝ) (k5 : ℕ → ℕ → ℝ) (b8 b9 : ℕ → ℕ → ℝ)
  (h4 : ∀ (j : Fin 2) (h : Fin 12) (u : Fin 2048), arg4.view.read (Elt Ideal) X4 (ix4 0 j h u) = ((k4 j.val h.val u.val : ℝ) : EReal))
  (h5 : ∀ (j : Fin 2) (u : Fin 2048), arg5.view.read (Elt Ideal) X5 (ix3 0 j u) = ((k5 j.val u.val : ℝ) : EReal))
  (h8 : ∀ (t : Fin 1024) (d : Fin 128), arg8.view.read (Elt Ideal) X8 (ix3 0 t d) = ((b8 t.val d.val : ℝ) : EReal))
  (h9 : ∀ (u : Fin 2048) (d : Fin 256), arg9.view.read (Elt Ideal) X9 (ix3 0 u d) = ((b9 u.val d.val : ℝ) : EReal))
  (h13 : ∀ (g : Fin 8) (r : Fin 192) (x : Fin 256), arg13.view.read (Elt Ideal) X13 (ix3 g r x)
    = if x.val % 128 / 8 = r.val % 16 then ((q2 (r.val / 16) (128 * g.val + x.val % 128) * q3 (128 * g.val + x.val % 128) : ℝ) : EReal) else 0)

include h4 h5 in
theorem aBlk_apply (u : ℕ) (hu : u + 256 ≤ 2048) (j : ℕ) (hj : j < 2) (h : Fin 12) (w : Fin 256) :
    aBlk arg4 arg5 X4 X5 u hu j hj (ix2 h w) = ((k4 j h.val (u + w.val) * k5 j (u + w.val) * scaleR : ℝ) : EReal) := by
  unfold aBlk
  rw [aRow_apply]
  have e4 := readAt_eq arg4.view X4 (inb4 hj hu) (ix4 0 0 h w : S1x1x12x256.Idx) (ix4 0 ⟨j, hj⟩ h ⟨u + w.val, by omega⟩) (by
    intro a
    fin_cases a
    · rfl
    · show j = j + 1 * 0; omega
    · show h.val = 0 + 1 * h.val; omega
    · show u + w.val = u + 1 * w.val; omega)
  have e5 := readAt_eq arg5.view X5 (inb5 hj hu) (ix3 0 0 w : S1x1x256.Idx) (ix3 0 ⟨j, hj⟩ ⟨u + w.val, by omega⟩) (by
    intro a
    fin_cases a
    · rfl
    · show j = j + 1 * 0; omega
    · show u + w.val = u + 1 * w.val; omega)
  rw [h4] at e4
  rw [h5] at e5
  rw [e4, e5, ← EReal.coe_mul, ← EReal.coe_mul]
  rfl

include h8 h9 h13 in
theorem zBlk_apply (u : ℕ) (hu : u + 256 ≤ 2048) (j : ℕ) (hj : j < 2) (n : ℕ) (hn : n < 96) (h : ℕ) (hh : h < 12) (t : Fin 16) (w : Fin 256) :
    zBlk arg8 arg9 arg13 X8 X9 X13 u hu j hj n hn (ix2 ⟨16 * h + t.val, by omega⟩ w)
      = ((zR q2 q3 b8 b9 h (16 * (n / 12) + t.val) (u + w.val) j : ℝ) : EReal) := by
  unfold zBlk
  rw [zTile_apply]
  have e8 : ∀ x d : Fin 128, View.readAt (Elt Ideal) arg8.view (Rect.unit (s := S1x1024x128) ![0, 128 * (n / 12), 0] S1x128x128.size (inb8 hn)).toLoadRect X8 (ix3 0 x d)
      = ((b8 (128 * (n / 12) + x.val) d.val : ℝ) : EReal) := fun x d =>
    (readAt_eq arg8.view X8 (inb8 hn) (ix3 0 x d : S1x128x128.Idx) (ix3 0 ⟨128 * (n / 12) + x.val, by omega⟩ d) (by
      intro a
      fin_cases a
      · rfl
      · show 128 * (n / 12) + x.val = 128 * (n / 12) + 1 * x.val; omega
      · show d.val = 0 + 1 * d.val; omega)).trans (h8 _ _)
  have e9 : ∀ d : Fin 128, View.readAt (Elt Ideal) arg9.view (Rect.unit (s := S1x2048x256) ![0, u, 128 * j] S1x256x128.size (inb9 hu (by omega))).toLoadRect X9 (ix3 0 w d)
      = ((b9 (u + w.val) (128 * j + d.val) : ℝ) : EReal) := fun d =>
    (readAt_eq arg9.view X9 (inb9 hu (by omega)) (ix3 0 w d : S1x256x128.Idx) (ix3 0 ⟨u + w.val, by omega⟩ ⟨128 * j + d.val, by omega⟩) (by
      intro a
      fin_cases a
      · rfl
      · show u + w.val = u + 1 * w.val; omega
      · show 128 * j + d.val = 128 * j + 1 * d.val; omega)).trans (h9 _ _)
  have e13 : ∀ x : Fin 128, View.readAt (Elt Ideal) arg13.view (Rect.unit (s := S8x192x256) ![n / 12, 0, 0] S1x192x256.size (inb13 hn)).toLoadRect X13 (ix3 0 ⟨16 * h + t.val, by omega⟩ ⟨x.val, by omega⟩)
      = if x.val / 8 = t.val then ((q2 h (128 * (n / 12) + x.val) * q3 (128 * (n / 12) + x.val) : ℝ) : EReal) else 0 := fun x => by
    refine (readAt_eq arg13.view X13 (inb13 hn) (ix3 0 ⟨16 * h + t.val, by omega⟩ ⟨x.val, by omega⟩ : S1x192x256.Idx) (ix3 ⟨n / 12, by omega⟩ ⟨16 * h + t.val, by omega⟩ ⟨x.val, by omega⟩) (by
      intro a
      fin_cases a
      · show n / 12 = n / 12 + 1 * 0; omega
      · show 16 * h + t.val = 0 + 1 * (16 * h + t.val); omega
      · show x.val = 0 + 1 * x.val; omega)).trans ((h13 _ _ _).trans ?_)
    have a1 : x.val % 128 = x.val := Nat.mod_eq_of_lt x.isLt
    have a2 : (16 * h + t.val) % 16 = t.val := by omega
    have a3 : (16 * h + t.val) / 16 = h := by omega
    show (if x.val % 128 / 8 = (16 * h + t.val) % 16 then ((q2 ((16 * h + t.val) / 16) (128 * (n / 12) + x.val % 128) * q3 (128 * (n / 12) + x.val % 128) : ℝ) : EReal) else 0) = _
    rw [a1, a2, a3]
  have ed : ∀ x : Fin 128, (∑ d : Fin 128, View.readAt (Elt Ideal) arg8.view (Rect.unit (s := S1x1024x128) ![0, 128 * (n / 12), 0] S1x128x128.size (inb8 hn)).toLoadRect X8 (ix3 0 x d)
      * View.readAt (Elt Ideal) arg9.view (Rect.unit (s := S1x2048x256) ![0, u, 128 * j] S1x256x128.size (inb9 hu (by omega))).toLoadRect X9 (ix3 0 w d) : EReal)
      = ((ipR b8 b9 (128 * (n / 12) + x.val) (u + w.val) j : ℝ) : EReal) := fun x => by
    refine (Finset.sum_congr rfl fun d _ => ?_).trans (coe_sum Finset.univ fun d : Fin 128 => b8 (128 * (n / 12) + x.val) d.val * b9 (u + w.val) (128 * j + d.val))
    rw [e8, e9, ← EReal.coe_mul]
  refine (congrArg₂ (· + ·) (Finset.sum_congr rfl fun x _ => ?_) (Finset.sum_eq_zero fun x _ => ?_)).trans (add_zero _ |>.trans ((coe_sum Finset.univ fun x : Fin 128 =>
    if x.val / 8 = t.val then q2 h (128 * (n / 12) + x.val) * q3 (128 * (n / 12) + x.val) * ipR b8 b9 (128 * (n / 12) + x.val) (u + w.val) j else 0).trans (congrArg _ ?_)))
  · rw [ed]
    refine (congrArg (· * _) (e13 x)).trans ?_
    show _ * _ = _
    split
    next => rw [← EReal.coe_mul]
    next => rw [zero_mul]; rfl
  · rw [ed, ← EReal.coe_sub, sub_self, EReal.coe_zero, mul_zero]
  · rw [sum_own (fun x => q2 h (128 * (n / 12) + x) * q3 (128 * (n / 12) + x) * ipR b8 b9 (128 * (n / 12) + x) (u + w.val) j) t.val t.isLt]
    refine Finset.sum_congr rfl fun r _ => ?_
    have e : 128 * (n / 12) + (8 * t.val + r.val) = 8 * (16 * (n / 12) + t.val) + r.val := by omega
    rw [e]

include h4 h5 h8 h9 h13 in
theorem sBlk_apply (u : ℕ) (hu : u + 256 ≤ 2048) (n : ℕ) (hn : n < 96) (t : Fin 16) (w : Fin 256) :
    sBlk arg4 arg5 arg8 arg9 arg13 X4 X5 X8 X9 X13 u hu n hn (ix2 t w)
      = ((scR q2 q3 k4 k5 b8 b9 (n % 12) (16 * (n / 12) + t.val) (u + w.val) : ℝ) : EReal) := by
  unfold sBlk
  rw [sTile_apply, zBlk_apply arg8 arg9 arg13 X8 X9 X13 q2 q3 b8 b9 h8 h9 h13, zBlk_apply arg8 arg9 arg13 X8 X9 X13 q2 q3 b8 b9 h8 h9 h13,
    aBlk_apply arg4 arg5 X4 X5 k4 k5 h4 h5, aBlk_apply arg4 arg5 X4 X5 k4 k5 h4 h5, ← EReal.coe_mul, ← EReal.coe_mul, ← EReal.coe_add]
  · rfl
  all_goals exact Nat.mod_lt _ (by decide)
end

/-! ## The weighted values -/

section
variable (arg6 : Memref sig .tc .vmem S1x2x12x2048 .fp8e4m3) (arg7 : Memref sig .tc .vmem S1x2x2048 .f32)
  (arg10 : Memref sig .tc .vmem S1x2048x256 .fp8e4m3)
  (X6 : BufTy.Contents (Elt Ideal) arg6.view.ty) (X7 : BufTy.Contents (Elt Ideal) arg7.view.ty) (X10 : BufTy.Contents (Elt Ideal) arg10.view.ty)
  (v6 : ℕ → ℕ → ℕ → ℝ) (v7 : ℕ → ℕ → ℝ) (b10 : ℕ → ℕ → ℝ)
  (h6 : ∀ (j : Fin 2) (h : Fin 12) (u : Fin 2048), arg6.view.read (Elt Ideal) X6 (ix4 0 j h u) = ((v6 j.val h.val u.val : ℝ) : EReal))
  (h7 : ∀ (j : Fin 2) (u : Fin 2048), arg7.view.read (Elt Ideal) X7 (ix3 0 j u) = ((v7 j.val u.val : ℝ) : EReal))
  (h10 : ∀ (u : Fin 2048) (d : Fin 256), arg10.view.read (Elt Ideal) X10 (ix3 0 u d) = ((b10 u.val d.val : ℝ) : EReal))

/-- Key `u`'s share of a weighted sum, given its exponential. -/
def wR (v6 : ℕ → ℕ → ℕ → ℝ) (v7 : ℕ → ℕ → ℝ) (b10 : ℕ → ℕ → ℝ) (e : ℕ → ℝ) (h d j u : ℕ) : ℝ :=
  e u * (v6 j h u * v7 j u * (1 / 2)) * b10 u (128 * j + d)

include h6 h7 in
theorem vBlk_apply (u : ℕ) (hu : u + 256 ≤ 2048) (j : ℕ) (hj : j < 2) (h : Fin 12) (w : Fin 256) :
    vBlk arg6 arg7 X6 X7 u hu j hj (ix2 h w) = ((v6 j h.val (u + w.val) * v7 j (u + w.val) * (1 / 2) : ℝ) : EReal) := by
  unfold vBlk
  rw [vRow_apply]
  have e4 := readAt_eq arg6.view X6 (inb4 hj hu) (ix4 0 0 h w : S1x1x12x256.Idx) (ix4 0 ⟨j, hj⟩ h ⟨u + w.val, by omega⟩) (by
    intro a
    fin_cases a
    · rfl
    · show j = j + 1 * 0; omega
    · show h.val = 0 + 1 * h.val; omega
    · show u + w.val = u + 1 * w.val; omega)
  have e5 := readAt_eq arg7.view X7 (inb5 hj hu) (ix3 0 0 w : S1x1x256.Idx) (ix3 0 ⟨j, hj⟩ ⟨u + w.val, by omega⟩) (by
    intro a
    fin_cases a
    · rfl
    · show j = j + 1 * 0; omega
    · show u + w.val = u + 1 * w.val; omega)
  rw [h6] at e4
  rw [h7] at e5
  rw [e4, e5, ← EReal.coe_mul, ← EReal.coe_mul]

include h6 h7 h10 in
theorem wBlk_apply (E : ℕ → ℝ) (K : ℕ) (hu : 256 * K + 256 ≤ 2048) (n : ℕ) (hn : n < 12) (j : ℕ) (hj : j < 2) (e0 e1 : FVec Ideal S128x128 .f32) (q d : Fin 128)
    (he0 : ∀ x : Fin 128, e0 (ix2 q x) = ((E (256 * K + x.val) : ℝ) : EReal)) (he1 : ∀ x : Fin 128, e1 (ix2 q x) = ((E (256 * K + 128 + x.val) : ℝ) : EReal)) :
    wBlk arg6 arg7 arg10 X6 X7 X10 (256 * K) hu n hn e0 e1 j hj (ix2 q d)
      = ((∑ x : Fin 128, wR v6 v7 b10 E n d.val j (256 * K + x.val) + ∑ x : Fin 128, wR v6 v7 b10 E n d.val j (256 * K + 128 + x.val) : ℝ) : EReal) := by
  unfold wBlk
  rw [wTile_apply, EReal.coe_add, ← coe_sum, ← coe_sum]
  have e10 : ∀ x : Fin 256, View.readAt (Elt Ideal) arg10.view (Rect.unit (s := S1x2048x256) ![0, 256 * K, 128 * j] S1x256x128.size (inb9 hu (by omega))).toLoadRect X10 (ix3 0 x d)
      = ((b10 (256 * K + x.val) (128 * j + d.val) : ℝ) : EReal) := fun x =>
    (readAt_eq arg10.view X10 (inb9 hu (by omega)) (ix3 0 x d : S1x256x128.Idx) (ix3 0 ⟨256 * K + x.val, by omega⟩ ⟨128 * j + d.val, by omega⟩) (by
      intro a
      fin_cases a
      · rfl
      · show 256 * K + x.val = 256 * K + 1 * x.val; omega
      · show 128 * j + d.val = 128 * j + 1 * d.val; omega)).trans (h10 _ _)
  refine congrArg₂ (· + ·) (Finset.sum_congr rfl fun x _ => ?_) (Finset.sum_congr rfl fun x _ => ?_)
  · rw [e10, he0, vBlk_apply arg6 arg7 X6 X7 v6 v7 h6 h7, ← EReal.coe_mul, ← EReal.coe_mul]
    rfl
  · rw [e10, he1, vBlk_apply arg6 arg7 X6 X7 v6 v7 h6 h7, ← EReal.coe_mul, ← EReal.coe_mul]
    show ((E (256 * K + 128 + x.val) * (v6 j n (256 * K + (128 + x.val)) * v7 j (256 * K + (128 + x.val)) * (1 / 2)) * b10 (256 * K + (128 + x.val)) (128 * j + d.val) : ℝ) : EReal) = _
    rw [← Nat.add_assoc]
    rfl
end

end Cert.KernelIdeal.Val
-- ==== Proof.V5.lean ====
module

public import proofs.«01_k».proof.Proof.V4

@[expose] public section

set_option maxRecDepth 65536

noncomputable section

namespace Cert.KernelIdeal.Val

open Idealize.ShloMosaic Idealize.ShloMosaic.TcCoe
open Cert.KernelIdeal.Gen

/-! ## Rows of masked scores -/

/-- A masked score of the query at row `b + q`. -/
def mskE (S : ℕ → ℕ → ℕ → ℝ) (b h q u : ℕ) : EReal := if b + q < u then ⊥ else ((S h q u : ℝ) : EReal)

/-- The largest score of a row. -/
def topR (S : ℕ → ℕ → ℕ → ℝ) (b h q : ℕ) : ℝ := (Finset.range (b + q + 1)).sup' ⟨0, Finset.mem_range.mpr (Nat.succ_pos _)⟩ (S h q)

/-- A masked exponential, in base two. -/
def expR (S : ℕ → ℕ → ℕ → ℝ) (b h q u : ℕ) : ℝ := if b + q < u then 0 else Real.rpow 2 (S h q u - topR S b h q)

theorem sup_mskE (S : ℕ → ℕ → ℕ → ℝ) (b h q N : ℕ) (hN : b + q < N) : (Finset.range N).sup (mskE S b h q) = ((topR S b h q : ℝ) : EReal) := by
  refine le_antisymm (Finset.sup_le fun u _ => ?_) ?_
  · unfold mskE
    split
    next => exact bot_le
    next hu => exact EReal.coe_le_coe_iff.mpr (Finset.le_sup' (S h q) (Finset.mem_range.mpr (by omega)))
  · obtain ⟨u, hu, e⟩ := Finset.exists_mem_eq_sup' ⟨0, Finset.mem_range.mpr (Nat.succ_pos (b + q))⟩ (S h q)
    have hu' := Finset.mem_range.mp hu
    have : mskE S b h q u = ((topR S b h q : ℝ) : EReal) := by
      unfold mskE topR
      rw [if_neg (by omega), e]
    rw [← this]
    exact Finset.le_sup (f := mskE S b h q) (Finset.mem_range.mpr (by omega))

theorem exp2_mskE (S : ℕ → ℕ → ℕ → ℝ) (b h q u : ℕ) : Ideal.exp2 (mskE S b h q u - ((topR S b h q : ℝ) : EReal)) = ((expR S b h q u : ℝ) : EReal) := by
  unfold mskE expR
  split
  next => rw [EReal.bot_sub, Ideal.exp2_bot, EReal.coe_zero]
  next => rw [← EReal.coe_sub, Ideal.exp2_coe]

theorem mxAcc_le (G : ℕ → EReal) (b : EReal) (l : ℕ) (x : EReal) : ∀ K : ℕ,
    mxAcc G b l K ≤ x ↔ b ≤ x ∧ ∀ k, k < K → G (256 * k + l) ≤ x ∧ G (256 * k + 128 + l) ≤ x
  | 0 => ⟨fun h => ⟨h, fun k hk => absurd hk (by omega)⟩, fun h => h.1⟩
  | K + 1 => by
    rw [mxAcc, max_le_iff, max_le_iff, mxAcc_le G b l x K]
    constructor
    · rintro ⟨⟨⟨h1, h2⟩, h3⟩, h4⟩
      refine ⟨h1, fun k hk => ?_⟩
      rcases Nat.lt_succ_iff_lt_or_eq.mp hk with hk | rfl
      · exact h2 k hk
      · exact ⟨h3, h4⟩
    · rintro ⟨h1, h2⟩
      exact ⟨⟨⟨h1, fun k hk => h2 k (by omega)⟩, (h2 K (by omega)).1⟩, (h2 K (by omega)).2⟩

theorem fold_mxAcc (G : ℕ → EReal) (K : ℕ) : Finset.fold max ⊥ (fun l : Fin 128 => mxAcc G ⊥ l.val K) Finset.univ = (Finset.range (256 * K)).sup G := by
  refine eq_of_forall_ge_iff fun x => ?_
  show Finset.univ.sup (fun l : Fin 128 => mxAcc G ⊥ l.val K) ≤ x ↔ _
  rw [Finset.sup_le_iff, Finset.sup_le_iff]
  constructor
  · intro h u hu
    have hu' := Finset.mem_range.mp hu
    have := ((mxAcc_le G ⊥ (u % 128) x K).1 (h ⟨u % 128, by omega⟩ (Finset.mem_univ _))).2 (u / 256) (by omega)
    by_cases e : u % 256 < 128
    · have e' : 256 * (u / 256) + u % 128 = u := by omega
      rw [← e']; exact this.1
    · have e' : 256 * (u / 256) + 128 + u % 128 = u := by omega
      rw [← e']; exact this.2
  · intro h l _
    exact (mxAcc_le G ⊥ l.val x K).2 ⟨bot_le, fun k hk => ⟨h _ (Finset.mem_range.mpr (by omega)), h _ (Finset.mem_range.mpr (by omega))⟩⟩

theorem mxAcc_congr (G G' : ℕ → EReal) (b : EReal) (l : ℕ) (hl : l < 128) : ∀ K : ℕ, (∀ u, u < 256 * K → G u = G' u) → mxAcc G b l K = mxAcc G' b l K
  | 0, _ => rfl
  | K + 1, h => by
    rw [mxAcc, mxAcc, mxAcc_congr G G' b l hl K (fun u hu => h u (by omega)), h _ (by omega), h _ (by omega)]

theorem sum_block (f : ℕ → ℝ) (K : ℕ) : ∑ u ∈ Finset.range (256 * (K + 1)), f u
    = ∑ u ∈ Finset.range (256 * K), f u + (∑ x : Fin 128, f (256 * K + x.val) + ∑ x : Fin 128, f (256 * K + 128 + x.val)) := by
  have e : 256 * (K + 1) = 256 * K + 128 + 128 := by ring
  rw [e, Finset.sum_range_add, Finset.sum_range_add, Finset.sum_range (fun x => f (256 * K + x)), Finset.sum_range (fun x => f (256 * K + 128 + x)), add_assoc]

theorem sum_smAcc (e : ℕ → ℝ) : ∀ K : ℕ, ∑ l : Fin 128, smAcc (fun u => ((e u : ℝ) : EReal)) 0 l.val K = ((∑ u ∈ Finset.range (256 * K), e u : ℝ) : EReal)
  | 0 => by simp [smAcc]
  | K + 1 => by
    simp only [smAcc, Finset.sum_add_distrib]
    rw [sum_smAcc e K, coe_sum Finset.univ (fun x : Fin 128 => e (256 * K + x.val)), coe_sum Finset.univ (fun x : Fin 128 => e (256 * K + 128 + x.val)),
      ← EReal.coe_add, ← EReal.coe_add, sum_block, add_assoc]

theorem vAcc_eq (f0 f1 : ℕ → ℝ) : ∀ K : ℕ, vAcc (fun K => ((∑ x : Fin 128, f0 (256 * K + x.val) + ∑ x : Fin 128, f0 (256 * K + 128 + x.val) : ℝ) : EReal))
      (fun K => ((∑ x : Fin 128, f1 (256 * K + x.val) + ∑ x : Fin 128, f1 (256 * K + 128 + x.val) : ℝ) : EReal)) 0 K
    = ((∑ u ∈ Finset.range (256 * K), (f0 u + f1 u) : ℝ) : EReal)
  | 0 => by simp [vAcc]
  | K + 1 => by
    rw [vAcc, vAcc_eq f0 f1 K, sum_block, ← EReal.coe_add, ← EReal.coe_add]
    simp only [Finset.sum_add_distrib]
    congr 1
    ring

/-- A sum whose terms vanish beyond the masked row, up to any bound past it. -/
theorem sum_past (f : ℕ → ℝ) (r M N : ℕ) (hM : r < M) (hN : r < N) (hf : ∀ u, r < u → f u = 0) : ∑ u ∈ Finset.range M, f u = ∑ u ∈ Finset.range N, f u := by
  have key : ∀ M, r < M → ∑ u ∈ Finset.range M, f u = ∑ u ∈ Finset.range (r + 1), f u := by
    intro M hM
    refine (Finset.sum_subset (Finset.range_subset_range.mpr hM) fun u _ hu => hf u ?_).symm
    exact Nat.lt_of_not_le fun h => hu (Finset.mem_range.mpr (Nat.lt_succ_of_le h))
  rw [key M hM, key N hN]

theorem lseAcc_apply (l m : (n : ℕ) → n < 12 → Vec Ideal S1x128x128 .f32) (h : Fin 12) (q : Fin 128) : ∀ (n : ℕ) (hn : n ≤ 12), h.val < n →
    lseAcc l m n hn (ix2 q ⟨h.val, by omega⟩) = m h.val h.isLt (ix3 0 q ⟨h.val, by omega⟩) * ((Real.log 2 : ℝ) : EReal) + Ideal.log (∑ x : Fin 128, l h.val h.isLt (ix3 0 q x))
  | 0, _, hh => absurd hh (Nat.not_lt_zero _)
  | n + 1, hn, hh => by
    refine (lseStep_apply n hn (m n hn) (l n hn) _ q ⟨h.val, by omega⟩).trans ?_
    by_cases e : h.val = n
    · subst e
      exact if_pos rfl
    · exact (if_neg e).trans (lseAcc_apply l m h q n (Nat.le_of_succ_le hn) (by omega))

section
variable (c : Dev nD) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X14 : BufTy.Contents (Elt Ideal) arg14.view.ty)

theorem P2_nil : P2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14 = ([], []) := by
  show pb_k0_t2 (F := Ideal) _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ (Scf.trips (k0_t2_loop i).lb (k0_t2_loop i).ub (k0_t2_loop i).st) = _
  rw [trips2_eq]; rfl

theorem P4_nil : P4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14 = ([], []) := by
  show pb_k0_t4 (F := Ideal) _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ (Scf.trips (k0_t4_loop i).lb (k0_t4_loop i).ub (k0_t4_loop i).st) = _
  rw [trips4_eq]; rfl

theorem fill15 (f : BufTy.Contents (Elt Ideal) arg15.view.ty) (y : S12x128x128.Idx) : arg15.view.read (Elt Ideal) (arg15.view.writes (Elt Ideal) f (Run.run.sl.H15_1 (F := Ideal))) y = ⊥ := by
  refine (read_cons_hit arg15.view f ⟨Rect.unit ![0, 0, 0] S12x128x128.size inb_S12x128x128_S12x128x128_0_0_0, k0_pay1191 (F := Ideal)⟩ [] y y ?_).trans ?_
  · intro a
    fin_cases a
    · show (y 0).val = 0 + 1 * (y 0).val; omega
    · show (y 1).val = 0 + 1 * (y 1).val; omega
    · show (y 2).val = 0 + 1 * (y 2).val; omega
  · exact ofBits_neg_inf

theorem ofBits_zero : Ideal.ofBits .f32 0x00000000#32 = 0 := by simp [Ideal.ofBits, Ideal.ieee]

theorem fill16 (f : BufTy.Contents (Elt Ideal) arg16.view.ty) (y : S12x128x128.Idx) : arg16.view.read (Elt Ideal) (arg16.view.writes (Elt Ideal) f (Run.run.sl.H16_1 (F := Ideal))) y = 0 := by
  refine (read_cons_hit arg16.view f ⟨Rect.unit ![0, 0, 0] S12x128x128.size inb_S12x128x128_S12x128x128_0_0_0, k0_pay1593 (F := Ideal)⟩ [] y y ?_).trans ?_
  · intro a
    fin_cases a
    · show (y 0).val = 0 + 1 * (y 0).val; omega
    · show (y 1).val = 0 + 1 * (y 1).val; omega
    · show (y 2).val = 0 + 1 * (y 2).val; omega
  · exact ofBits_zero

theorem fill17 (f : BufTy.Contents (Elt Ideal) arg17.view.ty) (y : S12x128x128.Idx) : arg17.view.read (Elt Ideal) (arg17.view.writes (Elt Ideal) f (Run.run.sl.H17_1 (F := Ideal))) y = 0 := by
  refine (read_cons_hit arg17.view f ⟨Rect.unit ![0, 0, 0] S12x128x128.size inb_S12x128x128_S12x128x128_0_0_0, k0_pay1594 (F := Ideal)⟩ [] y y ?_).trans ?_
  · intro a
    fin_cases a
    · show (y 0).val = 0 + 1 * (y 0).val; omega
    · show (y 1).val = 0 + 1 * (y 1).val; omega
    · show (y 2).val = 0 + 1 * (y 2).val; omega
  · exact ofBits_zero

variable (q2 : ℕ → ℕ → ℝ) (q3 : ℕ → ℝ) (k4 : ℕ → ℕ → ℕ → ℝ) (k5 : ℕ → ℕ → ℝ) (b8 b9 : ℕ → ℕ → ℝ)
  (h2 : ∀ (h : Fin 12) (t : Fin 1024), arg2.view.read (Elt Ideal) X2 (ix3 0 h t) = ((q2 h.val t.val : ℝ) : EReal))
  (h3 : ∀ (t : Fin 1024), arg3.view.read (Elt Ideal) X3 (ix3 0 0 t) = ((q3 t.val : ℝ) : EReal))
  (h4 : ∀ (j : Fin 2) (h : Fin 12) (u : Fin 2048), arg4.view.read (Elt Ideal) X4 (ix4 0 j h u) = ((k4 j.val h.val u.val : ℝ) : EReal))
  (h5 : ∀ (j : Fin 2) (u : Fin 2048), arg5.view.read (Elt Ideal) X5 (ix3 0 j u) = ((k5 j.val u.val : ℝ) : EReal))
  (h8 : ∀ (t : Fin 1024) (d : Fin 128), arg8.view.read (Elt Ideal) X8 (ix3 0 t d) = ((b8 t.val d.val : ℝ) : EReal))
  (h9 : ∀ (u : Fin 2048) (d : Fin 256), arg9.view.read (Elt Ideal) X9 (ix3 0 u d) = ((b9 u.val d.val : ℝ) : EReal))
include h2 h3 h4 h5 h8 h9

theorem score_tiles (u : ℕ) (hu : u + 256 ≤ 2048) (n : ℕ) (hn : n < 96) (t : Fin 16) (w : Fin 256) :
    sBlk arg4 arg5 arg8 arg9 arg13 X4 X5 X8 X9 (arg13.view.writes (Elt Ideal) arg13.view.junk (Run.run.sl.H13_192 (F := Ideal) arg2 arg3 X2 X3)) u hu n hn (ix2 t w)
      = ((scR q2 q3 k4 k5 b8 b9 (n % 12) (16 * (n / 12) + t.val) (u + w.val) : ℝ) : EReal) :=
  sBlk_apply arg4 arg5 arg8 arg9 arg13 X4 X5 X8 X9 _ q2 q3 k4 k5 b8 b9 h4 h5 h8 h9
    (read_weights arg2 arg3 X2 X3 q2 q3 h2 h3 arg13 _) u hu n hn t w

theorem masked_tiles (n : ℕ) (hn : n < 96) (t : Fin 16) (w : Fin 256) :
    tM (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14 n hn (ix2 t w)
      = mskE (scR q2 q3 k4 k5 b8 b9) (128 * (i 1).val) (n % 12) (16 * (n / 12) + t.val) (colM i + w.val) := by
  refine (sMsk_apply i _ n hn t w).trans ?_
  rw [score_tiles arg2 arg3 arg4 arg5 arg8 arg9 arg13 X2 X3 X4 X5 X8 X9 q2 q3 k4 k5 b8 b9 h2 h3 h4 h5 h8 h9]
  unfold mskE
  refine if_congr ((hid_apply i (n / 12) (by omega) t w).trans ?_) rfl rfl
  rw [colM_eq, Nat.add_assoc]

end

end Cert.KernelIdeal.Val
-- ==== Proof.V6.lean ====
module

public import proofs.«01_k».proof.Proof.V5

@[expose] public section

set_option maxRecDepth 65536

noncomputable section

namespace Cert.KernelIdeal.Val

open Idealize.ShloMosaic Idealize.ShloMosaic.TcCoe
open Cert.KernelIdeal.Gen

theorem out_not_mem (n : ℕ) (hn : n < 12) (q : Fin 128) (h : Fin 12) (d : Fin 128) (hc : 128 * h.val + d.val < 1536) (inb) (hne : n ≠ h.val) :
    (ix3 0 q ⟨128 * h.val + d.val, hc⟩ : S1x128x1536.Idx) ∉ (Rect.unit (s := S1x128x1536) ![0, 0, 128 * n] S1x128x128.size inb).set := by
  refine Rect.not_mem_set_of_axis _ _ 2 (128 * n) 128 rfl rfl rfl ?_
  have : ((ix3 0 q ⟨128 * h.val + d.val, hc⟩ : S1x128x1536.Idx) 2).val = 128 * h.val + d.val := rfl
  rw [this]; omega

section
variable (c : Dev nD) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X14 : BufTy.Contents (Elt Ideal) arg14.view.ty)
  (q2 : ℕ → ℕ → ℝ) (q3 : ℕ → ℝ) (k4 : ℕ → ℕ → ℕ → ℝ) (k5 : ℕ → ℕ → ℝ) (b8 b9 : ℕ → ℕ → ℝ) (v6 : ℕ → ℕ → ℕ → ℝ) (v7 : ℕ → ℕ → ℝ) (b10 : ℕ → ℕ → ℝ)
  (h2 : ∀ (h : Fin 12) (t : Fin 1024), arg2.view.read (Elt Ideal) X2 (ix3 0 h t) = ((q2 h.val t.val : ℝ) : EReal))
  (h3 : ∀ (t : Fin 1024), arg3.view.read (Elt Ideal) X3 (ix3 0 0 t) = ((q3 t.val : ℝ) : EReal))
  (h4 : ∀ (j : Fin 2) (h : Fin 12) (u : Fin 2048), arg4.view.read (Elt Ideal) X4 (ix4 0 j h u) = ((k4 j.val h.val u.val : ℝ) : EReal))
  (h5 : ∀ (j : Fin 2) (u : Fin 2048), arg5.view.read (Elt Ideal) X5 (ix3 0 j u) = ((k5 j.val u.val : ℝ) : EReal))
  (h8 : ∀ (t : Fin 1024) (d : Fin 128), arg8.view.read (Elt Ideal) X8 (ix3 0 t d) = ((b8 t.val d.val : ℝ) : EReal))
  (h9 : ∀ (u : Fin 2048) (d : Fin 256), arg9.view.read (Elt Ideal) X9 (ix3 0 u d) = ((b9 u.val d.val : ℝ) : EReal))
  (h6 : ∀ (j : Fin 2) (h : Fin 12) (u : Fin 2048), arg6.view.read (Elt Ideal) X6 (ix4 0 j h u) = ((v6 j.val h.val u.val : ℝ) : EReal))
  (h7 : ∀ (j : Fin 2) (u : Fin 2048), arg7.view.read (Elt Ideal) X7 (ix3 0 j u) = ((v7 j.val u.val : ℝ) : EReal))
  (h10 : ∀ (u : Fin 2048) (d : Fin 256), arg10.view.read (Elt Ideal) X10 (ix3 0 u d) = ((b10 u.val d.val : ℝ) : EReal))

section
include h2 h3 h4 h5 h8 h9

theorem score_loop_all :
    (∀ (h : Fin 12) (q : Fin 128) (y : Fin 2048), y.val < 256 * ((i 1).val / 2) →
      arg14.view.read (Elt Ideal) (arg14.view.writes (Elt Ideal) X14 (P1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14).1) (ix3 h q y) = (((scR q2 q3 k4 k5 b8 b9) h.val q.val y.val : ℝ) : EReal))
    ∧ ∀ (h : Fin 12) (q l : Fin 128),
      arg15.view.read (Elt Ideal) (arg15.view.writes (Elt Ideal) (arg15.view.writes (Elt Ideal) arg15.view.junk (Run.run.sl.H15_1 (F := Ideal))) (P1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14).2) (ix3 h q l)
        = mxAcc (fun u => (((scR q2 q3 k4 k5 b8 b9) h.val q.val u : ℝ) : EReal)) ⊥ l.val ((i 1).val / 2) := by
  obtain ⟨a, b⟩ := score_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (Run.run.sl.v20 i) Run.run.sl.r (Run.run.sl.r_38 arg2 arg3 X2 X3) (Run.run.sl.r_42 arg2 arg3 X2 X3)
    X4 X5 X8 X9 (arg13.view.writes (Elt Ideal) arg13.view.junk (Run.run.sl.H13_192 (F := Ideal) arg2 arg3 X2 X3)) X14 (arg15.view.writes (Elt Ideal) arg15.view.junk (Run.run.sl.H15_1 (F := Ideal)))
    (fun h q u => (((scR q2 q3 k4 k5 b8 b9) h q u : ℝ) : EReal)) (score_tiles arg2 arg3 arg4 arg5 arg8 arg9 arg13 X2 X3 X4 X5 X8 X9 q2 q3 k4 k5 b8 b9 h2 h3 h4 h5 h8 h9)
    (Scf.trips (k0_t1_loop i).lb (k0_t1_loop i).ub (k0_t1_loop i).st) (le_of_eq (trips1_eq i))
  refine ⟨fun h q y hy => a h q y (by rw [trips1_eq]; exact hy), fun h q l => (b h q l).trans ?_⟩
  rw [fill15, trips1_eq]

theorem read_s14 (h : Fin 12) (q : Fin 128) (y : Fin 2048) (hy : y.val < 256 * ((i 1).val / 2 + 1)) :
    arg14.view.read (Elt Ideal) (arg14.view.writes (Elt Ideal) X14 (s14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14)) (ix3 h q y) = mskE (scR q2 q3 k4 k5 b8 b9) (128 * (i 1).val) h.val q.val y.val := by
  refine (read_scores arg14 X14 (mskE (scR q2 q3 k4 k5 b8 b9) (128 * (i 1).val)) (colM i) (colM_le i) (tM (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14) (masked_tiles c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14 q2 q3 k4 k5 b8 b9 h2 h3 h4 h5 h8 h9) _ h q y).trans ?_
  rw [colM_eq]
  split
  next => rfl
  next hc =>
    rw [P2_nil]
    refine ((score_loop_all c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14 q2 q3 k4 k5 b8 b9 h2 h3 h4 h5 h8 h9).1 h q y (by omega)).trans ?_
    unfold mskE
    rw [if_neg (by omega)]

theorem read_m15 (h : Fin 12) (q l : Fin 128) :
    arg15.view.read (Elt Ideal) (arg15.view.writes (Elt Ideal) arg15.view.junk (m15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14)) (ix3 h q l)
      = mxAcc (mskE (scR q2 q3 k4 k5 b8 b9) (128 * (i 1).val) h.val q.val) ⊥ l.val ((i 1).val / 2 + 1) := by
  refine (read_mAcc arg15 (mskE (scR q2 q3 k4 k5 b8 b9) (128 * (i 1).val)) (colM i) (tM (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14) (masked_tiles c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14 q2 q3 k4 k5 b8 b9 h2 h3 h4 h5 h8 h9) _ h q l 96 (Nat.le_refl _)).trans ?_
  rw [if_pos (by omega), P2_nil, colM_eq, mxAcc]
  have e := (score_loop_all c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14 q2 q3 k4 k5 b8 b9 h2 h3 h4 h5 h8 h9).2 h q l
  rw [← View.writes_append] at e
  have e' := mxAcc_congr (fun u => (((scR q2 q3 k4 k5 b8 b9) h.val q.val u : ℝ) : EReal)) (mskE (scR q2 q3 k4 k5 b8 b9) (128 * (i 1).val) h.val q.val) ⊥ l.val l.isLt ((i 1).val / 2) (fun u hu => by
    unfold mskE
    rw [if_neg (by omega)])
  exact congrArg₂ max (congrArg₂ max (e.trans e') rfl) rfl

theorem read_r15 (h : Fin 12) (q l : Fin 128) :
    arg15.view.read (Elt Ideal) (arg15.view.writes (Elt Ideal) arg15.view.junk (r15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14)) (ix3 h q l) = ((topR (scR q2 q3 k4 k5 b8 b9) (128 * (i 1).val) h.val q.val : ℝ) : EReal) := by
  rw [r15_eq]
  refine (read_rAcc arg15 _ h 12 (Nat.le_refl _) q l).trans ?_
  rw [if_pos h.isLt]
  refine (congrArg (fun g => Finset.fold max ⊥ g (Finset.univ : Finset (Fin 128))) (funext fun x => read_m15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14 q2 q3 k4 k5 b8 b9 h2 h3 h4 h5 h8 h9 h q x)).trans ?_
  exact (fold_mxAcc _ _).trans (sup_mskE _ _ _ _ _ (by omega))

theorem exps (u : ℕ) (hu : u + 128 ≤ 2048) (n : ℕ) (hn : n < 12) (q l : Fin 128) (hb : u < 256 * ((i 1).val / 2 + 1)) (hm : u % 128 = 0) :
    eBlk arg14 arg15 (arg14.view.writes (Elt Ideal) X14 (s14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14)) (arg15.view.writes (Elt Ideal) arg15.view.junk (r15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14)) u hu n hn (ix2 q l)
      = ((expR (scR q2 q3 k4 k5 b8 b9) (128 * (i 1).val) n q.val (u + l.val) : ℝ) : EReal) := by
  unfold eBlk
  rw [eTile_apply]
  have e14 := (readAt_eq arg14.view (arg14.view.writes (Elt Ideal) X14 (s14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14)) (inb14' hn hu) (ix3 0 q l : S1x128x128.Idx) (ix3 ⟨n, hn⟩ q ⟨u + l.val, by omega⟩) (by
    intro a
    fin_cases a
    · show n = n + 1 * 0; omega
    · show q.val = 0 + 1 * q.val; omega
    · show u + l.val = u + 1 * l.val; omega)).trans (read_s14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14 q2 q3 k4 k5 b8 b9 h2 h3 h4 h5 h8 h9 ⟨n, hn⟩ q ⟨u + l.val, by omega⟩ (by show u + l.val < _; omega))
  have e15 := (headAt arg15 (arg15.view.writes (Elt Ideal) arg15.view.junk (r15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14)) ⟨n, hn⟩ q l).trans (read_r15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14 q2 q3 k4 k5 b8 b9 h2 h3 h4 h5 h8 h9 ⟨n, hn⟩ q l)
  refine (congrArg Ideal.exp2 (congrArg₂ (fun x y : EReal => x - y) e14 e15)).trans ?_
  exact exp2_mskE _ _ _ _ _
end

include h2 h3 h4 h5 h8 h9 h6 h7 h10

theorem value_loop_all :
    (∀ (h : Fin 12) (q l : Fin 128),
      arg16.view.read (Elt Ideal) (arg16.view.writes (Elt Ideal) (arg16.view.writes (Elt Ideal) arg16.view.junk (Run.run.sl.H16_1 (F := Ideal))) (P3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14).1) (ix3 h q l)
        = smAcc (fun u => ((expR (scR q2 q3 k4 k5 b8 b9) (128 * (i 1).val) h.val q.val u : ℝ) : EReal)) 0 l.val ((i 1).val / 2 + 1))
    ∧ ∀ (h : Fin 12) (q d : Fin 128),
      arg17.view.read (Elt Ideal) (arg17.view.writes (Elt Ideal) (arg17.view.writes (Elt Ideal) arg17.view.junk (Run.run.sl.H17_1 (F := Ideal))) (P3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14).2) (ix3 h q d)
        = ((∑ u ∈ Finset.range (256 * ((i 1).val / 2 + 1)), (wR v6 v7 b10 (expR (scR q2 q3 k4 k5 b8 b9) (128 * (i 1).val) h.val q.val) h.val d.val 0 u + wR v6 v7 b10 (expR (scR q2 q3 k4 k5 b8 b9) (128 * (i 1).val) h.val q.val) h.val d.val 1 u) : ℝ) : EReal) := by
  obtain ⟨a, b⟩ := value_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (Run.run.sl.v20 i) (Run.run.sl.r_159 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14) X6 X7 X10
    (arg14.view.writes (Elt Ideal) X14 (s14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14)) (arg15.view.writes (Elt Ideal) arg15.view.junk (r15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14))
    (arg16.view.writes (Elt Ideal) arg16.view.junk (Run.run.sl.H16_1 (F := Ideal))) (arg17.view.writes (Elt Ideal) arg17.view.junk (Run.run.sl.H17_1 (F := Ideal)))
    (fun n q u => ((expR (scR q2 q3 k4 k5 b8 b9) (128 * (i 1).val) n q u : ℝ) : EReal))
    (fun n q d j K => ((∑ x : Fin 128, wR v6 v7 b10 (expR (scR q2 q3 k4 k5 b8 b9) (128 * (i 1).val) n q) n d j (256 * K + x.val) + ∑ x : Fin 128, wR v6 v7 b10 (expR (scR q2 q3 k4 k5 b8 b9) (128 * (i 1).val) n q) n d j (256 * K + 128 + x.val) : ℝ) : EReal))
    (exps c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14 q2 q3 k4 k5 b8 b9 h2 h3 h4 h5 h8 h9)
    (fun K hu n hn j hj e0 e1 q d he0 he1 => wBlk_apply arg6 arg7 arg10 X6 X7 X10 v6 v7 b10 h6 h7 h10 (expR (scR q2 q3 k4 k5 b8 b9) (128 * (i 1).val) n q.val) K hu n hn j hj e0 e1 q d he0 he1)
    (Scf.trips (k0_t3_loop i).lb (k0_t3_loop i).ub (k0_t3_loop i).st) (le_of_eq (trips3_eq i))
  refine ⟨fun h q l => (a h q l).trans ?_, fun h q d => (b h q d).trans ?_⟩
  · rw [fill16, trips3_eq]
  · rw [fill17, trips3_eq]
    exact vAcc_eq (wR v6 v7 b10 (expR (scR q2 q3 k4 k5 b8 b9) (128 * (i 1).val) h.val q.val) h.val d.val 0) (wR v6 v7 b10 (expR (scR q2 q3 k4 k5 b8 b9) (128 * (i 1).val) h.val q.val) h.val d.val 1) _

theorem sum_l16 (h : Fin 12) (q : Fin 128) :
    ∑ x : Fin 128, headOf arg16 (l16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14) h.val h.isLt (ix3 0 q x) = ((∑ u ∈ Finset.range 2048, expR (scR q2 q3 k4 k5 b8 b9) (128 * (i 1).val) h.val q.val u : ℝ) : EReal) := by
  refine (Finset.sum_congr rfl fun x _ => (headAt arg16 _ h q x).trans ?_).trans ((sum_smAcc (expR (scR q2 q3 k4 k5 b8 b9) (128 * (i 1).val) h.val q.val) ((i 1).val / 2 + 1)).trans (congrArg _ ?_))
  · unfold l16
    rw [P4_nil]
    have e := (value_loop_all c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14 q2 q3 k4 k5 b8 b9 v6 v7 b10 h2 h3 h4 h5 h8 h9 h6 h7 h10).1 h q x
    rw [← View.writes_append] at e
    exact e
  · have hi : (i 1).val < 16 := (i 1).isLt
    exact sum_past _ (128 * (i 1).val + q.val) _ _ (by omega) (by omega) fun u hu => by unfold expR; rw [if_pos hu]

theorem read_a17 (h : Fin 12) (q d : Fin 128) :
    headOf arg17 (a17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14) h.val h.isLt (ix3 0 q d)
      = ((∑ u ∈ Finset.range 2048, (wR v6 v7 b10 (expR (scR q2 q3 k4 k5 b8 b9) (128 * (i 1).val) h.val q.val) h.val d.val 0 u + wR v6 v7 b10 (expR (scR q2 q3 k4 k5 b8 b9) (128 * (i 1).val) h.val q.val) h.val d.val 1 u) : ℝ) : EReal) := by
  refine (headAt arg17 _ h q d).trans ?_
  unfold a17
  rw [P4_nil]
  have e := (value_loop_all c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14 q2 q3 k4 k5 b8 b9 v6 v7 b10 h2 h3 h4 h5 h8 h9 h6 h7 h10).2 h q d
  rw [← View.writes_append] at e
  refine e.trans (congrArg _ ?_)
  have hi : (i 1).val < 16 := (i 1).isLt
  exact sum_past _ (128 * (i 1).val + q.val) _ _ (by omega) (by omega) fun u hu => by unfold wR expR; rw [if_pos hu]; ring

variable (X11 : BufTy.Contents (Elt Ideal) arg11.view.ty) (X12 : BufTy.Contents (Elt Ideal) arg12.view.ty)
  (X13 : BufTy.Contents (Elt Ideal) arg13.view.ty) (X15 : BufTy.Contents (Elt Ideal) arg15.view.ty) (X16 : BufTy.Contents (Elt Ideal) arg16.view.ty) (X17 : BufTy.Contents (Elt Ideal) arg17.view.ty)

/-- The run's second result. -/
theorem run_lse_apply (f : BufTy.Contents (Elt Ideal) arg12.view.ty) (h : Fin 12) (q : Fin 128) :
    arg12.view.read (Elt Ideal) (arg12.view.writes (Elt Ideal) f (Run.run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X11 X12 X13 X14 X15 X16 X17).2.val) (ix3 0 h q)
      = ((topR (scR q2 q3 k4 k5 b8 b9) (128 * (i 1).val) h.val q.val * Real.log 2 : ℝ) : EReal) + Ideal.log ((∑ u ∈ Finset.range 2048, expR (scR q2 q3 k4 k5 b8 b9) (128 * (i 1).val) h.val q.val u : ℝ) : EReal) := by
  rw [run_lse]
  refine (read_cons_hit arg12.view f _ [] (ix3 0 h q : S1x12x128.Idx) _ ?_).trans ?_
  · intro a
    fin_cases a
    · rfl
    · show h.val = 0 + 1 * h.val; omega
    · show q.val = 0 + 1 * q.val; omega
  · refine (lsePay_apply _ h q).trans ((lseAcc_apply _ _ h q 12 (Nat.le_refl _) h.isLt).trans ?_)
    rw [sum_l16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14 q2 q3 k4 k5 b8 b9 v6 v7 b10 h2 h3 h4 h5 h8 h9 h6 h7 h10, EReal.coe_mul]
    refine congrArg₂ (· + ·) (congrArg (· * _) ?_) rfl
    exact (headAt arg15 _ h q _).trans (read_r15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X8 X9 X14 q2 q3 k4 k5 b8 b9 h2 h3 h4 h5 h8 h9 h q _)

/-- The run's first result. -/
theorem run_out_apply (f : BufTy.Contents (Elt Ideal) arg11.view.ty) (h : Fin 12) (q d : Fin 128) :
    arg11.view.read (Elt Ideal) (arg11.view.writes (Elt Ideal) f (Run.run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X11 X12 X13 X14 X15 X16 X17).1) (ix3 0 q ⟨128 * h.val + d.val, by omega⟩)
      = Ideal.div ((∑ u ∈ Finset.range 2048, (wR v6 v7 b10 (expR (scR q2 q3 k4 k5 b8 b9) (128 * (i 1).val) h.val q.val) h.val d.val 0 u + wR v6 v7 b10 (expR (scR q2 q3 k4 k5 b8 b9) (128 * (i 1).val) h.val q.val) h.val d.val 1 u) : ℝ) : EReal)
          ((∑ u ∈ Finset.range 2048, expR (scR q2 q3 k4 k5 b8 b9) (128 * (i 1).val) h.val q.val u : ℝ) : EReal) := by
  rw [run_out, ← List.append_nil (down _ _ _)]
  refine (read_down_hit arg11.view f _ [] _ h.val h.isLt (ix3 0 q d : S1x128x128.Idx) ?_ ?_ 12 (Nat.le_refl _) h.isLt).trans ?_
  · intro a
    fin_cases a
    · rfl
    · show q.val = 0 + 1 * q.val; omega
    · show 128 * h.val + d.val = 128 * h.val + 1 * d.val; omega
  · exact fun n hn hne => out_not_mem n hn q h d (by omega) (inb11 hn) hne
  · refine (oTile_apply _ _ q d).trans ?_
    rw [sum_l16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14 q2 q3 k4 k5 b8 b9 v6 v7 b10 h2 h3 h4 h5 h8 h9 h6 h7 h10, read_a17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X2 X3 X4 X5 X6 X7 X8 X9 X10 X14 q2 q3 k4 k5 b8 b9 v6 v7 b10 h2 h3 h4 h5 h8 h9 h6 h7 h10]

end

end Cert.KernelIdeal.Val
-- ==== Proof.V7.lean ====
module

public import proofs.«01_k».proof.Proof.V6

@[expose] public section

set_option maxRecDepth 65536

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 2000000 in
/-- The body run over whole memrefs, its two results named. -/
theorem sound_named (c : Dev nD) (E : Set ℕ) (i : grid0.Coords) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole)
    (x2 : Vec F S1x12x1024 .fp8e4m3) (x3 : Vec F S1x1x1024 .f32) (x4 : Vec F S1x2x12x2048 .fp8e4m3) (x5 : Vec F S1x2x2048 .f32) (x6 : Vec F S1x2x12x2048 .fp8e4m3) (x7 : Vec F S1x2x2048 .f32) (x8 : Vec F S1x1024x128 .fp8e4m3) (x9 : Vec F S1x2048x256 .fp8e4m3) (x10 : Vec F S1x2048x256 .fp8e4m3)  (x11 : Vec F S1x128x1536 .bf16) (x12 : Vec F S1x12x128 .f32)
    (hv11 : ∀ (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty), arg2.view.read (Elt F) f2 = x2 → arg3.view.read (Elt F) f3 = x3 → arg4.view.read (Elt F) f4 = x4 → arg5.view.read (Elt F) f5 = x5 → arg6.view.read (Elt F) f6 = x6 → arg7.view.read (Elt F) f7 = x7 → arg8.view.read (Elt F) f8 = x8 → arg9.view.read (Elt F) f9 = x9 → arg10.view.read (Elt F) f10 = x10 → arg11.view.read (Elt F) (arg11.view.writes (Elt F) f11 (Run.run (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17).1) = x11)
    (hv12 : ∀ (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty), arg2.view.read (Elt F) f2 = x2 → arg3.view.read (Elt F) f3 = x3 → arg4.view.read (Elt F) f4 = x4 → arg5.view.read (Elt F) f5 = x5 → arg6.view.read (Elt F) f6 = x6 → arg7.view.read (Elt F) f7 = x7 → arg8.view.read (Elt F) f8 = x8 → arg9.view.read (Elt F) f9 = x9 → arg10.view.read (Elt F) f10 = x10 → arg12.view.read (Elt F) (arg12.view.writes (Elt F) f12 (Run.run (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17).2.val) = x12)
    (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_tpa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  have e11 := hv11 f2 f3 f4 f5 f6 f7 f8 f9 f10 f11 f12 f13 f14 f15 f16 f17 hf2 hf3 hf4 hf5 hf6 hf7 hf8 hf9 hf10
  have e12 := hv12 f2 f3 f4 f5 f6 f7 f8 f9 f10 f11 f12 f13 f14 f15 f16 f17 hf2 hf3 hf4 hf5 hf6 hf7 hf8 hf9 hf10
  iapply (wp_wand_r _ _ _ (Q := fun _ => iprop(((arg2.view.loc (c : Thread nD τ)) ↦[arg2.view.set]{fullShare} f2) ∗ ((arg3.view.loc (c : Thread nD τ)) ↦[arg3.view.set]{fullShare} f3) ∗ ((arg4.view.loc (c : Thread nD τ)) ↦[arg4.view.set]{fullShare} f4) ∗ ((arg5.view.loc (c : Thread nD τ)) ↦[arg5.view.set]{fullShare} f5) ∗ ((arg6.view.loc (c : Thread nD τ)) ↦[arg6.view.set]{fullShare} f6) ∗ ((arg7.view.loc (c : Thread nD τ)) ↦[arg7.view.set]{fullShare} f7) ∗ ((arg8.view.loc (c : Thread nD τ)) ↦[arg8.view.set]{fullShare} f8) ∗ ((arg9.view.loc (c : Thread nD τ)) ↦[arg9.view.set]{fullShare} f9) ∗ ((arg10.view.loc (c : Thread nD τ)) ↦[arg10.view.set]{fullShare} f10) ∗ ((arg11.view.loc (c : Thread nD τ)) ↦[arg11.view.set]{fullShare} (arg11.view.writes (Elt F) f11 (Run.run (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17).1)) ∗ ((arg12.view.loc (c : Thread nD τ)) ↦[arg12.view.set]{fullShare} (arg12.view.writes (Elt F) f12 (Run.run (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17).2.val)) ∗ (∃ f, ((arg13.view.loc (c : Thread nD τ)) ↦[arg13.view.set]{fullShare} f)) ∗ (∃ f, ((arg14.view.loc (c : Thread nD τ)) ↦[arg14.view.set]{fullShare} f)) ∗ (∃ f, ((arg15.view.loc (c : Thread nD τ)) ↦[arg15.view.set]{fullShare} f)) ∗ (∃ f, ((arg16.view.loc (c : Thread nD τ)) ↦[arg16.view.set]{fullShare} f)) ∗ (∃ f, ((arg17.view.loc (c : Thread nD τ)) ↦[arg17.view.set]{fullShare} f)))))
  isplitr [Hk]
  · iapply ((Run.run (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17).2.property E)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iintro %a ⟨H2, H3, H4, H5, H6, H7, H8, H9, H10, H11, H12, ⟨%g13, H13⟩, ⟨%g14, H14⟩, ⟨%g15, H15⟩, ⟨%g16, H16⟩, ⟨%g17, H17⟩⟩
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists _; isplitr; swap; · iexact H11
    ipureintro; exact e11
  isplitl [H12]
  · iexists _; isplitr; swap; · iexact H12
    ipureintro; exact e12
  isplitl [H13]
  · iexists _, g13; isplitr; swap; · iexact H13
    ipureintro; rfl
  isplitl [H14]
  · iexists _, g14; isplitr; swap; · iexact H14
    ipureintro; rfl
  isplitl [H15]
  · iexists _, g15; isplitr; swap; · iexact H15
    ipureintro; rfl
  isplitl [H16]
  · iexists _, g16; isplitr; swap; · iexact H16
    ipureintro; rfl
  iexists _, g17; isplitr; swap; · iexact H17
  ipureintro; rfl

end Cert.KernelIdeal.Val
-- ==== Proof.Spec.lean ====
module

public import proofs.«01_k».proof.Proof.V7
public import Idealize.ShloMosaic.Lib.Pipeline.ValueKit.Point

@[expose] public section

set_option maxRecDepth 65536

noncomputable section

namespace Cert.KernelIdeal.Val

open Idealize.ShloMosaic Idealize.ShloMosaic.TcCoe
open Cert.KernelIdeal.Gen

/-- The real numbers behind the twelve arguments: each code as the number it stands for, each scale. -/
structure Nums where
  aq : ℕ → ℕ → ℕ → ℕ → ℝ
  aqs : ℕ → ℕ → ℕ → ℝ
  bq : ℕ → ℕ → ℕ → ℕ → ℝ
  bqs : ℕ → ℕ → ℕ → ℝ
  ak : ℕ → ℕ → ℕ → ℕ → ℝ
  aks : ℕ → ℕ → ℕ → ℝ
  bk : ℕ → ℕ → ℕ → ℕ → ℝ
  bks : ℕ → ℕ → ℕ → ℝ
  av : ℕ → ℕ → ℕ → ℕ → ℝ
  avs : ℕ → ℕ → ℕ → ℝ
  bv : ℕ → ℕ → ℕ → ℕ → ℝ
  bvs : ℕ → ℕ → ℕ → ℝ

/-- The number a code stands for. -/
def code4 {a b c d : ℕ} [NeZero a] [NeZero b] [NeZero c] [NeZero d] (x : (⟨4, ![a, b, c, d]⟩ : Shape).Idx → BitVec 8) (i j k l : ℕ) : ℝ :=
  (Ideal.ofBits .fp8e4m3 (x (ix4 (Fin.ofNat a i) (Fin.ofNat b j) (Fin.ofNat c k) (Fin.ofNat d l)))).toReal

/-- A scale. -/
def scale3 {a b c : ℕ} [NeZero a] [NeZero b] [NeZero c] (x : (⟨3, ![a, b, c]⟩ : Shape).Idx → EReal) (i j k : ℕ) : ℝ :=
  (x (ix3 (Fin.ofNat a i) (Fin.ofNat b j) (Fin.ofNat c k))).toReal

theorem ofNat_val {n : ℕ} [NeZero n] (x : Fin n) : Fin.ofNat n x.val = x := Fin.ext (Nat.mod_eq_of_lt x.isLt)

theorem code4_eq {a b c d : ℕ} [NeZero a] [NeZero b] [NeZero c] [NeZero d] {x : (⟨4, ![a, b, c, d]⟩ : Shape).Idx → BitVec 8}
    (h : ∀ y, Ideal.ofBits .fp8e4m3 (x y) = ((Ideal.ofBits .fp8e4m3 (x y)).toReal : EReal)) (i : Fin a) (j : Fin b) (k : Fin c) (l : Fin d) :
    Ideal.ofBits .fp8e4m3 (x (ix4 i j k l)) = ((code4 x i.val j.val k.val l.val : ℝ) : EReal) := by
  unfold code4
  rw [ofNat_val, ofNat_val, ofNat_val, ofNat_val]
  exact h _

theorem scale3_eq {a b c : ℕ} [NeZero a] [NeZero b] [NeZero c] {x : (⟨3, ![a, b, c]⟩ : Shape).Idx → EReal}
    (h : ∀ y, x y = ((x y).toReal : EReal)) (i : Fin a) (j : Fin b) (k : Fin c) :
    x (ix3 i j k) = ((scale3 x i.val j.val k.val : ℝ) : EReal) := by
  unfold scale3
  rw [ofNat_val, ofNat_val, ofNat_val]
  exact h _

def Nums.q2 (n : Nums) (b : ℕ) : ℕ → ℕ → ℝ := fun h x => n.aq b (x / 8) (x % 8) h
def Nums.q3 (n : Nums) (b : ℕ) : ℕ → ℝ := fun x => n.aqs b (x / 8) (x % 8) * n.bqs b (x / 8) (x % 8)
def Nums.k4 (n : Nums) (b : ℕ) : ℕ → ℕ → ℕ → ℝ := fun j h u => n.ak b u j h
def Nums.k5 (n : Nums) (b : ℕ) : ℕ → ℕ → ℝ := fun j u => n.aks b u j * n.bks b u j
def Nums.v6 (n : Nums) (b : ℕ) : ℕ → ℕ → ℕ → ℝ := fun j h u => n.av b u j h
def Nums.v7 (n : Nums) (b : ℕ) : ℕ → ℕ → ℝ := fun j u => n.avs b u j * n.bvs b u j
def Nums.b8 (n : Nums) (b : ℕ) : ℕ → ℕ → ℝ := fun x d => n.bq b (x / 8) (x % 8) d
def Nums.b9 (n : Nums) (b : ℕ) : ℕ → ℕ → ℝ := fun u e => n.bk b u (e / 128) (e % 128)
def Nums.b10 (n : Nums) (b : ℕ) : ℕ → ℕ → ℝ := fun u e => n.bv b u (e / 128) (e % 128)

/-- The scores of batch entry `b`, in base two. -/
def Nums.score (n : Nums) (b : ℕ) : ℕ → ℕ → ℕ → ℝ := scR (n.q2 b) (n.q3 b) (n.k4 b) (n.k5 b) (n.b8 b) (n.b9 b)

/-- The second result at batch entry `b`, head `h`, row `q`. -/
def Nums.lse (n : Nums) (b h q : ℕ) : EReal :=
  ((topR (n.score b) 0 h q * Real.log 2 : ℝ) : EReal) + Ideal.log ((∑ u ∈ Finset.range 2048, expR (n.score b) 0 h q u : ℝ) : EReal)

/-- The first result at batch entry `b`, head `h`, row `q`, lane `d` of the head. -/
def Nums.out (n : Nums) (b h q d : ℕ) : EReal :=
  Ideal.div ((∑ u ∈ Finset.range 2048, (wR (n.v6 b) (n.v7 b) (n.b10 b) (expR (n.score b) 0 h q) h d 0 u
      + wR (n.v6 b) (n.v7 b) (n.b10 b) (expR (n.score b) 0 h q) h d 1 u) : ℝ) : EReal)
    ((∑ u ∈ Finset.range 2048, expR (n.score b) 0 h q u : ℝ) : EReal)

theorem scR_shift (Q : ℕ → ℕ → ℝ) (Q3 : ℕ → ℝ) (k4 : ℕ → ℕ → ℕ → ℝ) (k5 : ℕ → ℕ → ℝ) (B b9 : ℕ → ℕ → ℝ) (e h q u : ℕ) :
    scR (fun h x => Q h (1024 * e + x)) (fun x => Q3 (1024 * e + x)) k4 k5 (fun x d => B (1024 * e + x) d) b9 h q u = scR Q Q3 k4 k5 B b9 h (128 * e + q) u := by
  have hr : ∀ r, 1024 * e + (8 * q + r) = 8 * (128 * e + q) + r := fun r => by omega
  unfold scR zR ipR
  simp only [hr]

theorem topR_shift (S T : ℕ → ℕ → ℕ → ℝ) (e h q : ℕ) (hS : ∀ u, S h q u = T h (e + q) u) : topR S e h q = topR T 0 h (e + q) := by
  unfold topR
  refine Finset.sup'_congr _ ?_ fun u _ => hS u
  rw [Nat.zero_add]

theorem expR_shift (S T : ℕ → ℕ → ℕ → ℝ) (e h q u : ℕ) (hS : ∀ u, S h q u = T h (e + q) u) : expR S e h q u = expR T 0 h (e + q) u := by
  unfold expR
  rw [topR_shift S T e h q hS, hS, Nat.zero_add]

section
variable (m : (ℓ : Loc nD τ sig) → Buf (Elt Ideal) ℓ) (c : Dev nD)

/-- The numbers behind the kernel's arguments. -/
def nums : Nums where
  aq := code4 (m ((c : Thread nD τ).loc main_arg0))
  aqs := scale3 (m ((c : Thread nD τ).loc main_arg1))
  bq := code4 (m ((c : Thread nD τ).loc main_arg2))
  bqs := scale3 (m ((c : Thread nD τ).loc main_arg3))
  ak := code4 (m ((c : Thread nD τ).loc main_arg4))
  aks := scale3 (m ((c : Thread nD τ).loc main_arg5))
  bk := code4 (m ((c : Thread nD τ).loc main_arg6))
  bks := scale3 (m ((c : Thread nD τ).loc main_arg7))
  av := code4 (m ((c : Thread nD τ).loc main_arg8))
  avs := scale3 (m ((c : Thread nD τ).loc main_arg9))
  bv := code4 (m ((c : Thread nD τ).loc main_arg10))
  bvs := scale3 (m ((c : Thread nD τ).loc main_arg11))

/-- Every code stands for a real number. -/
def RealCodes {s : Shape} (x : s.Idx → BitVec 8) : Prop := ∀ y, Ideal.ofBits .fp8e4m3 (x y) = ((Ideal.ofBits .fp8e4m3 (x y)).toReal : EReal)
/-- Every scale is a real number. -/
def RealScales {s : Shape} (x : s.Idx → EReal) : Prop := ∀ y, x y = ((x y).toReal : EReal)

/-- All twelve arguments hold real numbers. -/
structure AllReal : Prop where
  r0 : RealCodes (m ((c : Thread nD τ).loc main_arg0) : S7x2048x8x12.Idx → BitVec 8)
  r1 : RealScales (m ((c : Thread nD τ).loc main_arg1) : S7x2048x8.Idx → EReal)
  r2 : RealCodes (m ((c : Thread nD τ).loc main_arg2) : S7x2048x8x128.Idx → BitVec 8)
  r3 : RealScales (m ((c : Thread nD τ).loc main_arg3) : S7x2048x8.Idx → EReal)
  r4 : RealCodes (m ((c : Thread nD τ).loc main_arg4) : S7x2048x2x12.Idx → BitVec 8)
  r5 : RealScales (m ((c : Thread nD τ).loc main_arg5) : S7x2048x2.Idx → EReal)
  r6 : RealCodes (m ((c : Thread nD τ).loc main_arg6) : S7x2048x2x128.Idx → BitVec 8)
  r7 : RealScales (m ((c : Thread nD τ).loc main_arg7) : S7x2048x2.Idx → EReal)
  r8 : RealCodes (m ((c : Thread nD τ).loc main_arg8) : S7x2048x2x12.Idx → BitVec 8)
  r9 : RealScales (m ((c : Thread nD τ).loc main_arg9) : S7x2048x2.Idx → EReal)
  r10 : RealCodes (m ((c : Thread nD τ).loc main_arg10) : S7x2048x2x128.Idx → BitVec 8)
  r11 : RealScales (m ((c : Thread nD τ).loc main_arg11) : S7x2048x2.Idx → EReal)

/-! ## The prepared arrays -/

set_option maxHeartbeats 4000000 in
theorem at_v7 (b : Fin 7) (h : Fin 12) (x : Fin 16384) : (V m c main_v7 (ix3 b h x) : EReal)
    = Ideal.ofBits .fp8e4m3 (m ((c : Thread nD τ).loc main_arg0) (ix4 b ⟨x.val / 8, by omega⟩ ⟨x.val % 8, by omega⟩ h)) := by
  entry_read
  pointwise
set_option maxHeartbeats 4000000 in
theorem at_v9 (b : Fin 7) (x : Fin 16384) : (V m c main_v9 (ix3 b 0 x) : EReal)
    = @HMul.hMul EReal EReal EReal instHMul (m ((c : Thread nD τ).loc main_arg1) (ix3 b ⟨x.val / 8, by omega⟩ ⟨x.val % 8, by omega⟩)) (m ((c : Thread nD τ).loc main_arg3) (ix3 b ⟨x.val / 8, by omega⟩ ⟨x.val % 8, by omega⟩)) := by
  entry_read
  pointwise
set_option maxHeartbeats 4000000 in
theorem at_v10 (b : Fin 7) (j : Fin 2) (h : Fin 12) (u : Fin 2048) : (V m c main_v10 (ix4 b j h u) : EReal)
    = Ideal.ofBits .fp8e4m3 (m ((c : Thread nD τ).loc main_arg4) (ix4 b u j h)) := by
  entry_read
  pointwise
set_option maxHeartbeats 4000000 in
theorem at_v12 (b : Fin 7) (j : Fin 2) (u : Fin 2048) : (V m c main_v12 (ix3 b j u) : EReal)
    = @HMul.hMul EReal EReal EReal instHMul (m ((c : Thread nD τ).loc main_arg5) (ix3 b u j)) (m ((c : Thread nD τ).loc main_arg7) (ix3 b u j)) := by
  entry_read
  pointwise
set_option maxHeartbeats 4000000 in
theorem at_v13 (b : Fin 7) (j : Fin 2) (h : Fin 12) (u : Fin 2048) : (V m c main_v13 (ix4 b j h u) : EReal)
    = Ideal.ofBits .fp8e4m3 (m ((c : Thread nD τ).loc main_arg8) (ix4 b u j h)) := by
  entry_read
  pointwise
set_option maxHeartbeats 4000000 in
theorem at_v15 (b : Fin 7) (j : Fin 2) (u : Fin 2048) : (V m c main_v15 (ix3 b j u) : EReal)
    = @HMul.hMul EReal EReal EReal instHMul (m ((c : Thread nD τ).loc main_arg9) (ix3 b u j)) (m ((c : Thread nD τ).loc main_arg11) (ix3 b u j)) := by
  entry_read
  pointwise
set_option maxHeartbeats 4000000 in
theorem at_v16 (b : Fin 7) (x : Fin 16384) (d : Fin 128) : (V m c main_v16 (ix3 b x d) : EReal)
    = Ideal.ofBits .fp8e4m3 (m ((c : Thread nD τ).loc main_arg2) (ix4 b ⟨x.val / 8, by omega⟩ ⟨x.val % 8, by omega⟩ d)) := by
  entry_read
  pointwise
set_option maxHeartbeats 4000000 in
theorem at_v17 (b : Fin 7) (u : Fin 2048) (e : Fin 256) : (V m c main_v17 (ix3 b u e) : EReal)
    = Ideal.ofBits .fp8e4m3 (m ((c : Thread nD τ).loc main_arg6) (ix4 b u ⟨e.val / 128, by omega⟩ ⟨e.val % 128, by omega⟩)) := by
  entry_read
  pointwise
set_option maxHeartbeats 4000000 in
theorem at_v18 (b : Fin 7) (u : Fin 2048) (e : Fin 256) : (V m c main_v18 (ix3 b u e) : EReal)
    = Ideal.ofBits .fp8e4m3 (m ((c : Thread nD τ).loc main_arg10) (ix4 b u ⟨e.val / 128, by omega⟩ ⟨e.val % 128, by omega⟩)) := by
  entry_read
  pointwise

/-! ## The blocks' places -/

theorem idx : ∀ t : Fin cfg0.N, win0_0.index t = ![t.val / 16, 0, t.val % 16] ∧ win0_1.index t = ![t.val / 16, 0, t.val % 16]
    ∧ win0_2.index t = ![t.val / 16, 0, 0, 0] ∧ win0_3.index t = ![t.val / 16, 0, 0] ∧ win0_4.index t = ![t.val / 16, 0, 0, 0] ∧ win0_5.index t = ![t.val / 16, 0, 0]
    ∧ win0_6.index t = ![t.val / 16, t.val % 16, 0] ∧ win0_7.index t = ![t.val / 16, 0, 0] ∧ win0_8.index t = ![t.val / 16, 0, 0]
    ∧ win0_9.index t = ![t.val / 16, t.val % 16, 0] ∧ win0_10.index t = ![t.val / 16, 0, t.val % 16] :=
  (by decide +kernel : ∀ t : Fin grid0.N, _)

theorem coord1 : ∀ t : Fin cfg0.N, ((cfg0.grid.coords t) 1).val = t.val % 16 := (by decide +kernel : ∀ t : Fin grid0.N, _)

theorem lt112 (t : Fin cfg0.N) : t.val < 112 := t.isLt

theorem ib0 (t : Fin cfg0.N) (h : Fin 12) (x : Fin 1024) : iblk m c 0 t (ix3 0 h x)
    = V m c main_v7 (ix3 ⟨t.val / 16, by have := lt112 t; omega⟩ h ⟨1024 * (t.val % 16) + x.val, by have := lt112 t; omega⟩) := by
  obtain ⟨e0, -⟩ := idx t
  blk_ext [iblk, e0]
theorem ib1 (t : Fin cfg0.N) (x : Fin 1024) : iblk m c 1 t (ix3 0 0 x)
    = V m c main_v9 (ix3 ⟨t.val / 16, by have := lt112 t; omega⟩ 0 ⟨1024 * (t.val % 16) + x.val, by have := lt112 t; omega⟩) := by
  obtain ⟨-, e0, -⟩ := idx t
  blk_ext [iblk, e0]
theorem ib2 (t : Fin cfg0.N) (j : Fin 2) (h : Fin 12) (u : Fin 2048) : iblk m c 2 t (ix4 0 j h u)
    = V m c main_v10 (ix4 ⟨t.val / 16, by have := lt112 t; omega⟩ j h u) := by
  obtain ⟨-, -, e0, -⟩ := idx t
  blk_ext [iblk, e0]
theorem ib3 (t : Fin cfg0.N) (j : Fin 2) (u : Fin 2048) : iblk m c 3 t (ix3 0 j u)
    = V m c main_v12 (ix3 ⟨t.val / 16, by have := lt112 t; omega⟩ j u) := by
  obtain ⟨-, -, -, e0, -⟩ := idx t
  blk_ext [iblk, e0]
theorem ib4 (t : Fin cfg0.N) (j : Fin 2) (h : Fin 12) (u : Fin 2048) : iblk m c 4 t (ix4 0 j h u)
    = V m c main_v13 (ix4 ⟨t.val / 16, by have := lt112 t; omega⟩ j h u) := by
  obtain ⟨-, -, -, -, e0, -⟩ := idx t
  blk_ext [iblk, e0]
theorem ib5 (t : Fin cfg0.N) (j : Fin 2) (u : Fin 2048) : iblk m c 5 t (ix3 0 j u)
    = V m c main_v15 (ix3 ⟨t.val / 16, by have := lt112 t; omega⟩ j u) := by
  obtain ⟨-, -, -, -, -, e0, -⟩ := idx t
  blk_ext [iblk, e0]
theorem ib6 (t : Fin cfg0.N) (x : Fin 1024) (d : Fin 128) : iblk m c 6 t (ix3 0 x d)
    = V m c main_v16 (ix3 ⟨t.val / 16, by have := lt112 t; omega⟩ ⟨1024 * (t.val % 16) + x.val, by have := lt112 t; omega⟩ d) := by
  obtain ⟨-, -, -, -, -, -, e0, -⟩ := idx t
  blk_ext [iblk, e0]
theorem ib7 (t : Fin cfg0.N) (u : Fin 2048) (e : Fin 256) : iblk m c 7 t (ix3 0 u e)
    = V m c main_v17 (ix3 ⟨t.val / 16, by have := lt112 t; omega⟩ u e) := by
  obtain ⟨-, -, -, -, -, -, -, e0, -⟩ := idx t
  blk_ext [iblk, e0]
theorem ib8 (t : Fin cfg0.N) (u : Fin 2048) (e : Fin 256) : iblk m c 8 t (ix3 0 u e)
    = V m c main_v18 (ix3 ⟨t.val / 16, by have := lt112 t; omega⟩ u e) := by
  obtain ⟨-, -, -, -, -, -, -, -, e0, -⟩ := idx t
  blk_ext [iblk, e0]

/-! ## The blocks' numbers -/

variable {m c} (hr : AllReal m c)
include hr

theorem num0 (t : Fin cfg0.N) (h : Fin 12) (x : Fin 1024) : (iblk m c 0 t (ix3 0 h x) : EReal)
    = (((nums m c).q2 (t.val / 16) h.val (1024 * (t.val % 16) + x.val) : ℝ) : EReal) := by
  rw [ib0, at_v7]
  exact code4_eq hr.r0 _ _ _ _
theorem num1 (t : Fin cfg0.N) (x : Fin 1024) : (iblk m c 1 t (ix3 0 0 x) : EReal)
    = (((nums m c).q3 (t.val / 16) (1024 * (t.val % 16) + x.val) : ℝ) : EReal) := by
  rw [ib1, at_v9]
  unfold Nums.q3
  rw [EReal.coe_mul]
  exact congrArg₂ _ (scale3_eq hr.r1 _ _ _) (scale3_eq hr.r3 _ _ _)
theorem num2 (t : Fin cfg0.N) (j : Fin 2) (h : Fin 12) (u : Fin 2048) : (iblk m c 2 t (ix4 0 j h u) : EReal)
    = (((nums m c).k4 (t.val / 16) j.val h.val u.val : ℝ) : EReal) := by
  rw [ib2, at_v10]
  exact code4_eq hr.r4 _ _ _ _
theorem num3 (t : Fin cfg0.N) (j : Fin 2) (u : Fin 2048) : (iblk m c 3 t (ix3 0 j u) : EReal)
    = (((nums m c).k5 (t.val / 16) j.val u.val : ℝ) : EReal) := by
  rw [ib3, at_v12]
  unfold Nums.k5
  rw [EReal.coe_mul]
  exact congrArg₂ _ (scale3_eq hr.r5 _ _ _) (scale3_eq hr.r7 _ _ _)
theorem num4 (t : Fin cfg0.N) (j : Fin 2) (h : Fin 12) (u : Fin 2048) : (iblk m c 4 t (ix4 0 j h u) : EReal)
    = (((nums m c).v6 (t.val / 16) j.val h.val u.val : ℝ) : EReal) := by
  rw [ib4, at_v13]
  exact code4_eq hr.r8 _ _ _ _
theorem num5 (t : Fin cfg0.N) (j : Fin 2) (u : Fin 2048) : (iblk m c 5 t (ix3 0 j u) : EReal)
    = (((nums m c).v7 (t.val / 16) j.val u.val : ℝ) : EReal) := by
  rw [ib5, at_v15]
  unfold Nums.v7
  rw [EReal.coe_mul]
  exact congrArg₂ _ (scale3_eq hr.r9 _ _ _) (scale3_eq hr.r11 _ _ _)
theorem num6 (t : Fin cfg0.N) (x : Fin 1024) (d : Fin 128) : (iblk m c 6 t (ix3 0 x d) : EReal)
    = (((nums m c).b8 (t.val / 16) (1024 * (t.val % 16) + x.val) d.val : ℝ) : EReal) := by
  rw [ib6, at_v16]
  exact code4_eq hr.r2 _ _ _ _
theorem num7 (t : Fin cfg0.N) (u : Fin 2048) (e : Fin 256) : (iblk m c 7 t (ix3 0 u e) : EReal)
    = (((nums m c).b9 (t.val / 16) u.val e.val : ℝ) : EReal) := by
  rw [ib7, at_v17]
  exact code4_eq hr.r6 _ _ _ _
theorem num8 (t : Fin cfg0.N) (u : Fin 2048) (e : Fin 256) : (iblk m c 8 t (ix3 0 u e) : EReal)
    = (((nums m c).b10 (t.val / 16) u.val e.val : ℝ) : EReal) := by
  rw [ib8, at_v18]
  exact code4_eq hr.r10 _ _ _ _
end

end Cert.KernelIdeal.Val
-- ==== Proof.V8.lean ====
module

public import proofs.«01_k».proof.Proof.Spec

@[expose] public section

set_option maxRecDepth 65536

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- What the body leaves in the first result's buffer at point `t`. -/
def out9 (c : Dev nD) (t : Fin cfg0.N) : Vec Ideal S1x128x1536 .bf16 :=
  fun y => (nums m c).out (t.val / 16) ((y 2).val / 128) (128 * (t.val % 16) + (y 1).val) ((y 2).val % 128)

/-- What the body leaves in the second result's buffer at point `t`. -/
def out10 (c : Dev nD) (t : Fin cfg0.N) : Vec Ideal S1x12x128 .f32 :=
  fun y => (nums m c).lse (t.val / 16) (y 1).val (128 * (t.val % 16) + (y 2).val)

theorem named10 (c : Dev nD) (hr : AllReal m c) (t : Fin cfg0.N) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole)
    (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty)
    (hf2 : arg2.view.read (Elt Ideal) f2 = iblk m c 0 t) (hf3 : arg3.view.read (Elt Ideal) f3 = iblk m c 1 t) (hf4 : arg4.view.read (Elt Ideal) f4 = iblk m c 2 t) (hf5 : arg5.view.read (Elt Ideal) f5 = iblk m c 3 t) (hf6 : arg6.view.read (Elt Ideal) f6 = iblk m c 4 t) (hf7 : arg7.view.read (Elt Ideal) f7 = iblk m c 5 t) (hf8 : arg8.view.read (Elt Ideal) f8 = iblk m c 6 t) (hf9 : arg9.view.read (Elt Ideal) f9 = iblk m c 7 t) (hf10 : arg10.view.read (Elt Ideal) f10 = iblk m c 8 t) :
    arg12.view.read (Elt Ideal) (arg12.view.writes (Elt Ideal) f12 (Run.run (F := Ideal) c (cfg0.grid.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17).2.val) = out10 m c t := by
  funext y
  obtain ⟨z, h, q, rfl⟩ : ∃ (z : Fin 1) (h : Fin 12) (q : Fin 128), y = ix3 z h q := ⟨y 0, y 1, y 2, by funext a; fin_cases a <;> rfl⟩
  obtain rfl : z = 0 := Subsingleton.elim _ _
  refine (run_lse_apply c (cfg0.grid.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f14
      (fun h x => (nums m c).q2 (t.val / 16) h (1024 * (t.val % 16) + x)) (fun x => (nums m c).q3 (t.val / 16) (1024 * (t.val % 16) + x)) ((nums m c).k4 (t.val / 16)) ((nums m c).k5 (t.val / 16)) (fun x d => (nums m c).b8 (t.val / 16) (1024 * (t.val % 16) + x) d) ((nums m c).b9 (t.val / 16)) ((nums m c).v6 (t.val / 16)) ((nums m c).v7 (t.val / 16)) ((nums m c).b10 (t.val / 16))
      (fun h x => (congrFun hf2 _).trans (num0 hr t h x)) (fun x => (congrFun hf3 _).trans (num1 hr t x)) (fun j h u => (congrFun hf4 _).trans (num2 hr t j h u)) (fun j u => (congrFun hf5 _).trans (num3 hr t j u))
      (fun x d => (congrFun hf8 _).trans (num6 hr t x d)) (fun u e => (congrFun hf9 _).trans (num7 hr t u e)) (fun j h u => (congrFun hf6 _).trans (num4 hr t j h u)) (fun j u => (congrFun hf7 _).trans (num5 hr t j u)) (fun u e => (congrFun hf10 _).trans (num8 hr t u e)) f11 f12 f13 f15 f16 f17 f12 h q).trans ?_
  rw [coord1]
  have hS : ∀ u, scR (fun h x => (nums m c).q2 (t.val / 16) h (1024 * (t.val % 16) + x)) (fun x => (nums m c).q3 (t.val / 16) (1024 * (t.val % 16) + x)) ((nums m c).k4 (t.val / 16)) ((nums m c).k5 (t.val / 16)) (fun x d => (nums m c).b8 (t.val / 16) (1024 * (t.val % 16) + x) d) ((nums m c).b9 (t.val / 16)) h.val q.val u = (nums m c).score (t.val / 16) h.val (128 * (t.val % 16) + q.val) u :=
    fun u => scR_shift _ _ _ _ _ _ (t.val % 16) h.val q.val u
  rw [topR_shift _ ((nums m c).score (t.val / 16)) _ _ _ hS, Finset.sum_congr rfl fun u _ => expR_shift _ ((nums m c).score (t.val / 16)) _ _ _ u hS]
  rfl

theorem named9 (c : Dev nD) (hr : AllReal m c) (t : Fin cfg0.N) (arg2 : Memref sig .tc .vmem S1x12x1024 .fp8e4m3) (harg2 : arg2.IsWhole) (arg3 : Memref sig .tc .vmem S1x1x1024 .f32) (harg3 : arg3.IsWhole) (arg4 : Memref sig .tc .vmem S1x2x12x2048 .fp8e4m3) (harg4 : arg4.IsWhole) (arg5 : Memref sig .tc .vmem S1x2x2048 .f32) (harg5 : arg5.IsWhole) (arg6 : Memref sig .tc .vmem S1x2x12x2048 .fp8e4m3) (harg6 : arg6.IsWhole) (arg7 : Memref sig .tc .vmem S1x2x2048 .f32) (harg7 : arg7.IsWhole) (arg8 : Memref sig .tc .vmem S1x1024x128 .fp8e4m3) (harg8 : arg8.IsWhole) (arg9 : Memref sig .tc .vmem S1x2048x256 .fp8e4m3) (harg9 : arg9.IsWhole) (arg10 : Memref sig .tc .vmem S1x2048x256 .fp8e4m3) (harg10 : arg10.IsWhole) (arg11 : Memref sig .tc .vmem S1x128x1536 .bf16) (harg11 : arg11.IsWhole) (arg12 : Memref sig .tc .vmem S1x12x128 .f32) (harg12 : arg12.IsWhole) (arg13 : Memref sig .tc .vmem S8x192x256 .bf16) (harg13 : arg13.IsWhole) (arg14 : Memref sig .tc .vmem S12x128x2048 .f32) (harg14 : arg14.IsWhole) (arg15 : Memref sig .tc .vmem S12x128x128 .f32) (harg15 : arg15.IsWhole) (arg16 : Memref sig .tc .vmem S12x128x128 .f32) (harg16 : arg16.IsWhole) (arg17 : Memref sig .tc .vmem S12x128x128 .f32) (harg17 : arg17.IsWhole)
    (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty)
    (hf2 : arg2.view.read (Elt Ideal) f2 = iblk m c 0 t) (hf3 : arg3.view.read (Elt Ideal) f3 = iblk m c 1 t) (hf4 : arg4.view.read (Elt Ideal) f4 = iblk m c 2 t) (hf5 : arg5.view.read (Elt Ideal) f5 = iblk m c 3 t) (hf6 : arg6.view.read (Elt Ideal) f6 = iblk m c 4 t) (hf7 : arg7.view.read (Elt Ideal) f7 = iblk m c 5 t) (hf8 : arg8.view.read (Elt Ideal) f8 = iblk m c 6 t) (hf9 : arg9.view.read (Elt Ideal) f9 = iblk m c 7 t) (hf10 : arg10.view.read (Elt Ideal) f10 = iblk m c 8 t) :
    arg11.view.read (Elt Ideal) (arg11.view.writes (Elt Ideal) f11 (Run.run (F := Ideal) c (cfg0.grid.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17).1) = out9 m c t := by
  funext y
  obtain ⟨z, q, e, rfl⟩ : ∃ (z : Fin 1) (q : Fin 128) (e : Fin 1536), y = ix3 z q e := ⟨y 0, y 1, y 2, by funext a; fin_cases a <;> rfl⟩
  obtain rfl : z = 0 := Subsingleton.elim _ _
  obtain ⟨h, d, he⟩ : ∃ (h : Fin 12) (d : Fin 128), e = ⟨128 * h.val + d.val, by omega⟩ :=
    ⟨⟨e.val / 128, by omega⟩, ⟨e.val % 128, by omega⟩, Fin.ext (Nat.div_add_mod e.val 128).symm⟩
  subst he
  refine (run_out_apply c (cfg0.grid.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f14
      (fun h x => (nums m c).q2 (t.val / 16) h (1024 * (t.val % 16) + x)) (fun x => (nums m c).q3 (t.val / 16) (1024 * (t.val % 16) + x)) ((nums m c).k4 (t.val / 16)) ((nums m c).k5 (t.val / 16)) (fun x d => (nums m c).b8 (t.val / 16) (1024 * (t.val % 16) + x) d) ((nums m c).b9 (t.val / 16)) ((nums m c).v6 (t.val / 16)) ((nums m c).v7 (t.val / 16)) ((nums m c).b10 (t.val / 16))
      (fun h x => (congrFun hf2 _).trans (num0 hr t h x)) (fun x => (congrFun hf3 _).trans (num1 hr t x)) (fun j h u => (congrFun hf4 _).trans (num2 hr t j h u)) (fun j u => (congrFun hf5 _).trans (num3 hr t j u))
      (fun x d => (congrFun hf8 _).trans (num6 hr t x d)) (fun u e => (congrFun hf9 _).trans (num7 hr t u e)) (fun j h u => (congrFun hf6 _).trans (num4 hr t j h u)) (fun j u => (congrFun hf7 _).trans (num5 hr t j u)) (fun u e => (congrFun hf10 _).trans (num8 hr t u e)) f11 f12 f13 f15 f16 f17 f11 h q d).trans ?_
  rw [coord1]
  have hS : ∀ u, scR (fun h x => (nums m c).q2 (t.val / 16) h (1024 * (t.val % 16) + x)) (fun x => (nums m c).q3 (t.val / 16) (1024 * (t.val % 16) + x)) ((nums m c).k4 (t.val / 16)) ((nums m c).k5 (t.val / 16)) (fun x d => (nums m c).b8 (t.val / 16) (1024 * (t.val % 16) + x) d) ((nums m c).b9 (t.val / 16)) h.val q.val u = (nums m c).score (t.val / 16) h.val (128 * (t.val % 16) + q.val) u :=
    fun u => scR_shift _ _ _ _ _ _ (t.val % 16) h.val q.val u
  have hE := (funext fun u => expR_shift _ ((nums m c).score (t.val / 16)) (128 * (t.val % 16)) h.val q.val u hS : expR _ (128 * (t.val % 16)) h.val q.val = expR ((nums m c).score (t.val / 16)) 0 h.val (128 * (t.val % 16) + q.val))
  rw [hE]
  have h1 : (128 * h.val + d.val) / 128 = h.val := by omega
  have h2 : (128 * h.val + d.val) % 128 = d.val := by omega
  show _ = (nums m c).out (t.val / 16) ((128 * h.val + d.val) / 128) (128 * (t.val % 16) + q.val) ((128 * h.val + d.val) % 128)
  rw [h1, h2]
  rfl

/-- The proof data: each input's buffer keeps its block, each result is named. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 m c t
    | ⟨10, _⟩ => out10 m c t
  Φ _ := Pipeline.ΦA spec0 c
  q _ := fullShare
  owed _ := 0

theorem A_eqV (c : Dev nD) (w : Fin cfg0.W) : (datsV m 0 c).A w = V m c (Pipeline.arrRef spec0 w) := by
  dsimp only [datsV]

theorem after_0V (c : Dev nD) (t : Fin cfg0.N) : (datsV m 0 c).after 0 t = iblk m c 0 t := by dsimp only [datsV]
theorem after_1V (c : Dev nD) (t : Fin cfg0.N) : (datsV m 0 c).after 1 t = iblk m c 1 t := by dsimp only [datsV]
theorem after_2V (c : Dev nD) (t : Fin cfg0.N) : (datsV m 0 c).after 2 t = iblk m c 2 t := by dsimp only [datsV]
theorem after_3V (c : Dev nD) (t : Fin cfg0.N) : (datsV m 0 c).after 3 t = iblk m c 3 t := by dsimp only [datsV]
theorem after_4V (c : Dev nD) (t : Fin cfg0.N) : (datsV m 0 c).after 4 t = iblk m c 4 t := by dsimp only [datsV]
theorem after_5V (c : Dev nD) (t : Fin cfg0.N) : (datsV m 0 c).after 5 t = iblk m c 5 t := by dsimp only [datsV]
theorem after_6V (c : Dev nD) (t : Fin cfg0.N) : (datsV m 0 c).after 6 t = iblk m c 6 t := by dsimp only [datsV]
theorem after_7V (c : Dev nD) (t : Fin cfg0.N) : (datsV m 0 c).after 7 t = iblk m c 7 t := by dsimp only [datsV]
theorem after_8V (c : Dev nD) (t : Fin cfg0.N) : (datsV m 0 c).after 8 t = iblk m c 8 t := by dsimp only [datsV]

theorem after_9V (c : Dev nD) (t : Fin cfg0.N) : (datsV m 0 c).after 9 t = out9 m c t := by dsimp only [datsV]
theorem after_10V (c : Dev nD) (t : Fin cfg0.N) : (datsV m 0 c).after 10 t = out10 m c t := by dsimp only [datsV]

theorem before_0V (c : Dev nD) (t : Fin cfg0.N) (d) : (datsV m 0 c).before 0 t d = iblk m c 0 t :=
  before0_0_of m (datsV m 0 c) (A_eqV m c 0) (after_0V m c) t d
theorem before_1V (c : Dev nD) (t : Fin cfg0.N) (d) : (datsV m 0 c).before 1 t d = iblk m c 1 t :=
  before0_1_of m (datsV m 0 c) (A_eqV m c 1) (after_1V m c) t d
theorem before_2V (c : Dev nD) (t : Fin cfg0.N) (d) : (datsV m 0 c).before 2 t d = iblk m c 2 t :=
  before0_2_of m (datsV m 0 c) (A_eqV m c 2) (after_2V m c) t d
theorem before_3V (c : Dev nD) (t : Fin cfg0.N) (d) : (datsV m 0 c).before 3 t d = iblk m c 3 t :=
  before0_3_of m (datsV m 0 c) (A_eqV m c 3) (after_3V m c) t d
theorem before_4V (c : Dev nD) (t : Fin cfg0.N) (d) : (datsV m 0 c).before 4 t d = iblk m c 4 t :=
  before0_4_of m (datsV m 0 c) (A_eqV m c 4) (after_4V m c) t d
theorem before_5V (c : Dev nD) (t : Fin cfg0.N) (d) : (datsV m 0 c).before 5 t d = iblk m c 5 t :=
  before0_5_of m (datsV m 0 c) (A_eqV m c 5) (after_5V m c) t d
theorem before_6V (c : Dev nD) (t : Fin cfg0.N) (d) : (datsV m 0 c).before 6 t d = iblk m c 6 t :=
  before0_6_of m (datsV m 0 c) (A_eqV m c 6) (after_6V m c) t d
theorem before_7V (c : Dev nD) (t : Fin cfg0.N) (d) : (datsV m 0 c).before 7 t d = iblk m c 7 t :=
  before0_7_of m (datsV m 0 c) (A_eqV m c 7) (after_7V m c) t d
theorem before_8V (c : Dev nD) (t : Fin cfg0.N) (d) : (datsV m 0 c).before 8 t d = iblk m c 8 t :=
  before0_8_of m (datsV m 0 c) (A_eqV m c 8) (after_8V m c) t d

/-- What the body is given at point `t`. -/
def bodyPreV (c : Dev nD) (t : Fin cfg0.N) : sProp 𝕄 :=
  iprop((datsV m 0 c).Φ t.castSucc ∗ (datsV m 0 c).owesAt () t.castSucc
    ∗ (∃ d, owns (c : Thread nD τ) (win0_0.stage (cfg0.slots t 0)) fullShare ((datsV m 0 c).before 0 t d))
    ∗ (∃ d, owns (c : Thread nD τ) (win0_1.stage (cfg0.slots t 1)) fullShare ((datsV m 0 c).before 1 t d))
    ∗ (∃ d, owns (c : Thread nD τ) (win0_2.stage (cfg0.slots t 2)) fullShare ((datsV m 0 c).before 2 t d))
    ∗ (∃ d, owns (c : Thread nD τ) (win0_3.stage (cfg0.slots t 3)) fullShare ((datsV m 0 c).before 3 t d))
    ∗ (∃ d, owns (c : Thread nD τ) (win0_4.stage (cfg0.slots t 4)) fullShare ((datsV m 0 c).before 4 t d))
    ∗ (∃ d, owns (c : Thread nD τ) (win0_5.stage (cfg0.slots t 5)) fullShare ((datsV m 0 c).before 5 t d))
    ∗ (∃ d, owns (c : Thread nD τ) (win0_6.stage (cfg0.slots t 6)) fullShare ((datsV m 0 c).before 6 t d))
    ∗ (∃ d, owns (c : Thread nD τ) (win0_7.stage (cfg0.slots t 7)) fullShare ((datsV m 0 c).before 7 t d))
    ∗ (∃ d, owns (c : Thread nD τ) (win0_8.stage (cfg0.slots t 8)) fullShare ((datsV m 0 c).before 8 t d))
    ∗ (∃ d, owns (c : Thread nD τ) (win0_9.stage (cfg0.slots t 9)) fullShare ((datsV m 0 c).before 9 t d))
    ∗ (∃ d, owns (c : Thread nD τ) (win0_10.stage (cfg0.slots t 10)) fullShare ((datsV m 0 c).before 10 t d)))

/-- What the body leaves at point `t`. -/
def bodyPostV (c : Dev nD) (t : Fin cfg0.N) : sProp 𝕄 :=
  iprop((datsV m 0 c).Φ t.succ ∗ (datsV m 0 c).owesAt () t.succ
    ∗ owns (c : Thread nD τ) (win0_0.stage (cfg0.slots t 0)) fullShare ((datsV m 0 c).after 0 t)
    ∗ owns (c : Thread nD τ) (win0_1.stage (cfg0.slots t 1)) fullShare ((datsV m 0 c).after 1 t)
    ∗ owns (c : Thread nD τ) (win0_2.stage (cfg0.slots t 2)) fullShare ((datsV m 0 c).after 2 t)
    ∗ owns (c : Thread nD τ) (win0_3.stage (cfg0.slots t 3)) fullShare ((datsV m 0 c).after 3 t)
    ∗ owns (c : Thread nD τ) (win0_4.stage (cfg0.slots t 4)) fullShare ((datsV m 0 c).after 4 t)
    ∗ owns (c : Thread nD τ) (win0_5.stage (cfg0.slots t 5)) fullShare ((datsV m 0 c).after 5 t)
    ∗ owns (c : Thread nD τ) (win0_6.stage (cfg0.slots t 6)) fullShare ((datsV m 0 c).after 6 t)
    ∗ owns (c : Thread nD τ) (win0_7.stage (cfg0.slots t 7)) fullShare ((datsV m 0 c).after 7 t)
    ∗ owns (c : Thread nD τ) (win0_8.stage (cfg0.slots t 8)) fullShare ((datsV m 0 c).after 8 t)
    ∗ owns (c : Thread nD τ) (win0_9.stage (cfg0.slots t 9)) fullShare ((datsV m 0 c).after 9 t)
    ∗ owns (c : Thread nD τ) (win0_10.stage (cfg0.slots t 10)) fullShare ((datsV m 0 c).after 10 t))

set_option maxHeartbeats 2000000 in
theorem sound_bodyV (c : Dev nD) (hr : AllReal m c) (t : Fin cfg0.N) :
    bodyPreV m c t ⊢ wp frame (wpE (defs₀ (F := Ideal)) Variants.none c none) Set.univ (bodyAt0 t) (fun _ => bodyPostV m c t) := by
  unfold bodyPreV bodyPostV bodyAt0
  simp only [before_0V, before_1V, before_2V, before_3V, before_4V, before_5V, before_6V, before_7V, before_8V]
  rw [show (datsV m 0 c).Φ t.succ = (datsV m 0 c).Φ t.castSucc from rfl,
    show (datsV m 0 c).Φ t.castSucc = Pipeline.ΦA spec0 c from rfl,
    show (datsV m 0 c).owesAt () t.succ = (datsV m 0 c).owesAt () t.castSucc from rfl,
    after_0V, after_1V, after_2V, after_3V, after_4V, after_5V, after_6V, after_7V, after_8V, after_9V, after_10V]
  unfold Pipeline.ΦA
  rw [scopedRest0_eq]
  iintro ⟨⟨⟨⟨%s0, S0⟩, ⟨%s1, S1⟩, ⟨%s2, S2⟩, ⟨%s3, S3⟩, ⟨%s4, S4⟩⟩, Hρ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_named c Set.univ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (out9 m c t) (out10 m c t) (named9 m c hr t _ _ _ _ _ _ _ _ _ _ _ _ _ _ _ _ _ _ _ _ _ _ _ _ _ _ _ _ _ _ _ _) (named10 m c hr t _ _ _ _ _ _ _ _ _ _ _ _ _ _ _ _ _ _ _ _ _ _ _ _ _ _ _ _ _ _ _ _) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [S0]; · iexists s0; rw [owns_whole]; iexact S0
  isplitl [S1]; · iexists s1; rw [owns_whole]; iexact S1
  isplitl [S2]; · iexists s2; rw [owns_whole]; iexact S2
  isplitl [S3]; · iexists s3; rw [owns_whole]; iexact S3
  isplitl [S4]; · iexists s4; rw [owns_whole]; iexact S4
  iintro ⟨H0, H1, H2, H3, H4, H5, H6, H7, H8, H9, H10, ⟨%r0, S0⟩, ⟨%r1, S1⟩, ⟨%r2, S2⟩, ⟨%r3, S3⟩, ⟨%r4, S4⟩⟩
  isplitl [S0 S1 S2 S3 S4 Hρ]
  · isplitr [Hρ]; swap; · iexact Hρ
    isplitl [S0]; · iexists r0; rw [← owns_whole]; iexact S0
    isplitl [S1]; · iexists r1; rw [← owns_whole]; iexact S1
    isplitl [S2]; · iexists r2; rw [← owns_whole]; iexact S2
    isplitl [S3]; · iexists r3; rw [← owns_whole]; iexact S3
    iexists r4; rw [← owns_whole]; iexact S4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_rowV (t : Fin cfg0.N) :
    defs₀ (F := Ideal) .tc cfg0.body (cfg0.bodyArgs t (cfg0.slots t)) = bodyAt0 t := by
  unfold defs₀; rw [Defs.onTc_tc]

theorem body_obligationV (c : Dev nD) (hr : AllReal m c) : BodyObligation (datsV m 0 c) (defs₀ (F := Ideal)) Variants.none () Set.univ := fun t => by
  rw [bigSep_W0, bigSep_W0, defs₀_rowV]
  exact triple_restated (sound_bodyV m c hr t) rfl .rfl fun _ => .rfl

set_option backward.isDefEq.respectTransparency.types false in
set_option maxHeartbeats 800000 in
/-- The launch with its two results named. -/
theorem run_named (hr : ∀ c, AllReal m c) : θ_run defs (onTc (τ := τ) (main (F := Ideal))) (s₀ m ρ)
    (Pipeline.FramePost cfgs (datsV m) (0 : Fin 1) (V m)) :=
  Pipeline.θ_run_frame (Q' := _) cfgs (datsV m) (0 : Fin 1) launch0 defs₀ Variants.none m ρ main
    (hbody := fun c => (body_obligationV m c (hr c)).loose) (hshare := fun c => (datsV m 0 c).share_full fun _ => rfl)
    (howed := fun _ _ => rfl) (V := V m)
    (hmain := hmain m Variants.none) (hA := A_eqV m) (hΦ := fun _ _ => rfl)

end Cert.KernelIdeal.Val
-- ==== Proof.V9.lean ====
module

public import proofs.«01_k».proof.Proof.V8

@[expose] public section

set_option maxRecDepth 65536

noncomputable section

namespace Cert.KernelIdeal.Val

open Idealize.ShloMosaic Idealize.ShloMosaic.TcCoe Idealize.ShloMosaic.Tactic
open Idealize.SL Idealize.SL.Sem
open Idealize.ShloMosaic.Pipeline (Dat Cfg Window)
open Cert.KernelIdeal.Gen

variable (m : (ℓ : Loc nD τ sig) → Buf (Elt Ideal) ℓ) (ρ : Dev nD → PrngReg)

/-- The first result. -/
def res9 (n : Nums) : Vec Ideal S7x2048x1536 .bf16 :=
  fun y => n.out (y 0).val ((y 2).val / 128) (y 1).val ((y 2).val % 128)

/-- The second result. -/
def res10 (n : Nums) : Vec Ideal S7x12x2048 .f32 :=
  fun y => n.lse (y 0).val (y 1).val (y 2).val

theorem out9_of (c : Dev nD) (t : Fin cfg0.N) (y : S1x128x1536.Idx) (i : S7x2048x1536.Idx)
    (h0 : (i 0).val = t.val / 16) (h1 : (i 1).val = 128 * (t.val % 16) + (y 1).val) (h2 : (i 2).val = (y 2).val) :
    out9 m c t y = res9 (nums m c) i := by
  unfold out9 res9
  rw [h0, h1, h2]

theorem out10_of (c : Dev nD) (t : Fin cfg0.N) (y : S1x12x128.Idx) (i : S7x12x2048.Idx)
    (h0 : (i 0).val = t.val / 16) (h1 : (i 1).val = (y 1).val) (h2 : (i 2).val = 128 * (t.val % 16) + (y 2).val) :
    out10 m c t y = res10 (nums m c) i := by
  unfold out10 res10
  rw [h0, h1, h2]

theorem idx' : ∀ t : Fin cfg0.N, win0_9.index t = ![t.val / 16, t.val % 16, 0] ∧ win0_10.index t = ![t.val / 16, 0, t.val % 16] :=
  (by decide +kernel : ∀ t : Fin grid0.N, _)

theorem arr9 (c : Dev nD) : (datsV m 0 c).arrAt 9 (cfgs 0).N = res9 (nums m c) := by
  refine (datsV m 0 c).arrAt_eq_of_covers 9 _ (by decide +kernel) (fun t hf y => ?_)
  blk_simp
  rw [after_9V]
  have e := (idx' t).1
  have hy0 : (y 0).val < 1 := (y 0).isLt
  refine out9_of m c t _ _ ?_ ?_ ?_
  · blk_simp [e]; try omega
  · blk_simp [e]; try omega
  · blk_simp [e]; try omega

theorem arr10 (c : Dev nD) : (datsV m 0 c).arrAt 10 (cfgs 0).N = res10 (nums m c) := by
  refine (datsV m 0 c).arrAt_eq_of_covers 10 _ (by decide +kernel) (fun t hf y => ?_)
  blk_simp
  rw [after_10V]
  have e := (idx' t).2
  have hy0 : (y 0).val < 1 := (y 0).isLt
  refine out10_of m c t _ _ ?_ ?_ ?_
  · blk_simp [e]; try omega
  · blk_simp [e]; try omega
  · blk_simp [e]; try omega

/-- The kernel's run: both results, and the arguments as launched. -/
theorem run_results (hr : ∀ c, AllReal m c) : θ_run (defs (F := Ideal)) (onTc (τ := τ) (main (F := Ideal))) ⟨m, fun _ => 0, ρ⟩ (fun r => ∀ c : Dev nD,
      r.2.mem ((c : Thread nD τ).loc main_v19_0) = res9 (nums m c)
      ∧ r.2.mem ((c : Thread nD τ).loc main_v19_1) = res10 (nums m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  (θ_run defs _ _).mono (fun _ h c => ⟨((h c).1 9).trans (arr9 m c), ((h c).1 10).trans (arr10 m c),
      (((h c).2 main_arg0 (by decide)).trans (V_main_arg0 m c)),
      (((h c).2 main_arg1 (by decide)).trans (V_main_arg1 m c)),
      (((h c).2 main_arg2 (by decide)).trans (V_main_arg2 m c)),
      (((h c).2 main_arg3 (by decide)).trans (V_main_arg3 m c)),
      (((h c).2 main_arg4 (by decide)).trans (V_main_arg4 m c)),
      (((h c).2 main_arg5 (by decide)).trans (V_main_arg5 m c)),
      (((h c).2 main_arg6 (by decide)).trans (V_main_arg6 m c)),
      (((h c).2 main_arg7 (by decide)).trans (V_main_arg7 m c)),
      (((h c).2 main_arg8 (by decide)).trans (V_main_arg8 m c)),
      (((h c).2 main_arg9 (by decide)).trans (V_main_arg9 m c)),
      (((h c).2 main_arg10 (by decide)).trans (V_main_arg10 m c)),
      (((h c).2 main_arg11 (by decide)).trans (V_main_arg11 m c))⟩) (run_named m ρ hr)

end Cert.KernelIdeal.Val
-- ==== Proof.PreReal.lean ====
module

public import proofs.«01_k».proof.Proof.Spec
public import proofs.«01_k».proof.Pre_finite
public import Idealize.ShloMosaic.Lib.ReduceAll
public import Idealize.ShloMosaic.Lib.WordCmp

@[expose] public section

set_option maxRecDepth 65536

noncomputable section

namespace Cert.KernelIdeal.Val

open Idealize.ShloMosaic Idealize.ShloMosaic.TcCoe
open Cert.KernelIdeal.Gen

/-- A code byte that is not the not-a-number byte stands for a real number. -/
theorem code_real (v : BitVec 8) (h1 : v ≠ 127#8) (h2 : v ≠ 255#8) :
    (Ideal.ofBits .fp8e4m3 v : EReal) = (((Ideal.ofBits .fp8e4m3 v : EReal)).toReal : EReal) := by
  have hn : ¬((v.extractLsb' 3 4).toNat = 15 ∧ (v.extractLsb' 0 3).toNat = 7) := by
    revert h1 h2
    revert v
    decide
  show Ideal.e4m3fn v = ((Ideal.e4m3fn v).toReal : EReal)
  unfold Ideal.e4m3fn
  simp only [hn, if_false]
  split <;> rw [EReal.toReal_coe]

/-- A magnitude below infinity is that of a real number. -/
theorem scale_real (x : EReal) (h : Ideal.cmp .olt (max x (-x)) (Ideal.ofBits .f32 0x7F800000#32) = 1#1) : x = (x.toReal : EReal) := by
  have ht : (Ideal.ofBits .f32 0x7F800000#32 : EReal) = ⊤ := by
    simp [Ideal.ofBits, Ideal.ieee]
  have h' : max x (-x) < ⊤ := by
    rw [ht] at h
    unfold Ideal.cmp at h
    by_contra hc
    rw [decide_eq_false hc] at h
    exact absurd h (show ¬(BitVec.ofBool false = 1#1) by decide)
  rw [max_lt_iff] at h'
  refine (EReal.coe_toReal (ne_of_lt h'.1) ?_).symm
  rintro rfl
  exact absurd h'.2 (by simp)

theorem andi_apply' {s : Shape} {w : ℕ} (x y : IVec s w) (i : s.Idx) : andi x y i = IntOp.andi (x i) (y i) := rfl

section
variable [Cert.Pre_finite.Facts]

instance : Subsingleton (⟨0, ![]⟩ : Shape).Idx := ⟨fun a b => funext fun i => i.elim0⟩

theorem codes_of {s : Shape} {axes : List (Fin s.rank)} {h : s.ReducesTo axes ⟨0, ![]⟩} {hu : 0 < (⟨0, ![]⟩ : Shape).numel} {bc bc' : (⟨0, ![]⟩ : Shape).BroadcastsInDim s (![] : Fin 0 → Fin s.rank)} (x : IVec s 8)
    (e : Host.reduce IntOp.andi (andi (cmpi .ne x (broadcastInDim s ![] bc (constantI ⟨0, ![]⟩ 8 127#8))) (cmpi .ne x (broadcastInDim s ![] bc' (constantI ⟨0, ![]⟩ 8 255#8)))) (constantI ⟨0, ![]⟩ 1 1#1) h hu ix0 = 1#1) :
    RealCodes x := fun y => by
  have e1 := Host.reduce_andi_all _ _ _ _ ix0 e y
  have e1 := IntOp.andi_eq_one.1 (show IntOp.andi _ _ = 1#1 from e1)
  exact code_real (x y) (IntOp.cmpi_ne.1 e1.1) (IntOp.cmpi_ne.1 e1.2)

theorem scales_of {s : Shape} {axes : List (Fin s.rank)} {h : s.ReducesTo axes ⟨0, ![]⟩} {hu : 0 < (⟨0, ![]⟩ : Shape).numel} {bc : (⟨0, ![]⟩ : Shape).BroadcastsInDim s (![] : Fin 0 → Fin s.rank)} (x : FVec Ideal s .f32)
    (e : Host.reduce IntOp.andi (cmpf .olt (Host.absf x) (broadcastInDim s ![] bc (constant ⟨0, ![]⟩ .f32 0x7F800000#32))) (constantI ⟨0, ![]⟩ 1 1#1) h hu ix0 = 1#1) :
    RealScales (s := s) x := fun y =>
  scale_real (x y) (Host.reduce_andi_all _ _ _ _ ix0 e y)

set_option maxHeartbeats 2000000 in
/-- Under the precondition every code and scale is a real number. -/
theorem allReal (m : (ℓ : Loc nD τ sig) → Buf (Elt Ideal) ℓ) (c : Dev nD)
    (h : Cert.Pre_finite.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = (fun _ => 1#1)) :
    AllReal m c := by
  have e := congrFun h ix0
  unfold Cert.Pre_finite.fn Cert.Pre_finite.fn_part1 Cert.Pre_finite.fn_part2 Cert.Pre_finite.fn_part3 Cert.Pre_finite.fn_part4 at e
  dsimp only at e
  simp only [andi_apply', IntOp.andi_eq_one] at e
  obtain ⟨⟨⟨⟨⟨⟨⟨⟨⟨⟨⟨⟨_, e0⟩, e2⟩, e4⟩, e6⟩, e8⟩, e10⟩, e1⟩, e3⟩, e5⟩, e7⟩, e9⟩, e11⟩ := e
  exact ⟨codes_of _ e0, scales_of _ e1, codes_of _ e2, scales_of _ e3, codes_of _ e4, scales_of _ e5, codes_of _ e6, scales_of _ e7, codes_of _ e8, scales_of _ e9, codes_of _ e10, scales_of _ e11⟩
end

end Cert.KernelIdeal.Val
-- ==== Proof.RefRead.lean ====
module
public import proofs.«01_k».proof.Proof.Gen.ReferenceIdeal.Frame
public import Idealize.ShloMosaic.Lib.Pointwise
public import Idealize.ShloMosaic.Lib.StableHlo.RunRead
@[expose] public section
set_option maxRecDepth 65536
open Idealize.ShloMosaic Cert.ReferenceIdeal Cert.ReferenceIdeal.Gen
noncomputable section
namespace Cert.ReferenceIdeal.Val

variable (W : Valuation τ sig (Elt Ideal))

abbrev V1 := StableHlo.after (hostOps1 (F := Ideal)) W
abbrev V2 := StableHlo.after (hostOps1_1 (F := Ideal)) W
abbrev V3 := StableHlo.after (hostOps1_2 (F := Ideal)) W

set_option maxHeartbeats 4000000 in
theorem rd30 (b : Fin 7) (q : Fin 2048) (r : Fin 8) (j : Fin 2) (u : Fin 2048) : (V1 W (Proc.devRef .tc main_v30) (ix5 b q r j u) : EReal)
    = @HMul.hMul EReal EReal EReal instHMul (∑ x : Fin 128, @HMul.hMul EReal EReal EReal instHMul (W (Proc.devRef .tc main_v6_1) (ix4 b q r x)) (W (Proc.devRef .tc main_v6_3) (ix4 b u j x)))
      (@HMul.hMul EReal EReal EReal instHMul (W (Proc.devRef .tc main_arg3) (ix3 b q r)) (W (Proc.devRef .tc main_arg7) (ix3 b u j))) := by
  after_reads_simp
  pointwise

set_option maxHeartbeats 4000000 in
theorem rd19 (b : Fin 7) (h : Fin 12) (j : Fin 2) (u : Fin 2048) : (V1 W (Proc.devRef .tc main_v19) (ix4 b h j u) : EReal)
    = @HMul.hMul EReal EReal EReal instHMul (@HMul.hMul EReal EReal EReal instHMul (@HMul.hMul EReal EReal EReal instHMul (W (Proc.devRef .tc main_v6_4) (ix4 b u j h)) (W (Proc.devRef .tc main_arg9) (ix3 b u j))) (W (Proc.devRef .tc main_arg11) (ix3 b u j))) (Ideal.ofBits .f32 1056964608#32) := by
  after_reads_simp
  pointwise
set_option maxHeartbeats 4000000 in
theorem rd21 (b : Fin 7) (j : Fin 2) (u : Fin 2048) (d : Fin 128) : (V1 W (Proc.devRef .tc main_v21) (ix4 b j u d) : EReal)
    = W (Proc.devRef .tc main_v6_5) (ix4 b u j d) := by
  after_reads_simp
  pointwise
set_option maxHeartbeats 4000000 in
theorem rd215 (b : Fin 7) (h : Fin 12) (q u : Fin 2048) : (V2 W (Proc.devRef .tc main_v215) (ix4 b h q u) : EReal)
    = Scalar.select (W (Proc.devRef .tc main_v214) (ix2 q u)) (W (Proc.devRef .tc main_cst_2) ix0) (W (Proc.devRef .tc main_v208) (ix4 b h q u)) := by
  after_reads_simp
  simp only [StableHlo.TRef.toBuf, StableHlo.TRef.ofBuf, cast_eq, id]
  pointwise
set_option maxHeartbeats 4000000 in
theorem rd214 (q u : Fin 2048) : V1 W (Proc.devRef .tc main_v214) (ix2 q u) = IntOp.cmpi .sgt (BitVec.ofNat 32 u.val) (BitVec.ofNat 32 q.val) := by
  after_reads_simp
  pointwise
theorem rdc : V1 W (Proc.devRef .tc main_cst_2) = constant (F := Ideal) S_ .f32 4286578688#32 := by
  after_reads_simp

set_option maxHeartbeats 4000000 in
theorem rd208 (b : Fin 7) (h : Fin 12) (q u : Fin 2048) : (V1 W (Proc.devRef .tc main_v208) (ix4 b h q u) : EReal)
    = @HMul.hMul EReal EReal EReal instHMul (Ideal.div (@HMul.hMul EReal EReal EReal instHMul ((((((((@HMul.hMul EReal EReal EReal instHMul (@HMul.hMul EReal EReal EReal instHMul (W (Proc.devRef .tc main_v6_0) (ix4 b q 0 h)) (W (Proc.devRef .tc main_arg1) (ix3 b q 0))) (V1 W (Proc.devRef .tc main_v30) (ix5 b q 0 0 u))) + @HMul.hMul EReal EReal EReal instHMul (@HMul.hMul EReal EReal EReal instHMul (W (Proc.devRef .tc main_v6_0) (ix4 b q 1 h)) (W (Proc.devRef .tc main_arg1) (ix3 b q 1))) (V1 W (Proc.devRef .tc main_v30) (ix5 b q 1 0 u))) + @HMul.hMul EReal EReal EReal instHMul (@HMul.hMul EReal EReal EReal instHMul (W (Proc.devRef .tc main_v6_0) (ix4 b q 2 h)) (W (Proc.devRef .tc main_arg1) (ix3 b q 2))) (V1 W (Proc.devRef .tc main_v30) (ix5 b q 2 0 u))) + @HMul.hMul EReal EReal EReal instHMul (@HMul.hMul EReal EReal EReal instHMul (W (Proc.devRef .tc main_v6_0) (ix4 b q 3 h)) (W (Proc.devRef .tc main_arg1) (ix3 b q 3))) (V1 W (Proc.devRef .tc main_v30) (ix5 b q 3 0 u))) + @HMul.hMul EReal EReal EReal instHMul (@HMul.hMul EReal EReal EReal instHMul (W (Proc.devRef .tc main_v6_0) (ix4 b q 4 h)) (W (Proc.devRef .tc main_arg1) (ix3 b q 4))) (V1 W (Proc.devRef .tc main_v30) (ix5 b q 4 0 u))) + @HMul.hMul EReal EReal EReal instHMul (@HMul.hMul EReal EReal EReal instHMul (W (Proc.devRef .tc main_v6_0) (ix4 b q 5 h)) (W (Proc.devRef .tc main_arg1) (ix3 b q 5))) (V1 W (Proc.devRef .tc main_v30) (ix5 b q 5 0 u))) + @HMul.hMul EReal EReal EReal instHMul (@HMul.hMul EReal EReal EReal instHMul (W (Proc.devRef .tc main_v6_0) (ix4 b q 6 h)) (W (Proc.devRef .tc main_arg1) (ix3 b q 6))) (V1 W (Proc.devRef .tc main_v30) (ix5 b q 6 0 u))) + @HMul.hMul EReal EReal EReal instHMul (@HMul.hMul EReal EReal EReal instHMul (W (Proc.devRef .tc main_v6_0) (ix4 b q 7 h)) (W (Proc.devRef .tc main_arg1) (ix3 b q 7))) (V1 W (Proc.devRef .tc main_v30) (ix5 b q 7 0 u))) (@HMul.hMul EReal EReal EReal instHMul (W (Proc.devRef .tc main_v6_2) (ix4 b u 0 h)) (W (Proc.devRef .tc main_arg5) (ix3 b u 0)))
      + @HMul.hMul EReal EReal EReal instHMul ((((((((@HMul.hMul EReal EReal EReal instHMul (@HMul.hMul EReal EReal EReal instHMul (W (Proc.devRef .tc main_v6_0) (ix4 b q 0 h)) (W (Proc.devRef .tc main_arg1) (ix3 b q 0))) (V1 W (Proc.devRef .tc main_v30) (ix5 b q 0 1 u))) + @HMul.hMul EReal EReal EReal instHMul (@HMul.hMul EReal EReal EReal instHMul (W (Proc.devRef .tc main_v6_0) (ix4 b q 1 h)) (W (Proc.devRef .tc main_arg1) (ix3 b q 1))) (V1 W (Proc.devRef .tc main_v30) (ix5 b q 1 1 u))) + @HMul.hMul EReal EReal EReal instHMul (@HMul.hMul EReal EReal EReal instHMul (W (Proc.devRef .tc main_v6_0) (ix4 b q 2 h)) (W (Proc.devRef .tc main_arg1) (ix3 b q 2))) (V1 W (Proc.devRef .tc main_v30) (ix5 b q 2 1 u))) + @HMul.hMul EReal EReal EReal instHMul (@HMul.hMul EReal EReal EReal instHMul (W (Proc.devRef .tc main_v6_0) (ix4 b q 3 h)) (W (Proc.devRef .tc main_arg1) (ix3 b q 3))) (V1 W (Proc.devRef .tc main_v30) (ix5 b q 3 1 u))) + @HMul.hMul EReal EReal EReal instHMul (@HMul.hMul EReal EReal EReal instHMul (W (Proc.devRef .tc main_v6_0) (ix4 b q 4 h)) (W (Proc.devRef .tc main_arg1) (ix3 b q 4))) (V1 W (Proc.devRef .tc main_v30) (ix5 b q 4 1 u))) + @HMul.hMul EReal EReal EReal instHMul (@HMul.hMul EReal EReal EReal instHMul (W (Proc.devRef .tc main_v6_0) (ix4 b q 5 h)) (W (Proc.devRef .tc main_arg1) (ix3 b q 5))) (V1 W (Proc.devRef .tc main_v30) (ix5 b q 5 1 u))) + @HMul.hMul EReal EReal EReal instHMul (@HMul.hMul EReal EReal EReal instHMul (W (Proc.devRef .tc main_v6_0) (ix4 b q 6 h)) (W (Proc.devRef .tc main_arg1) (ix3 b q 6))) (V1 W (Proc.devRef .tc main_v30) (ix5 b q 6 1 u))) + @HMul.hMul EReal EReal EReal instHMul (@HMul.hMul EReal EReal EReal instHMul (W (Proc.devRef .tc main_v6_0) (ix4 b q 7 h)) (W (Proc.devRef .tc main_arg1) (ix3 b q 7))) (V1 W (Proc.devRef .tc main_v30) (ix5 b q 7 1 u))) (@HMul.hMul EReal EReal EReal instHMul (W (Proc.devRef .tc main_v6_2) (ix4 b u 1 h)) (W (Proc.devRef .tc main_arg5) (ix3 b u 1)))) (Ideal.sqrt (Ideal.ofBits .f32 0x43000000#32))) (Ideal.ofBits .f32 0x3D800000#32) := by
  after_reads_simp
  generalize mulf (F := Ideal) (Host.dotGeneral _ _ _ _) _ = Fv
  pointwise

set_option maxHeartbeats 4000000 in
theorem rd216 (b : Fin 7) (h : Fin 12) (q : Fin 2048) : ((V3 W (Proc.devRef .tc main_v216) (ix3 b h q)) : EReal)
    = Finset.fold max (Ideal.ofBits .f32 4286578688#32) (fun x : Fin 2048 => W (Proc.devRef .tc main_v215) (ix4 b h q x)) Finset.univ := by
  after_reads_simp
  pointwise

set_option maxHeartbeats 4000000 in
theorem rd220 (b : Fin 7) (h : Fin 12) (q u : Fin 2048) : (V3 W (Proc.devRef .tc main_v220) (ix4 b h q u) : EReal)
    = Ideal.exp (@HSub.hSub EReal EReal EReal instHSub (W (Proc.devRef .tc main_v215) (ix4 b h q u)) (V3 W (Proc.devRef .tc main_v216) (ix3 b h q))) := by
  after_reads_simp
  generalize Host.reduce _ _ _ _ _ = M
  pointwise

set_option maxHeartbeats 4000000 in
theorem rd224 (b : Fin 7) (h : Fin 12) (q u : Fin 2048) : (V3 W (Proc.devRef .tc main_v224) (ix4 b h q u) : EReal)
    = Ideal.div (V3 W (Proc.devRef .tc main_v220) (ix4 b h q u)) (∑ u : Fin 2048, (V3 W (Proc.devRef .tc main_v220) (ix4 b h q u) : EReal)) := by
  after_reads_simp
  generalize Host.exp (F := Ideal) (subf _ _) = E
  pointwise
set_option maxHeartbeats 4000000 in
theorem rd237' (b : Fin 7) (q : Fin 2048) (e : Fin 1536) : (V3 W (Proc.devRef .tc main_v237) (ix3 b q e) : EReal)
    = ∑ j : Fin 2, ∑ u : Fin 2048, @HMul.hMul EReal EReal EReal instHMul (@HMul.hMul EReal EReal EReal instHMul (V3 W (Proc.devRef .tc main_v224) (ix4 b ⟨e.val / 128, by omega⟩ q u)) (W (Proc.devRef .tc main_v19) (ix4 b ⟨e.val / 128, by omega⟩ j u))) (W (Proc.devRef .tc main_v21) (ix4 b j u ⟨e.val % 128, by omega⟩)) := by
  after_reads_simp
  generalize Host.divf (F := Ideal) _ _ = Z
  pointwise
theorem rd237 (b : Fin 7) (q : Fin 2048) (e : Fin 1536) (h : Fin 12) (d : Fin 128) (he : e.val = 128 * h.val + d.val) : (V3 W (Proc.devRef .tc main_v237) (ix3 b q e) : EReal)
    = ∑ j : Fin 2, ∑ u : Fin 2048, @HMul.hMul EReal EReal EReal instHMul (@HMul.hMul EReal EReal EReal instHMul (V3 W (Proc.devRef .tc main_v224) (ix4 b h q u)) (W (Proc.devRef .tc main_v19) (ix4 b h j u))) (W (Proc.devRef .tc main_v21) (ix4 b j u d)) := by
  have h1 : (⟨e.val / 128, by omega⟩ : Fin 12) = h := Fin.ext (by show e.val / 128 = h.val; omega)
  have h2 : (⟨e.val % 128, by omega⟩ : Fin 128) = d := Fin.ext (by show e.val % 128 = d.val; omega)
  rw [rd237', h1, h2]

set_option maxHeartbeats 4000000 in
theorem rd217 (b : Fin 7) (h : Fin 12) (q : Fin 2048) : (V3 W (Proc.devRef .tc main_v217) (ix4 b h q 0) : EReal)
    = V3 W (Proc.devRef .tc main_v216) (ix3 b h q) := by
  after_reads_simp
  generalize Host.reduce _ _ _ _ _ = M
  pointwise

set_option maxHeartbeats 4000000 in
theorem rd222 (b : Fin 7) (h : Fin 12) (q : Fin 2048) : (V3 W (Proc.devRef .tc main_v222) (ix4 b h q 0) : EReal)
    = @Finset.sum (Fin 2048) EReal _ Finset.univ (fun u => V3 W (Proc.devRef .tc main_v220) (ix4 b h q u)) := by
  after_reads_simp
  generalize Host.exp (F := Ideal) (subf _ _) = E
  pointwise

theorem addLog_apply {s : Shape} (A B : FVec Ideal s .f32) (i : s.Idx) : (addf A (Host.log B) i : EReal) = @HAdd.hAdd EReal EReal EReal instHAdd (A i) (Ideal.log (B i)) := rfl
set_option maxHeartbeats 4000000 in
theorem rd226 (i : S7x12x2048x1.Idx) : (V3 W (Proc.devRef .tc main_v226) i : EReal)
    = @HAdd.hAdd EReal EReal EReal instHAdd (V3 W (Proc.devRef .tc main_v217) i) (Ideal.log (V3 W (Proc.devRef .tc main_v222) i)) := by
  have e : V3 W (Proc.devRef .tc main_v226) = addf (F := Ideal) (φ := .f32) (V3 W (Proc.devRef .tc main_v217)) (Host.log (F := Ideal) (φ := .f32) (V3 W (Proc.devRef .tc main_v222))) := by
    after_reads_simp
  generalize V3 W (Proc.devRef .tc main_v226) = C at e ⊢
  generalize V3 W (Proc.devRef .tc main_v222) = B at e ⊢
  generalize V3 W (Proc.devRef .tc main_v217) = A at e ⊢
  subst e
  exact addLog_apply _ _ i

set_option maxHeartbeats 4000000 in
theorem rd227' (b : Fin 7) (h : Fin 12) (q : Fin 2048) : (V3 W (Proc.devRef .tc main_v227) (ix3 b h q) : EReal)
    = V3 W (Proc.devRef .tc main_v226) (ix4 b h q 0) := by
  after_reads_simp
  generalize addf (F := Ideal) _ _ = Z
  pointwise

end Cert.ReferenceIdeal.Val
-- ==== Proof.RefVal.lean ====
module

public import proofs.«01_k».proof.Proof.RefRead
public import proofs.«01_k».proof.Proof.Spec
public import Idealize.ShloMosaic.Lib.WordCmp

@[expose] public section

set_option maxRecDepth 65536

open Idealize.ShloMosaic Cert.ReferenceIdeal Cert.ReferenceIdeal.Gen
open Cert.KernelIdeal.Val (Nums mskE topR expR wR scR zR ipR scaleR coe_sum sup_mskE)

noncomputable section

namespace Cert.ReferenceIdeal.Val

/-! ## The reference's values as real numbers -/

/-- The arrays the reference's lines start from hold the given numbers. -/
structure Holds (W : Valuation τ sig (Elt Ideal)) (n : Nums) : Prop where
  aq : ∀ (b : Fin 7) (q : Fin 2048) (r : Fin 8) (h : Fin 12), (W (Proc.devRef .tc main_v6_0) (ix4 b q r h) : EReal) = ((n.aq b q r h : ℝ) : EReal)
  aqs : ∀ (b : Fin 7) (q : Fin 2048) (r : Fin 8), (W (Proc.devRef .tc main_arg1) (ix3 b q r) : EReal) = ((n.aqs b q r : ℝ) : EReal)
  bq : ∀ (b : Fin 7) (q : Fin 2048) (r : Fin 8) (d : Fin 128), (W (Proc.devRef .tc main_v6_1) (ix4 b q r d) : EReal) = ((n.bq b q r d : ℝ) : EReal)
  bqs : ∀ (b : Fin 7) (q : Fin 2048) (r : Fin 8), (W (Proc.devRef .tc main_arg3) (ix3 b q r) : EReal) = ((n.bqs b q r : ℝ) : EReal)
  ak : ∀ (b : Fin 7) (q : Fin 2048) (r : Fin 2) (h : Fin 12), (W (Proc.devRef .tc main_v6_2) (ix4 b q r h) : EReal) = ((n.ak b q r h : ℝ) : EReal)
  aks : ∀ (b : Fin 7) (q : Fin 2048) (r : Fin 2), (W (Proc.devRef .tc main_arg5) (ix3 b q r) : EReal) = ((n.aks b q r : ℝ) : EReal)
  bk : ∀ (b : Fin 7) (q : Fin 2048) (r : Fin 2) (d : Fin 128), (W (Proc.devRef .tc main_v6_3) (ix4 b q r d) : EReal) = ((n.bk b q r d : ℝ) : EReal)
  bks : ∀ (b : Fin 7) (q : Fin 2048) (r : Fin 2), (W (Proc.devRef .tc main_arg7) (ix3 b q r) : EReal) = ((n.bks b q r : ℝ) : EReal)
  av : ∀ (b : Fin 7) (q : Fin 2048) (r : Fin 2) (h : Fin 12), (W (Proc.devRef .tc main_v6_4) (ix4 b q r h) : EReal) = ((n.av b q r h : ℝ) : EReal)
  avs : ∀ (b : Fin 7) (q : Fin 2048) (r : Fin 2), (W (Proc.devRef .tc main_arg9) (ix3 b q r) : EReal) = ((n.avs b q r : ℝ) : EReal)
  bv : ∀ (b : Fin 7) (q : Fin 2048) (r : Fin 2) (d : Fin 128), (W (Proc.devRef .tc main_v6_5) (ix4 b q r d) : EReal) = ((n.bv b q r d : ℝ) : EReal)
  bvs : ∀ (b : Fin 7) (q : Fin 2048) (r : Fin 2), (W (Proc.devRef .tc main_arg11) (ix3 b q r) : EReal) = ((n.bvs b q r : ℝ) : EReal)

theorem ofBits_128 : Ideal.ofBits .f32 0x43000000#32 = ((128 : ℝ) : EReal) := by
  simp [Ideal.ofBits, Ideal.ieee, -EReal.coe_mul]; norm_num
theorem ofBits_16th : Ideal.ofBits .f32 0x3D800000#32 = ((1 / 16 : ℝ) : EReal) := by
  simp [Ideal.ofBits, Ideal.ieee, -EReal.coe_mul]; norm_num
theorem ofBits_half : Ideal.ofBits .f32 1056964608#32 = ((1 / 2 : ℝ) : EReal) := by
  simp [Ideal.ofBits, Ideal.ieee, -EReal.coe_mul]; norm_num
theorem ofBits_low : Ideal.ofBits .f32 4286578688#32 = ⊥ := by
  simp [Ideal.ofBits, Ideal.ieee]

theorem sqrt128_pos : 0 < Real.sqrt 128 := Real.sqrt_pos.mpr (by norm_num)

/-- Division by the square root of the head's width. -/
theorem div_sqrt (x : ℝ) : Ideal.div (x : EReal) (Ideal.sqrt (Ideal.ofBits .f32 0x43000000#32)) = ((x * (1 / Real.sqrt 128) : ℝ) : EReal) := by
  rw [ofBits_128, Ideal.sqrt_coe, if_neg (by norm_num), Ideal.div_coe sqrt128_pos.ne', ← EReal.coe_mul]

theorem scale_log : scaleR * Real.log 2 = (Real.sqrt 128)⁻¹ * (1 / 16) := by
  unfold scaleR
  rw [mul_assoc, inv_mul_cancel₀ (Real.log_pos (by norm_num)).ne', mul_one]

/-- A score of the specification over the codes themselves. -/
theorem score_eq (n : Nums) (b h q u : ℕ) : n.score b h q u
    = (∑ r : Fin 8, n.aq b q r h * (n.aqs b q r * n.bqs b q r) * ∑ d : Fin 128, n.bq b q r d * n.bk b u 0 d) * (n.ak b u 0 h * (n.aks b u 0 * n.bks b u 0) * scaleR)
      + (∑ r : Fin 8, n.aq b q r h * (n.aqs b q r * n.bqs b q r) * ∑ d : Fin 128, n.bq b q r d * n.bk b u 1 d) * (n.ak b u 1 h * (n.aks b u 1 * n.bks b u 1) * scaleR) := by
  have h1 : ∀ r : Fin 8, (8 * q + r.val) / 8 = q := fun r => by omega
  have h2 : ∀ r : Fin 8, (8 * q + r.val) % 8 = r.val := fun r => by omega
  have h3 : ∀ (j : ℕ) (d : Fin 128), (128 * j + d.val) / 128 = j := fun j d => by omega
  have h4 : ∀ (j : ℕ) (d : Fin 128), (128 * j + d.val) % 128 = d.val := fun j d => by omega
  unfold Nums.score scR zR ipR Nums.q2 Nums.q3 Nums.k4 Nums.k5 Nums.b8 Nums.b9
  simp only [h1, h2, h3, h4]

/-- The scale of a key's factor leaves the sum over the query's factors. -/
theorem z_eq (a s t p : Fin 8 → ℝ) (k : ℝ) : (a 0 * s 0 * (p 0 * (t 0 * k)) + a 1 * s 1 * (p 1 * (t 1 * k)) + a 2 * s 2 * (p 2 * (t 2 * k)) + a 3 * s 3 * (p 3 * (t 3 * k))
      + a 4 * s 4 * (p 4 * (t 4 * k)) + a 5 * s 5 * (p 5 * (t 5 * k)) + a 6 * s 6 * (p 6 * (t 6 * k)) + a 7 * s 7 * (p 7 * (t 7 * k)))
    = (∑ r : Fin 8, a r * (s r * t r) * p r) * k := by
  rw [Fin.sum_univ_eight]; ring

section
variable {W : Valuation τ sig (Elt Ideal)} {n : Nums} (H : Holds W n)
include H

theorem v30 (b : Fin 7) (q : Fin 2048) (r : Fin 8) (j : Fin 2) (u : Fin 2048) : (V1 W (Proc.devRef .tc main_v30) (ix5 b q r j u) : EReal)
    = (((∑ d : Fin 128, n.bq b q r d * n.bk b u j d) * (n.bqs b q r * n.bks b u j) : ℝ) : EReal) := by
  rw [rd30]
  simp only [H.bq, H.bk, H.bqs, H.bks, ← EReal.coe_mul]
  rw [coe_sum, ← EReal.coe_mul]

theorem v208 (b : Fin 7) (h : Fin 12) (q u : Fin 2048) : (V1 W (Proc.devRef .tc main_v208) (ix4 b h q u) : EReal)
    = ((n.score b h q u * Real.log 2 : ℝ) : EReal) := by
  rw [rd208]
  simp only [H.aq, H.aqs, v30 H, H.ak, H.aks, ← EReal.coe_mul, ← EReal.coe_add]
  rw [div_sqrt, ofBits_16th, ← EReal.coe_mul]
  congr 1
  have hz := fun j : Fin 2 => z_eq (fun r => n.aq b q r h) (fun r => n.aqs b q r) (fun r => n.bqs b q r) (fun r => ∑ d : Fin 128, n.bq b q r d * n.bk b u j d) (n.bks b u j)
  rw [hz 0, hz 1, score_eq]
  simp only [Fin.val_zero, Fin.val_one]
  generalize (∑ r : Fin 8, n.aq b q r h * (n.aqs b q r * n.bqs b q r) * ∑ d : Fin 128, n.bq b q r d * n.bk b u 0 d) = A
  generalize (∑ r : Fin 8, n.aq b q r h * (n.aqs b q r * n.bqs b q r) * ∑ d : Fin 128, n.bq b q r d * n.bk b u 1 d) = B
  have e : ∀ k k' : ℝ, (A * (k * scaleR) + B * (k' * scaleR)) * Real.log 2 = (A * k + B * k') * (scaleR * Real.log 2) := fun k k' => by ring
  rw [e, scale_log]
  ring

/-- The masked scores. -/
theorem v215 (b : Fin 7) (h : Fin 12) (q u : Fin 2048) : (V2 (V1 W) (Proc.devRef .tc main_v215) (ix4 b h q u) : EReal)
    = mskE (fun h q u => n.score b h q u * Real.log 2) 0 h q u := by
  rw [rd215, rd214, rdc, v208 H]
  unfold Scalar.select mskE
  rw [Nat.zero_add]
  have hw := WordCmp.cmpi_sgt_ofNat_eq_one_iff (w := 32) (a := u.val) (b := q.val) (by omega) (by omega)
  by_cases hq : q.val < u.val
  · refine (if_pos (hw.2 hq)).trans (Eq.trans ?_ (if_pos hq).symm)
    exact ofBits_low
  · exact (if_neg (fun e => hq (hw.1 e))).trans (if_neg hq).symm
end

/-! ## The softmax -/

/-- A largest score, in the other base. -/
theorem topR_mul (S : ℕ → ℕ → ℕ → ℝ) (k : ℝ) (hk : 0 ≤ k) (b h q : ℕ) : topR (fun h q u => S h q u * k) b h q = topR S b h q * k := by
  unfold topR
  exact (Finset.comp_sup'_eq_sup'_comp _ (fun x => x * k) fun x y => max_mul_of_nonneg x y hk).symm

theorem fold_sup (G : ℕ → EReal) : Finset.fold max ⊥ (fun x : Fin 2048 => G x) Finset.univ = (Finset.range 2048).sup G := by
  refine eq_of_forall_ge_iff fun x => ?_
  show Finset.univ.sup (fun l : Fin 2048 => G l) ≤ x ↔ _
  rw [Finset.sup_le_iff, Finset.sup_le_iff]
  exact ⟨fun h u hu => h ⟨u, Finset.mem_range.mp hu⟩ (Finset.mem_univ _), fun h u _ => h u (Finset.mem_range.mpr u.isLt)⟩

/-- A masked exponential, from scores in the other base. -/
theorem exp_mskE (S : ℕ → ℕ → ℕ → ℝ) (b h q u : ℕ) :
    Ideal.exp (mskE (fun h q u => S h q u * Real.log 2) b h q u - ((topR S b h q * Real.log 2 : ℝ) : EReal)) = ((expR S b h q u : ℝ) : EReal) := by
  unfold mskE expR
  split
  next => rw [EReal.bot_sub, Ideal.exp_bot, EReal.coe_zero]
  next =>
    rw [← EReal.coe_sub, Ideal.exp_coe, ← sub_mul, mul_comm]
    exact congrArg _ (Real.rpow_def_of_pos (by norm_num) _).symm

theorem expR_nonneg (S : ℕ → ℕ → ℕ → ℝ) (b h q u : ℕ) : 0 ≤ expR S b h q u := by
  unfold expR
  split
  next => exact le_rfl
  next => exact Real.rpow_nonneg (by norm_num) _

theorem sum_expR_pos (S : ℕ → ℕ → ℕ → ℝ) (b h q : ℕ) : 0 < ∑ u ∈ Finset.range 2048, expR S b h q u := by
  refine Finset.sum_pos' (fun u _ => expR_nonneg S b h q u) ⟨0, Finset.mem_range.mpr (by norm_num), ?_⟩
  unfold expR
  rw [if_neg (Nat.not_lt_zero _)]
  exact Real.rpow_pos_of_pos (by norm_num) _

/-- The scores after the mask, as the last lines find them. -/
def Masked (W : Valuation τ sig (Elt Ideal)) (n : Nums) : Prop := ∀ (b : Fin 7) (h : Fin 12) (q u : Fin 2048),
  (W (Proc.devRef .tc main_v215) (ix4 b h q u) : EReal) = mskE (fun h q u => n.score b h q u * Real.log 2) 0 h q u

section
variable {W : Valuation τ sig (Elt Ideal)} {n : Nums} (H : Masked W n)
include H

theorem v216 (b : Fin 7) (h : Fin 12) (q : Fin 2048) : (V3 W (Proc.devRef .tc main_v216) (ix3 b h q) : EReal)
    = ((topR (n.score b) 0 h q * Real.log 2 : ℝ) : EReal) := by
  rw [rd216, ofBits_low]
  have e : (fun x : Fin 2048 => (W (Proc.devRef .tc main_v215) (ix4 b h q x) : EReal)) = fun x : Fin 2048 => mskE (fun h q u => n.score b h q u * Real.log 2) 0 h q x := funext fun x => H b h q x
  rw [e, fold_sup, sup_mskE _ 0 h q 2048 (by omega), topR_mul _ _ (Real.log_nonneg (by norm_num))]

theorem v220 (b : Fin 7) (h : Fin 12) (q u : Fin 2048) : (V3 W (Proc.devRef .tc main_v220) (ix4 b h q u) : EReal)
    = ((expR (n.score b) 0 h q u : ℝ) : EReal) := by
  rw [rd220, H b h q u, v216 H]
  exact exp_mskE (n.score b) 0 h q u

theorem sum220 (b : Fin 7) (h : Fin 12) (q : Fin 2048) : @Finset.sum (Fin 2048) EReal _ Finset.univ (fun u => V3 W (Proc.devRef .tc main_v220) (ix4 b h q u))
    = ((∑ u ∈ Finset.range 2048, expR (n.score b) 0 h q u : ℝ) : EReal) := by
  refine (Finset.sum_congr (M := EReal) rfl fun u _ => v220 H b h q u).trans ?_
  rw [coe_sum, Finset.sum_range]

/-- The reference's second result. -/
theorem v227 (b : Fin 7) (h : Fin 12) (q : Fin 2048) : (V3 W (Proc.devRef .tc main_v227) (ix3 b h q) : EReal) = n.lse b h q := by
  rw [rd227', rd226, rd217, rd222, v216 H, sum220 H]
  rfl

theorem v224 (b : Fin 7) (h : Fin 12) (q u : Fin 2048) : (V3 W (Proc.devRef .tc main_v224) (ix4 b h q u) : EReal)
    = ((expR (n.score b) 0 h q u * (1 / ∑ u ∈ Finset.range 2048, expR (n.score b) 0 h q u) : ℝ) : EReal) := by
  rw [rd224]
  refine (congrArg (Ideal.div _) (sum220 H b h q)).trans ?_
  rw [v220 H, Ideal.div_coe (sum_expR_pos _ _ _ _).ne', ← EReal.coe_mul]

/-- The reference's first result. -/
theorem v237 (hv : ∀ (b : Fin 7) (h : Fin 12) (j : Fin 2) (u : Fin 2048), (W (Proc.devRef .tc main_v19) (ix4 b h j u) : EReal) = ((n.av b u j h * n.avs b u j * n.bvs b u j * (1 / 2) : ℝ) : EReal))
    (hb : ∀ (b : Fin 7) (j : Fin 2) (u : Fin 2048) (d : Fin 128), (W (Proc.devRef .tc main_v21) (ix4 b j u d) : EReal) = ((n.bv b u j d : ℝ) : EReal))
    (b : Fin 7) (q : Fin 2048) (e : Fin 1536) : (V3 W (Proc.devRef .tc main_v237) (ix3 b q e) : EReal) = n.out b (e.val / 128) q (e.val % 128) := by
  rw [rd237 W b q e ⟨e.val / 128, by omega⟩ ⟨e.val % 128, by omega⟩ (by show e.val = 128 * (e.val / 128) + e.val % 128; omega)]
  simp only [v224 H, hv, hb, ← EReal.coe_mul]
  unfold Nums.out
  rw [Ideal.div_coe (sum_expR_pos _ _ _ _).ne', ← EReal.coe_mul]
  generalize (1 / ∑ u ∈ Finset.range 2048, expR (n.score b) 0 (e.val / 128) q u : ℝ) = L
  rw [Finset.sum_congr rfl fun j _ => coe_sum Finset.univ _, coe_sum]
  congr 1
  have h3 : ∀ j : ℕ, (128 * j + e.val % 128) / 128 = j := fun j => by omega
  have h4 : ∀ j : ℕ, (128 * j + e.val % 128) % 128 = e.val % 128 := fun j => by omega
  rw [Fin.sum_univ_two, ← Finset.sum_add_distrib, Finset.sum_range, Finset.sum_mul]
  refine Finset.sum_congr rfl fun u _ => ?_
  unfold wR Nums.v6 Nums.v7 Nums.b10
  simp only [h3, h4, Fin.val_zero, Fin.val_one]
  ring
end

end Cert.ReferenceIdeal.Val
-- ==== Proof.RefArr.lean ====
module

public import proofs.«01_k».proof.Proof.Gen.ReferenceIdeal.Frame
public import Idealize.ShloMosaic.Lib.Pointwise
public import Idealize.ShloMosaic.Lib.StableHlo.RunRead
public import Idealize.ShloMosaic.Lib.Pipeline.ValueKit

@[expose] public section

set_option maxRecDepth 65536

open Idealize.ShloMosaic Idealize.ShloMosaic.TcCoe Cert.ReferenceIdeal Cert.ReferenceIdeal.Gen
open Idealize.ShloMosaic.Pipeline

noncomputable section

namespace Cert.ReferenceIdeal.Val

variable (m : (ℓ : Loc nD τ sig) → Buf (Elt Ideal) ℓ) (c : Dev nD)

/-- The numbers an array of codes stands for. -/
abbrev codeArr {s : Shape} (x : s.Idx → BitVec 8) : s.Idx → EReal := fun y => Ideal.ofBits .fp8e4m3 (x y)

/-! ## What the widening call finds and stores -/

theorem V_v0 (y : S7x2048x8x12.Idx) : V m c main_v0 y = codeArr (m ((c.tc : Thread nD τ).loc main_arg0)) y := by
  show StableHlo.after (List.flatten [hostOps0]) (fun b => m (c, b)) (Proc.devRef .tc main_v0) y = _
  rw [List.flatten_cons, List.flatten_nil, List.append_nil]
  after_reads_simp
  rfl
theorem V_v1 (y : S7x2048x8x128.Idx) : V m c main_v1 y = codeArr (m ((c.tc : Thread nD τ).loc main_arg2)) y := by
  show StableHlo.after (List.flatten [hostOps0]) (fun b => m (c, b)) (Proc.devRef .tc main_v1) y = _
  rw [List.flatten_cons, List.flatten_nil, List.append_nil]
  after_reads_simp
  rfl
theorem V_v2 (y : S7x2048x2x12.Idx) : V m c main_v2 y = codeArr (m ((c.tc : Thread nD τ).loc main_arg4)) y := by
  show StableHlo.after (List.flatten [hostOps0]) (fun b => m (c, b)) (Proc.devRef .tc main_v2) y = _
  rw [List.flatten_cons, List.flatten_nil, List.append_nil]
  after_reads_simp
  rfl
theorem V_v3 (y : S7x2048x2x128.Idx) : V m c main_v3 y = codeArr (m ((c.tc : Thread nD τ).loc main_arg6)) y := by
  show StableHlo.after (List.flatten [hostOps0]) (fun b => m (c, b)) (Proc.devRef .tc main_v3) y = _
  rw [List.flatten_cons, List.flatten_nil, List.append_nil]
  after_reads_simp
  rfl
theorem V_v4 (y : S7x2048x2x12.Idx) : V m c main_v4 y = codeArr (m ((c.tc : Thread nD τ).loc main_arg8)) y := by
  show StableHlo.after (List.flatten [hostOps0]) (fun b => m (c, b)) (Proc.devRef .tc main_v4) y = _
  rw [List.flatten_cons, List.flatten_nil, List.append_nil]
  after_reads_simp
  rfl
theorem V_v5 (y : S7x2048x2x128.Idx) : V m c main_v5 y = codeArr (m ((c.tc : Thread nD τ).loc main_arg10)) y := by
  show StableHlo.after (List.flatten [hostOps0]) (fun b => m (c, b)) (Proc.devRef .tc main_v5) y = _
  rw [List.flatten_cons, List.flatten_nil, List.append_nil]
  after_reads_simp
  rfl

theorem pay2_apply (x : Vec Ideal S7x2048x8x12 .fp8e4m3) (y : S7x2048x8x12.Idx) : (k0_pay2 x y : EReal) = x y := by
  unfold k0_pay2
  pointwise
theorem pay3_apply (x : Vec Ideal S7x2048x8x128 .fp8e4m3) (y : S7x2048x8x128.Idx) : (k0_pay3 x y : EReal) = x y := by
  unfold k0_pay3
  pointwise
theorem pay4_apply (x : Vec Ideal S7x2048x2x12 .fp8e4m3) (y : S7x2048x2x12.Idx) : (k0_pay4 x y : EReal) = x y := by
  unfold k0_pay4
  pointwise
theorem pay5_apply (x : Vec Ideal S7x2048x2x128 .fp8e4m3) (y : S7x2048x2x128.Idx) : (k0_pay5 x y : EReal) = x y := by
  unfold k0_pay5
  pointwise
theorem pay6_apply (x : Vec Ideal S7x2048x2x12 .fp8e4m3) (y : S7x2048x2x12.Idx) : (k0_pay6 x y : EReal) = x y := by
  unfold k0_pay6
  pointwise
theorem pay1_apply (x : Vec Ideal S7x2048x2x128 .fp8e4m3) (y : S7x2048x2x128.Idx) : (k0_pay1 x y : EReal) = x y := by
  unfold k0_pay1
  pointwise

/-- Every block is its whole array. -/
theorem idxs : ∀ t : Fin cfg0.N, (win0_0.index t = ![0, 0, 0, 0] ∧ win0_1.index t = ![0, 0, 0, 0] ∧ win0_2.index t = ![0, 0, 0, 0] ∧ win0_3.index t = ![0, 0, 0, 0] ∧ win0_4.index t = ![0, 0, 0, 0] ∧ win0_5.index t = ![0, 0, 0, 0])
    ∧ win0_6.index t = ![0, 0, 0, 0] ∧ win0_7.index t = ![0, 0, 0, 0] ∧ win0_8.index t = ![0, 0, 0, 0] ∧ win0_9.index t = ![0, 0, 0, 0] ∧ win0_10.index t = ![0, 0, 0, 0] ∧ win0_11.index t = ![0, 0, 0, 0] :=
  (by decide +kernel : ∀ t : Fin grid0.N, _)

theorem arr6 : (dats m 0 c).arrAt 6 (cfgs 0).N = codeArr (m ((c.tc : Thread nD τ).loc main_arg0)) := by
  refine (dats m 0 c).arrAt_eq_of_covers 6 _ (by decide +kernel) fun t hf y => ?_
  blk_simp
  rw [after0_6]
  frame_out
  refine (pay2_apply _ _).trans (Eq.trans ?_ (V_v0 m c _))
  obtain ⟨⟨e0, -⟩, e1, -⟩ := idxs t
  blk_ext [iblk, e0, e1]
theorem arr7 : (dats m 0 c).arrAt 7 (cfgs 0).N = codeArr (m ((c.tc : Thread nD τ).loc main_arg2)) := by
  refine (dats m 0 c).arrAt_eq_of_covers 7 _ (by decide +kernel) fun t hf y => ?_
  blk_simp
  rw [after0_7]
  frame_out
  refine (pay3_apply _ _).trans (Eq.trans ?_ (V_v1 m c _))
  obtain ⟨⟨-, e0, -⟩, -, e1, -⟩ := idxs t
  blk_ext [iblk, e0, e1]
theorem arr8 : (dats m 0 c).arrAt 8 (cfgs 0).N = codeArr (m ((c.tc : Thread nD τ).loc main_arg4)) := by
  refine (dats m 0 c).arrAt_eq_of_covers 8 _ (by decide +kernel) fun t hf y => ?_
  blk_simp
  rw [after0_8]
  frame_out
  refine (pay4_apply _ _).trans (Eq.trans ?_ (V_v2 m c _))
  obtain ⟨⟨-, -, e0, -⟩, -, -, e1, -⟩ := idxs t
  blk_ext [iblk, e0, e1]
theorem arr9 : (dats m 0 c).arrAt 9 (cfgs 0).N = codeArr (m ((c.tc : Thread nD τ).loc main_arg6)) := by
  refine (dats m 0 c).arrAt_eq_of_covers 9 _ (by decide +kernel) fun t hf y => ?_
  blk_simp
  rw [after0_9]
  frame_out
  refine (pay5_apply _ _).trans (Eq.trans ?_ (V_v3 m c _))
  obtain ⟨⟨-, -, -, e0, -⟩, -, -, -, e1, -⟩ := idxs t
  blk_ext [iblk, e0, e1]
theorem arr10 : (dats m 0 c).arrAt 10 (cfgs 0).N = codeArr (m ((c.tc : Thread nD τ).loc main_arg8)) := by
  refine (dats m 0 c).arrAt_eq_of_covers 10 _ (by decide +kernel) fun t hf y => ?_
  blk_simp
  rw [after0_10]
  frame_out
  refine (pay6_apply _ _).trans (Eq.trans ?_ (V_v4 m c _))
  obtain ⟨⟨-, -, -, -, e0, -⟩, -, -, -, -, e1, -⟩ := idxs t
  blk_ext [iblk, e0, e1]
theorem arr11 : (dats m 0 c).arrAt 11 (cfgs 0).N = codeArr (m ((c.tc : Thread nD τ).loc main_arg10)) := by
  refine (dats m 0 c).arrAt_eq_of_covers 11 _ (by decide +kernel) fun t hf y => ?_
  blk_simp
  rw [after0_11]
  frame_out
  refine (pay1_apply _ _).trans (Eq.trans ?_ (V_v5 m c _))
  obtain ⟨⟨-, -, -, -, -, e0⟩, -, -, -, -, -, e1⟩ := idxs t
  blk_ext [iblk, e0, e1]

end Cert.ReferenceIdeal.Val
-- ==== Proof.RefRun.lean ====
module

public import proofs.«01_k».proof.Proof.V9
public import proofs.«01_k».proof.Proof.RefVal
public import proofs.«01_k».proof.Proof.RefArr

@[expose] public section

set_option maxRecDepth 65536

open Idealize.ShloMosaic Idealize.ShloMosaic.TcCoe Cert.ReferenceIdeal Cert.ReferenceIdeal.Gen
open Idealize.SL Idealize.SL.Sem
open Cert.KernelIdeal.Val (Nums code4 scale3 code4_eq scale3_eq RealCodes RealScales res9 res10)

noncomputable section

namespace Cert.ReferenceIdeal.Val

variable (m : (ℓ : Loc nD τ sig) → Buf (Elt Ideal) ℓ) (ρ : Dev nD → PrngReg) (c : Dev nD)

/-- The memory after the widening call, where the reference's lines start. -/
abbrev W0 : Valuation τ sig (Elt Ideal) := Pipeline.withArrays (cfgs 0).spec c (V0 m c) fun w => (dats m 0 c).arrAt w (cfgs 0).N

/-- The arguments are the given arrays. -/
structure Given (x0 : S7x2048x8x12.Idx → BitVec 8) (x1 : S7x2048x8.Idx → EReal) (x2 : S7x2048x8x128.Idx → BitVec 8) (x3 : S7x2048x8.Idx → EReal) (x4 : S7x2048x2x12.Idx → BitVec 8) (x5 : S7x2048x2.Idx → EReal) (x6 : S7x2048x2x128.Idx → BitVec 8) (x7 : S7x2048x2.Idx → EReal) (x8 : S7x2048x2x12.Idx → BitVec 8) (x9 : S7x2048x2.Idx → EReal) (x10 : S7x2048x2x128.Idx → BitVec 8) (x11 : S7x2048x2.Idx → EReal) : Prop where
  e0 : m ((c.tc : Thread nD τ).loc main_arg0) = x0
  r0 : RealCodes (s := S7x2048x8x12) x0
  e1 : m ((c.tc : Thread nD τ).loc main_arg1) = x1
  r1 : RealScales (s := S7x2048x8) x1
  e2 : m ((c.tc : Thread nD τ).loc main_arg2) = x2
  r2 : RealCodes (s := S7x2048x8x128) x2
  e3 : m ((c.tc : Thread nD τ).loc main_arg3) = x3
  r3 : RealScales (s := S7x2048x8) x3
  e4 : m ((c.tc : Thread nD τ).loc main_arg4) = x4
  r4 : RealCodes (s := S7x2048x2x12) x4
  e5 : m ((c.tc : Thread nD τ).loc main_arg5) = x5
  r5 : RealScales (s := S7x2048x2) x5
  e6 : m ((c.tc : Thread nD τ).loc main_arg6) = x6
  r6 : RealCodes (s := S7x2048x2x128) x6
  e7 : m ((c.tc : Thread nD τ).loc main_arg7) = x7
  r7 : RealScales (s := S7x2048x2) x7
  e8 : m ((c.tc : Thread nD τ).loc main_arg8) = x8
  r8 : RealCodes (s := S7x2048x2x12) x8
  e9 : m ((c.tc : Thread nD τ).loc main_arg9) = x9
  r9 : RealScales (s := S7x2048x2) x9
  e10 : m ((c.tc : Thread nD τ).loc main_arg10) = x10
  r10 : RealCodes (s := S7x2048x2x128) x10
  e11 : m ((c.tc : Thread nD τ).loc main_arg11) = x11
  r11 : RealScales (s := S7x2048x2) x11

section
variable {m c}
variable {x0 : S7x2048x8x12.Idx → BitVec 8}
variable {x1 : S7x2048x8.Idx → EReal}
variable {x2 : S7x2048x8x128.Idx → BitVec 8}
variable {x3 : S7x2048x8.Idx → EReal}
variable {x4 : S7x2048x2x12.Idx → BitVec 8}
variable {x5 : S7x2048x2.Idx → EReal}
variable {x6 : S7x2048x2x128.Idx → BitVec 8}
variable {x7 : S7x2048x2.Idx → EReal}
variable {x8 : S7x2048x2x12.Idx → BitVec 8}
variable {x9 : S7x2048x2.Idx → EReal}
variable {x10 : S7x2048x2x128.Idx → BitVec 8}
variable {x11 : S7x2048x2.Idx → EReal}

/-- The lines after the call start from the numbers behind the arguments. -/
theorem holds (g : Given m c x0 x1 x2 x3 x4 x5 x6 x7 x8 x9 x10 x11) :
    Holds (W0 m c) ⟨code4 x0, scale3 x1, code4 x2, scale3 x3, code4 x4, scale3 x5, code4 x6, scale3 x7, code4 x8, scale3 x9, code4 x10, scale3 x11⟩ where
  aq i j k l := by
    rw [show W0 m c (Proc.devRef .tc main_v6_0) = _ from (Pipeline.withArrays_arr spec0 winFacts0.arr_inj c (V0 m c) (fun w => (dats m 0 c).arrAt w (cfgs 0).N) 6).trans (arr6 m c), g.e0]
    exact code4_eq g.r0 i j k l
  aqs i j k := by
    rw [show W0 m c (Proc.devRef .tc main_arg1) = _ from (Pipeline.withArrays_of_ne spec0 c (V0 m c) _ main_arg1 (by exact (by decide : ∀ w, Pipeline.arrRef spec0 w ≠ main_arg1))).trans (V_main_arg1 m c), g.e1]
    exact scale3_eq g.r1 i j k
  bq i j k l := by
    rw [show W0 m c (Proc.devRef .tc main_v6_1) = _ from (Pipeline.withArrays_arr spec0 winFacts0.arr_inj c (V0 m c) (fun w => (dats m 0 c).arrAt w (cfgs 0).N) 7).trans (arr7 m c), g.e2]
    exact code4_eq g.r2 i j k l
  bqs i j k := by
    rw [show W0 m c (Proc.devRef .tc main_arg3) = _ from (Pipeline.withArrays_of_ne spec0 c (V0 m c) _ main_arg3 (by exact (by decide : ∀ w, Pipeline.arrRef spec0 w ≠ main_arg3))).trans (V_main_arg3 m c), g.e3]
    exact scale3_eq g.r3 i j k
  ak i j k l := by
    rw [show W0 m c (Proc.devRef .tc main_v6_2) = _ from (Pipeline.withArrays_arr spec0 winFacts0.arr_inj c (V0 m c) (fun w => (dats m 0 c).arrAt w (cfgs 0).N) 8).trans (arr8 m c), g.e4]
    exact code4_eq g.r4 i j k l
  aks i j k := by
    rw [show W0 m c (Proc.devRef .tc main_arg5) = _ from (Pipeline.withArrays_of_ne spec0 c (V0 m c) _ main_arg5 (by exact (by decide : ∀ w, Pipeline.arrRef spec0 w ≠ main_arg5))).trans (V_main_arg5 m c), g.e5]
    exact scale3_eq g.r5 i j k
  bk i j k l := by
    rw [show W0 m c (Proc.devRef .tc main_v6_3) = _ from (Pipeline.withArrays_arr spec0 winFacts0.arr_inj c (V0 m c) (fun w => (dats m 0 c).arrAt w (cfgs 0).N) 9).trans (arr9 m c), g.e6]
    exact code4_eq g.r6 i j k l
  bks i j k := by
    rw [show W0 m c (Proc.devRef .tc main_arg7) = _ from (Pipeline.withArrays_of_ne spec0 c (V0 m c) _ main_arg7 (by exact (by decide : ∀ w, Pipeline.arrRef spec0 w ≠ main_arg7))).trans (V_main_arg7 m c), g.e7]
    exact scale3_eq g.r7 i j k
  av i j k l := by
    rw [show W0 m c (Proc.devRef .tc main_v6_4) = _ from (Pipeline.withArrays_arr spec0 winFacts0.arr_inj c (V0 m c) (fun w => (dats m 0 c).arrAt w (cfgs 0).N) 10).trans (arr10 m c), g.e8]
    exact code4_eq g.r8 i j k l
  avs i j k := by
    rw [show W0 m c (Proc.devRef .tc main_arg9) = _ from (Pipeline.withArrays_of_ne spec0 c (V0 m c) _ main_arg9 (by exact (by decide : ∀ w, Pipeline.arrRef spec0 w ≠ main_arg9))).trans (V_main_arg9 m c), g.e9]
    exact scale3_eq g.r9 i j k
  bv i j k l := by
    rw [show W0 m c (Proc.devRef .tc main_v6_5) = _ from (Pipeline.withArrays_arr spec0 winFacts0.arr_inj c (V0 m c) (fun w => (dats m 0 c).arrAt w (cfgs 0).N) 11).trans (arr11 m c), g.e10]
    exact code4_eq g.r10 i j k l
  bvs i j k := by
    rw [show W0 m c (Proc.devRef .tc main_arg11) = _ from (Pipeline.withArrays_of_ne spec0 c (V0 m c) _ main_arg11 (by exact (by decide : ∀ w, Pipeline.arrRef spec0 w ≠ main_arg11))).trans (V_main_arg11 m c), g.e11]
    exact scale3_eq g.r11 i j k
end

variable {m c} {n : Nums} (H : Holds (W0 m c) n)
include H

theorem masked : Masked (V2 (V1 (W0 m c))) n := fun b h q u => v215 H b h q u

/-- The reference's second result, after all its lines. -/
theorem tail227 : Pipeline.afterTail₀ cfgs (dats m) 0 (V0 m) [hostOps1, hostOps1_1, hostOps1_2] c main_v227 = res10 n := by
  unfold Pipeline.afterTail₀
  rw [List.flatten_cons, List.flatten_cons, List.flatten_cons, List.flatten_nil, List.append_nil, StableHlo.after_append, StableHlo.after_append]
  funext y
  rw [eq_ix3 y]
  exact v227 (masked H) (y 0) (y 1) (y 2)

/-- The reference's first result, after all its lines. -/
theorem tail237 : Pipeline.afterTail₀ cfgs (dats m) 0 (V0 m) [hostOps1, hostOps1_1, hostOps1_2] c main_v237 = res9 n := by
  unfold Pipeline.afterTail₀
  rw [List.flatten_cons, List.flatten_cons, List.flatten_cons, List.flatten_nil, List.append_nil, StableHlo.after_append, StableHlo.after_append]
  funext y
  rw [eq_ix3 y]
  refine v237 (masked H) (fun b h j u => ?_) (fun b j u d => ?_) (y 0) (y 1) (y 2)
  · rw [show V2 (V1 (W0 m c)) (Proc.devRef .tc main_v19) = V1 (W0 m c) (Proc.devRef .tc main_v19) from
      StableHlo.after_of_writes_sub (r := main_v19) hostOps1_1 _ hostOps1_1_writes (by decide +kernel), rd19, ofBits_half]
    simp only [H.av, H.avs, H.bvs, ← EReal.coe_mul]
  · rw [show V2 (V1 (W0 m c)) (Proc.devRef .tc main_v21) = V1 (W0 m c) (Proc.devRef .tc main_v21) from
      StableHlo.after_of_writes_sub (r := main_v21) hostOps1_1 _ hostOps1_1_writes (by decide +kernel), rd21]
    exact H.bv b u j d
omit H

/-- The reference's run: both results, and the arguments as launched. -/
theorem run_results (n : Dev nD → Nums) (hn : ∀ c, Holds (W0 m c) (n c)) : θ_run (defs (F := Ideal)) (onTc (τ := τ) (main (F := Ideal))) ⟨m, fun _ => 0, ρ⟩ (fun r => ∀ c : Dev nD,
      r.2.mem ((c.tc : Thread nD τ).loc main_v237) = res9 (n c)
      ∧ r.2.mem ((c.tc : Thread nD τ).loc main_v227) = res10 (n c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_v237 (Pipeline.mem_restRefs_of main_v237 (by decide) (by decide))).trans (tail237 (hn c)),
      ((h c).2 main_v227 (Pipeline.mem_restRefs_of main_v227 (by decide) (by decide))).trans (tail227 (hn c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩) (run_main m ρ)

end Cert.ReferenceIdeal.Val
-- ==== Proof.lean ====
module

public import proofs.«01_k».proof.Defs
public import proofs.«01_k».proof.Proof.KFrame
public import proofs.«01_k».proof.Proof.IFrame
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_finite
public import proofs.«01_k».proof.Proof.V9
public import proofs.«01_k».proof.Proof.PreReal
public import proofs.«01_k».proof.Proof.RefRun
public import Idealize.ShloMosaic.Adequacy
public import Idealize.ShloMosaic.Init

@[expose] public section

noncomputable section

namespace Cert.Proof

open Idealize.ShloMosaic Idealize.SL.Sem

/-- The two named constants are the values the table gives them. -/
theorem preserves : Cert.preserves_Kernel_KernelIdeal :=
  ⟨IdealRules.named_const.statement Cert.KernelIdeal.κ "score_scale" .f32 0x3C0293EE#32 ((((Real.sqrt 128)⁻¹ * (1 / 16)) * (Real.log 2)⁻¹ : ℝ) : EReal) rfl,
    IdealRules.named_const.statement Cert.KernelIdeal.κ "ln2" .f32 0x3F317218#32 ((Real.log 2 : ℝ) : EReal) rfl⟩

/-- From memories with equal arguments that hold numbers, both programs end with equal results. -/
theorem algebraic : Cert.algebraic_KernelIdeal_ReferenceIdeal_pre_finite := fun m g m' g' hp ha =>
  ⟨fun c => Cert.KernelIdeal.Val.res9 (Cert.KernelIdeal.Val.nums m c), fun c => Cert.KernelIdeal.Val.res10 (Cert.KernelIdeal.Val.nums m c),
    Cert.KernelIdeal.Val.run_results m g fun c => Cert.KernelIdeal.Val.allReal m c (hp c),
    Cert.ReferenceIdeal.Val.run_results (m := m') g' (fun c => Cert.KernelIdeal.Val.nums m c) fun c => by
      obtain ⟨a0, a1, a2, a3, a4, a5, a6, a7, a8, a9, a10, a11⟩ := ha c
      have r := Cert.KernelIdeal.Val.allReal m c (hp c)
      exact Cert.ReferenceIdeal.Val.holds ⟨a0, r.r0, a1, r.r1, a2, r.r2, a3, r.r3, a4, r.r4, a5, r.r5, a6, r.r6, a7, r.r7, a8, r.r8, a9, r.r9, a10, r.r10, a11, r.r11⟩⟩

theorem claim : Cert.Claim :=
  ⟨Cert.Kernel.Gen.facts, Cert.KernelIdeal.Gen.facts, Cert.ReferenceIdeal.Gen.facts, Cert.Pre_finite.Gen.facts,
    fun m ρ _ => Cert.Kernel.Run.frame m ρ, fun m ρ _ => Cert.KernelIdeal.Run.frame m ρ, fun m ρ _ => Cert.KernelIdeal.Run.frame m ρ,
    fun m ρ _ => Cert.ReferenceIdeal.Gen.frame m ρ, fun m ρ _ => Cert.ReferenceIdeal.Gen.frame m ρ, preserves, algebraic⟩

end Cert.Proof

end
